-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_decay [hPre_finite_decay : Cert.Pre_finite_decay.Facts] (m : (ℓ : Loc Cert.KernelIdeal.nD Cert.KernelIdeal.τ Cert.KernelIdeal.sig) → Buf (Elt Ideal) ℓ) : Prop :=
  ∀ c : Dev Cert.KernelIdeal.nD,
    (Cert.Pre_finite_decay.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_decay [hPre_finite_decay : Cert.Pre_finite_decay.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_decay.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_decay [hKernelIdeal : Cert.KernelIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_decay m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_decay [hReferenceIdeal : Cert.ReferenceIdeal.Facts] [hPre_finite_decay : Cert.Pre_finite_decay.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_decay m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15))
      ∧ r.2.sem = fun _ => 0)

def preserves_Kernel_KernelIdeal : Prop :=
  True

def algebraic_KernelIdeal_ReferenceIdeal_on_value_columns_pre_finite_decay [hKernelIdeal : Cert.KernelIdeal.Facts] [hReferenceIdeal : Cert.ReferenceIdeal.Facts] [hPre_finite_decay : Cert.Pre_finite_decay.Facts] [hOn_value_columns : Cert.On_value_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_decay m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v85_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8256, 3072]⟩ : Shape).Idx, (Cert.On_value_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v85_0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8256, 3072]⟩ : Shape).Idx, (Cert.On_value_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v125) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v2)) (v2 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v2) = v1 c
          ∧ r.2.mem ((c.tc : Thread Cert.Kernel2Ideal.nD Cert.Kernel2Ideal.τ).loc Cert.Kernel2Ideal.main_v4) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_v7) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1)) (v2 : (c : Dev Cert.Kernel5Ideal.nD) → Buf (Elt Ideal) ((c.tc : Thread Cert.Kernel5Ideal.nD Cert.Kernel5Ideal.τ).loc Cert.Kernel5Ideal.main_v2)) (v3 : (c : Dev Cert.Kernel5Ideal.nD) → Buf (Elt Ideal) ((c.tc : Thread Cert.Kernel5Ideal.nD Cert.Kernel5Ideal.τ).loc Cert.Kernel5Ideal.main_v3)) (v4 : (c : Dev Cert.Kernel5Ideal.nD) → Buf (Elt Ideal) ((c.tc : Thread Cert.Kernel5Ideal.nD Cert.Kernel5Ideal.τ).loc Cert.Kernel5Ideal.main_v4)) (v5 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1) = v1 c
          ∧ r.2.mem ((c.tc : Thread Cert.Kernel5Ideal.nD Cert.Kernel5Ideal.τ).loc Cert.Kernel5Ideal.main_v2) = v2 c
          ∧ r.2.mem ((c.tc : Thread Cert.Kernel5Ideal.nD Cert.Kernel5Ideal.τ).loc Cert.Kernel5Ideal.main_v3) = v3 c
          ∧ r.2.mem ((c.tc : Thread Cert.Kernel5Ideal.nD Cert.Kernel5Ideal.τ).loc Cert.Kernel5Ideal.main_v4) = v4 c
          ∧ r.2.mem ((c.tc : Thread Cert.Kernel5Ideal.nD Cert.Kernel5Ideal.τ).loc Cert.Kernel5Ideal.main_v5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v15) = v2 c
          ∧ r.2.mem ((c.tc : Thread Cert.Reference5Ideal.nD Cert.Reference5Ideal.τ).loc Cert.Reference5Ideal.main_v16) = v3 c
          ∧ r.2.mem ((c.tc : Thread Cert.Reference5Ideal.nD Cert.Reference5Ideal.τ).loc Cert.Reference5Ideal.main_v17) = v4 c
          ∧ r.2.mem ((c.tc : Thread Cert.Reference5Ideal.nD Cert.Reference5Ideal.τ).loc Cert.Reference5Ideal.main_v13) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v1_0)) (v5 : (c : Dev Cert.Kernel6Ideal.nD) → Buf (Elt Ideal) ((c.tc : Thread Cert.Kernel6Ideal.nD Cert.Kernel6Ideal.τ).loc Cert.Kernel6Ideal.main_v1_1)) (v6 : (c : Dev Cert.Kernel6Ideal.nD) → Buf (Elt Ideal) ((c.tc : Thread Cert.Kernel6Ideal.nD Cert.Kernel6Ideal.τ).loc Cert.Kernel6Ideal.main_v1_2)) (v7 : (c : Dev Cert.Kernel6Ideal.nD) → Buf (Elt Ideal) ((c.tc : Thread Cert.Kernel6Ideal.nD Cert.Kernel6Ideal.τ).loc Cert.Kernel6Ideal.main_v1_3)) (v8 : (c : Dev Cert.Kernel6Ideal.nD) → Buf (Elt Ideal) ((c.tc : Thread Cert.Kernel6Ideal.nD Cert.Kernel6Ideal.τ).loc Cert.Kernel6Ideal.main_v2_0)) (v9 : (c : Dev Cert.Kernel6Ideal.nD) → Buf (Elt Ideal) ((c.tc : Thread Cert.Kernel6Ideal.nD Cert.Kernel6Ideal.τ).loc Cert.Kernel6Ideal.main_v2_1)) (v10 : (c : Dev Cert.Kernel6Ideal.nD) → Buf (Elt Ideal) ((c.tc : Thread Cert.Kernel6Ideal.nD Cert.Kernel6Ideal.τ).loc Cert.Kernel6Ideal.main_v2_2)) (v11 : (c : Dev Cert.Kernel6Ideal.nD) → Buf (Elt Ideal) ((c.tc : Thread Cert.Kernel6Ideal.nD Cert.Kernel6Ideal.τ).loc Cert.Kernel6Ideal.main_v2_3)) (v12 : (c : Dev Cert.Kernel6Ideal.nD) → Buf (Elt Ideal) ((c.tc : Thread Cert.Kernel6Ideal.nD Cert.Kernel6Ideal.τ).loc Cert.Kernel6Ideal.main_v3_0)) (v13 : (c : Dev Cert.Kernel6Ideal.nD) → Buf (Elt Ideal) ((c.tc : Thread Cert.Kernel6Ideal.nD Cert.Kernel6Ideal.τ).loc Cert.Kernel6Ideal.main_v3_1)) (v14 : (c : Dev Cert.Kernel6Ideal.nD) → Buf (Elt Ideal) ((c.tc : Thread Cert.Kernel6Ideal.nD Cert.Kernel6Ideal.τ).loc Cert.Kernel6Ideal.main_v3_2)) (v15 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v1_0) = v4 c
          ∧ r.2.mem ((c.tc : Thread Cert.Kernel6Ideal.nD Cert.Kernel6Ideal.τ).loc Cert.Kernel6Ideal.main_v1_1) = v5 c
          ∧ r.2.mem ((c.tc : Thread Cert.Kernel6Ideal.nD Cert.Kernel6Ideal.τ).loc Cert.Kernel6Ideal.main_v1_2) = v6 c
          ∧ r.2.mem ((c.tc : Thread Cert.Kernel6Ideal.nD Cert.Kernel6Ideal.τ).loc Cert.Kernel6Ideal.main_v1_3) = v7 c
          ∧ r.2.mem ((c.tc : Thread Cert.Kernel6Ideal.nD Cert.Kernel6Ideal.τ).loc Cert.Kernel6Ideal.main_v2_0) = v8 c
          ∧ r.2.mem ((c.tc : Thread Cert.Kernel6Ideal.nD Cert.Kernel6Ideal.τ).loc Cert.Kernel6Ideal.main_v2_1) = v9 c
          ∧ r.2.mem ((c.tc : Thread Cert.Kernel6Ideal.nD Cert.Kernel6Ideal.τ).loc Cert.Kernel6Ideal.main_v2_2) = v10 c
          ∧ r.2.mem ((c.tc : Thread Cert.Kernel6Ideal.nD Cert.Kernel6Ideal.τ).loc Cert.Kernel6Ideal.main_v2_3) = v11 c
          ∧ r.2.mem ((c.tc : Thread Cert.Kernel6Ideal.nD Cert.Kernel6Ideal.τ).loc Cert.Kernel6Ideal.main_v3_0) = v12 c
          ∧ r.2.mem ((c.tc : Thread Cert.Kernel6Ideal.nD Cert.Kernel6Ideal.τ).loc Cert.Kernel6Ideal.main_v3_1) = v13 c
          ∧ r.2.mem ((c.tc : Thread Cert.Kernel6Ideal.nD Cert.Kernel6Ideal.τ).loc Cert.Kernel6Ideal.main_v3_2) = v14 c
          ∧ r.2.mem ((c.tc : Thread Cert.Kernel6Ideal.nD Cert.Kernel6Ideal.τ).loc Cert.Kernel6Ideal.main_v3_3) = v15 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_arg0) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_v13) = v3 c
          ∧ r.2.mem ((c.tc : Thread Cert.Reference6Ideal.nD Cert.Reference6Ideal.τ).loc Cert.Reference6Ideal.main_arg4) = v4 c
          ∧ r.2.mem ((c.tc : Thread Cert.Reference6Ideal.nD Cert.Reference6Ideal.τ).loc Cert.Reference6Ideal.main_v50) = v5 c
          ∧ r.2.mem ((c.tc : Thread Cert.Reference6Ideal.nD Cert.Reference6Ideal.τ).loc Cert.Reference6Ideal.main_v31) = v6 c
          ∧ r.2.mem ((c.tc : Thread Cert.Reference6Ideal.nD Cert.Reference6Ideal.τ).loc Cert.Reference6Ideal.main_v37) = v7 c
          ∧ r.2.mem ((c.tc : Thread Cert.Reference6Ideal.nD Cert.Reference6Ideal.τ).loc Cert.Reference6Ideal.main_arg8) = v8 c
          ∧ r.2.mem ((c.tc : Thread Cert.Reference6Ideal.nD Cert.Reference6Ideal.τ).loc Cert.Reference6Ideal.main_v74) = v9 c
          ∧ r.2.mem ((c.tc : Thread Cert.Reference6Ideal.nD Cert.Reference6Ideal.τ).loc Cert.Reference6Ideal.main_v55) = v10 c
          ∧ r.2.mem ((c.tc : Thread Cert.Reference6Ideal.nD Cert.Reference6Ideal.τ).loc Cert.Reference6Ideal.main_v61) = v11 c
          ∧ r.2.mem ((c.tc : Thread Cert.Reference6Ideal.nD Cert.Reference6Ideal.τ).loc Cert.Reference6Ideal.main_v2) = v12 c
          ∧ r.2.mem ((c.tc : Thread Cert.Reference6Ideal.nD Cert.Reference6Ideal.τ).loc Cert.Reference6Ideal.main_v98) = v13 c
          ∧ r.2.mem ((c.tc : Thread Cert.Reference6Ideal.nD Cert.Reference6Ideal.τ).loc Cert.Reference6Ideal.main_v79) = v14 c
          ∧ r.2.mem ((c.tc : Thread Cert.Reference6Ideal.nD Cert.Reference6Ideal.τ).loc Cert.Reference6Ideal.main_v85) = v15 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_decay : Cert.Pre_finite_decay.Facts) (hPre_finite_ffn : Cert.Pre_finite_ffn.Facts) (hOn_value_columns : Cert.On_value_columns.Facts),
    quiescent_Kernel (hKernel := hKernel)
    ∧ quiescent_KernelIdeal (hKernelIdeal := hKernelIdeal)
    ∧ quiescent_KernelIdeal_pre_finite_decay (hKernelIdeal := hKernelIdeal) (hPre_finite_decay := hPre_finite_decay)
    ∧ quiescent_ReferenceIdeal (hReferenceIdeal := hReferenceIdeal)
    ∧ quiescent_ReferenceIdeal_pre_finite_decay (hReferenceIdeal := hReferenceIdeal) (hPre_finite_decay := hPre_finite_decay)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_on_value_columns_pre_finite_decay (hKernelIdeal := hKernelIdeal) (hReferenceIdeal := hReferenceIdeal) (hPre_finite_decay := hPre_finite_decay) (hOn_value_columns := hOn_value_columns)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== On_value_columns.lean ====
abbrev S8256x3072 : Shape := ⟨2, ![8256, 3072]⟩
abbrev S8256x128 : Shape := ⟨2, ![8256, 128]⟩
abbrev S129x8x128x128 : Shape := ⟨4, ![129, 8, 128, 128]⟩
abbrev S8256x1024 : Shape := ⟨2, ![8256, 1024]⟩
abbrev S_ : Shape := ⟨0, ![]⟩

class Facts : Prop where
  bcast_S_S8256x3072 : S_.BroadcastsInDim S8256x3072 (![] : Fin 0 → Fin S8256x3072.rank)

variable [Facts]

def fn {F : FTy → Type} [FloatOps F] (main_arg0 : FVec F S8256x3072 .f32) (main_arg1 : FVec F S8256x128 .f32) (main_arg2 : FVec F S129x8x128x128 .f32) (main_arg3 : FVec F S8256x1024 .f32) : IVec S8256x3072 1 :=
  let main_v0 : IVec S8256x3072 32 := iotaInDim S8256x3072 32 1
  let main_c : IVec S_ 32 := constantI S_ 32 2048#32
  let main_v1 : IVec S8256x3072 32 := broadcastInDim S8256x3072 ![] bcast_S_S8256x3072 main_c
  let main_v2 : IVec S8256x3072 1 := cmpi .sge main_v0 main_v1
  main_v2
-- ==== Pre_finite_decay.lean ====
abbrev S8256x3072 : Shape := ⟨2, ![8256, 3072]⟩
abbrev S8256x128 : Shape := ⟨2, ![8256, 128]⟩
abbrev S129x8x128x128 : Shape := ⟨4, ![129, 8, 128, 128]⟩
abbrev S8256x1024 : Shape := ⟨2, ![8256, 1024]⟩
abbrev S8256x8 : Shape := ⟨2, ![8256, 8]⟩
abbrev S_ : Shape := ⟨0, ![]⟩

class Facts : Prop where
  slices_S8256x128_S8256x8_0_0 : S8256x128.Slices ![0, 0] S8256x8
  bcast_S_S8256x8 : S_.BroadcastsInDim S8256x8 (![] : Fin 0 → Fin S8256x8.rank)
  reducesTo_S8256x8_S_d0_1 : S8256x8.ReducesTo [0, 1] S_
  h_S_ : 0 < S_.numel

variable [Facts]

def fn {F : FTy → Type} [FloatOps F] (main_arg0 : FVec F S8256x3072 .f32) (main_arg1 : FVec F S8256x128 .f32) (main_arg2 : FVec F S129x8x128x128 .f32) (main_arg3 : FVec F S8256x1024 .f32) : IVec S_ 1 :=
  let main_v0 : FVec F S8256x8 .f32 := (extractStridedSlice S8256x8 ![0, 0] · slices_S8256x128_S8256x8_0_0) main_arg1
  let main_cst : FVec F S_ .f32 := constant S_ .f32 0x7F800000#32
  let main_v1 : FVec F S8256x8 .f32 := broadcastInDim S8256x8 ![] bcast_S_S8256x8 main_cst
  let main_v2 : IVec S8256x8 1 := cmpf .olt main_v0 main_v1
  let main_c : IVec S_ 1 := constantI S_ 1 1#1
  let main_v3 : IVec S_ 1 := (fun x v => Host.reduce IntOp.andi x v reducesTo_S8256x8_S_d0_1 h_S_) main_v2 main_c
  main_v3
-- ==== Pre_finite_ffn.lean ====
abbrev S8256x2048 : Shape := ⟨2, ![8256, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S8256x2048 : S_.BroadcastsInDim S8256x2048 (![] : Fin 0 → Fin S8256x2048.rank)
  reducesTo_S8256x2048_S_d0_1 : S8256x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v4 : IVec S_ 1) (main_v9 : IVec S_ 1) (main_v14 : IVec S_ 1) (main_v16 : FVec F S8256x2048 .f32) (main_cst_4 : FVec F S_ .f32) : IVec S_ 1 :=
  let main_v17 : FVec F S8256x2048 .f32 := broadcastInDim S8256x2048 ![] bcast_S_S8256x2048 main_cst_4
  let main_v18 : IVec S8256x2048 1 := cmpf .olt main_v16 main_v17
  let main_c_5 : IVec S_ 1 := constantI S_ 1 1#1
  let main_v19 : IVec S_ 1 := (fun x v => Host.reduce IntOp.andi x v reducesTo_S8256x2048_S_d0_1 h_S_) main_v18 main_c_5
  let main_v20 : IVec S_ 1 := andi main_v4 main_v9
  let main_v21 : IVec S_ 1 := andi main_v20 main_v14
  let main_v22 : IVec S_ 1 := andi main_v21 main_v19
  main_v22

def fn {F : FTy → Type} [FloatOps F] (main_arg0 : FVec F S8256x2048 .bf16) (main_arg1 : FVec F S2048x5632 .bf16) (main_arg2 : FVec F S2048x5632 .bf16) (main_arg3 : FVec F S5632x2048 .bf16) (main_arg4 : FVec F S8256x2048 .bf16) : IVec S_ 1 :=
  let main_v0 : FVec F S8256x2048 .f32 := (extf .f32 · bitsLt_bf16_f32) main_arg0
  let main_v1 : FVec F S8256x2048 .f32 := Host.absf main_v0
  let main_cst : FVec F S_ .f32 := constant S_ .f32 0x7F800000#32
  let main_v2 : FVec F S8256x2048 .f32 := broadcastInDim S8256x2048 ![] bcast_S_S8256x2048 main_cst
  let main_v3 : IVec S8256x2048 1 := cmpf .olt main_v1 main_v2
  let main_c : IVec S_ 1 := constantI S_ 1 1#1
  let main_v4 : IVec S_ 1 := (fun x v => Host.reduce IntOp.andi x v reducesTo_S8256x2048_S_d0_1 h_S_) main_v3 main_c
  let main_v5 : FVec F S2048x5632 .f32 := (extf .f32 · bitsLt_bf16_f32) main_arg2
  let main_v6 : FVec F S2048x5632 .f32 := Host.absf main_v5
  let main_cst_0 : FVec F S_ .f32 := constant S_ .f32 0x7F800000#32
  let main_v7 : FVec F S2048x5632 .f32 := broadcastInDim S2048x5632 ![] bcast_S_S2048x5632 main_cst_0
  let main_v8 : IVec S2048x5632 1 := cmpf .olt main_v6 main_v7
  let main_c_1 : IVec S_ 1 := constantI S_ 1 1#1
  let main_v9 : IVec S_ 1 := (fun x v => Host.reduce IntOp.andi x v reducesTo_S2048x5632_S_d0_1 h_S_) main_v8 main_c_1
  let main_v10 : FVec F S5632x2048 .f32 := (extf .f32 · bitsLt_bf16_f32) main_arg3
  let main_v11 : FVec F S5632x2048 .f32 := Host.absf main_v10
  let main_cst_2 : FVec F S_ .f32 := constant S_ .f32 0x7F800000#32
  let main_v12 : FVec F S5632x2048 .f32 := broadcastInDim S5632x2048 ![] bcast_S_S5632x2048 main_cst_2
  let main_v13 : IVec S5632x2048 1 := cmpf .olt main_v11 main_v12
  let main_c_3 : IVec S_ 1 := constantI S_ 1 1#1
  let main_v14 : IVec S_ 1 := (fun x v => Host.reduce IntOp.andi x v reducesTo_S5632x2048_S_d0_1 h_S_) main_v13 main_c_3
  let main_v15 : FVec F S8256x2048 .f32 := (extf .f32 · bitsLt_bf16_f32) main_arg4
  let main_v16 : FVec F S8256x2048 .f32 := Host.absf main_v15
  let main_cst_4 : FVec F S_ .f32 := constant S_ .f32 0x7F800000#32
  fn_part1 (F := F) main_v4 main_v9 main_v14 main_v16 main_cst_4
-- ==== Kernel.lean ====
abbrev S8256x3072 : Shape := ⟨2, ![8256, 3072]⟩
abbrev S8256x128 : Shape := ⟨2, ![8256, 128]⟩
abbrev S129x8x128x128 : Shape := ⟨4, ![129, 8, 128, 128]⟩
abbrev S8256x1024 : Shape := ⟨2, ![8256, 1024]⟩
abbrev S129x64x8x128 : Shape := ⟨4, ![129, 64, 8, 128]⟩
abbrev S8x129x64x128 : Shape := ⟨4, ![8, 129, 64, 128]⟩
abbrev S_ : Shape := ⟨0, ![]⟩
abbrev S8x129x64 : Shape := ⟨3, ![8, 129, 64]⟩
abbrev S8x129x64x1 : Shape := ⟨4, ![8, 129, 64, 1]⟩
abbrev S8256x8 : Shape := ⟨2, ![8256, 8]⟩
abbrev S129x64x8x1 : Shape := ⟨4, ![129, 64, 8, 1]⟩
abbrev S64x64 : Shape := ⟨2, ![64, 64]⟩
abbrev S8x129x1x64 : Shape := ⟨4, ![8, 129, 1, 64]⟩
abbrev S8x129x64x64 : Shape := ⟨4, ![8, 129, 64, 64]⟩
abbrev S1x1x64x64 : Shape := ⟨4, ![1, 1, 64, 64]⟩
abbrev S129x8x64x64 : Shape := ⟨4, ![129, 8, 64, 64]⟩
abbrev S64x3072 : Shape := ⟨2, ![64, 3072]⟩
abbrev S64x128 : Shape := ⟨2, ![64, 128]⟩
abbrev S1x8x128x128 : Shape := ⟨4, ![1, 8, 128, 128]⟩
abbrev S1x8x64x64 : Shape := ⟨4, ![1, 8, 64, 64]⟩
abbrev S64x1024 : Shape := ⟨2, ![64, 1024]⟩
abbrev S8x128x128 : Shape := ⟨3, ![8, 128, 128]⟩
abbrev S1x1x128x128 : Shape := ⟨4, ![1, 1, 128, 128]⟩
abbrev S128x128 : Shape := ⟨2, ![128, 128]⟩
abbrev S64x1 : Shape := ⟨2, ![64, 1]⟩
abbrev S64 : Shape := ⟨1, ![64]⟩
abbrev S1x1 : Shape := ⟨2, ![1, 1]⟩
abbrev S1x128x128 : Shape := ⟨3, ![1, 128, 128]⟩
abbrev S128x64 : Shape := ⟨2, ![128, 64]⟩
abbrev S1 : Shape := ⟨1, ![1]⟩
abbrev S1x1x1 : Shape := ⟨3, ![1, 1, 1]⟩
abbrev S63x1 : Shape := ⟨2, ![63, 1]⟩
abbrev S64x63 : Shape := ⟨2, ![64, 63]⟩

abbrev nBuf : Space → Nat
  | .hbm => 125
  | .vmem => 15
  | .smem => 0
  | _ => 0

abbrev bufTy : (tb : Table) → Fin (tcTables nBuf tb) → BufTy
  | .hbm, ⟨0, _⟩ => ⟨S8256x3072, .f32⟩
  | .hbm, ⟨1, _⟩ => ⟨S8256x128, .f32⟩
  | .hbm, ⟨2, _⟩ => ⟨S129x8x128x128, .f32⟩
  | .hbm, ⟨3, _⟩ => ⟨S8256x1024, .f32⟩
  | .hbm, ⟨4, _⟩ => ⟨S8256x1024, .f32⟩
  | .hbm, ⟨5, _⟩ => ⟨S129x64x8x128, .f32⟩
  | .hbm, ⟨6, _⟩ => ⟨S8x129x64x128, .f32⟩
  | .hbm, ⟨7, _⟩ => ⟨S8x129x64x128, .f32⟩
  | .hbm, ⟨8, _⟩ => ⟨S_, .f32⟩
  | .hbm, ⟨9, _⟩ => ⟨S8x129x64, .f32⟩
  | .hbm, ⟨10, _⟩ => ⟨S8x129x64x1, .f32⟩
  | .hbm, ⟨11, _⟩ => ⟨S_, .f32⟩
  | .hbm, ⟨12, _⟩ => ⟨S8x129x64x1, .f32⟩
  | .hbm, ⟨13, _⟩ => ⟨S8x129x64x1, .f32⟩
  | .hbm, ⟨14, _⟩ => ⟨S8x129x64x1, .f32⟩
  | .hbm, ⟨15, _⟩ => ⟨S8x129x64x128, .f32⟩
  | .hbm, ⟨16, _⟩ => ⟨S8x129x64x128, .f32⟩
  | .hbm, ⟨17, _⟩ => ⟨S_, .f32⟩
  | .hbm, ⟨18, _⟩ => ⟨S8x129x64x128, .f32⟩
  | .hbm, ⟨19, _⟩ => ⟨S8x129x64x128, .f32⟩
  | .hbm, ⟨20, _⟩ => ⟨S8256x1024, .f32⟩
  | .hbm, ⟨21, _⟩ => ⟨S129x64x8x128, .f32⟩
  | .hbm, ⟨22, _⟩ => ⟨S8x129x64x128, .f32⟩
  | .hbm, ⟨23, _⟩ => ⟨S8x129x64x128, .f32⟩
  | .hbm, ⟨24, _⟩ => ⟨S_, .f32⟩
  | .hbm, ⟨25, _⟩ => ⟨S8x129x64, .f32⟩
  | .hbm, ⟨26, _⟩ => ⟨S8x129x64x1, .f32⟩
  | .hbm, ⟨27, _⟩ => ⟨S_, .f32⟩
  | .hbm, ⟨28, _⟩ => ⟨S8x129x64x1, .f32⟩
  | .hbm, ⟨29, _⟩ => ⟨S8x129x64x1, .f32⟩
  | .hbm, ⟨30, _⟩ => ⟨S8x129x64x1, .f32⟩
  | .hbm, ⟨31, _⟩ => ⟨S8x129x64x128, .f32⟩
  | .hbm, ⟨32, _⟩ => ⟨S8x129x64x128, .f32⟩
  | .hbm, ⟨33, _⟩ => ⟨S8256x8, .f32⟩
  | .hbm, ⟨34, _⟩ => ⟨S129x64x8x1, .f32⟩
  | .hbm, ⟨35, _⟩ => ⟨S8x129x64x1, .f32⟩
  | .hbm, ⟨36, _⟩ => ⟨S8x129x64, .f32⟩
  | .hbm, ⟨37, _⟩ => ⟨S8256x8, .f32⟩
  | .hbm, ⟨38, _⟩ => ⟨S129x64x8x1, .f32⟩
  | .hbm, ⟨39, _⟩ => ⟨S8x129x64x1, .f32⟩
  | .hbm, ⟨40, _⟩ => ⟨S8x129x64, .f32⟩
  | .hbm, ⟨41, _⟩ => ⟨S_, .f32⟩
  | .hbm, ⟨42, _⟩ => ⟨S_, .f32⟩
  | .hbm, ⟨43, _⟩ => ⟨S8x129x64, .f32⟩
  | .hbm, ⟨44, _⟩ => ⟨S_, .i1⟩
  | .hbm, ⟨45, _⟩ => ⟨S64x64, .i1⟩
  | .hbm, ⟨46, _⟩ => ⟨S64x64, .i32⟩
  | .hbm, ⟨47, _⟩ => ⟨S_, .i32⟩
  | .hbm, ⟨48, _⟩ => ⟨S64x64, .i32⟩
  | .hbm, ⟨49, _⟩ => ⟨S64x64, .i32⟩
  | .hbm, ⟨50, _⟩ => ⟨S64x64, .i32⟩
  | .hbm, ⟨51, _⟩ => ⟨S64x64, .i1⟩
  | .hbm, ⟨52, _⟩ => ⟨S_, .i1⟩
  | .hbm, ⟨53, _⟩ => ⟨S64x64, .i1⟩
  | .hbm, ⟨54, _⟩ => ⟨S64x64, .i1⟩
  | .hbm, ⟨55, _⟩ => ⟨S_, .i1⟩
  | .hbm, ⟨56, _⟩ => ⟨S64x64, .i1⟩
  | .hbm, ⟨57, _⟩ => ⟨S64x64, .i32⟩
  | .hbm, ⟨58, _⟩ => ⟨S_, .i32⟩
  | .hbm, ⟨59, _⟩ => ⟨S64x64, .i32⟩
  | .hbm, ⟨60, _⟩ => ⟨S64x64, .i32⟩
  | .hbm, ⟨61, _⟩ => ⟨S64x64, .i32⟩
  | .hbm, ⟨62, _⟩ => ⟨S64x64, .i1⟩
  | .hbm, ⟨63, _⟩ => ⟨S_, .i1⟩
  | .hbm, ⟨64, _⟩ => ⟨S64x64, .i1⟩
  | .hbm, ⟨65, _⟩ => ⟨S64x64, .i1⟩
  | .hbm, ⟨66, _⟩ => ⟨S8x129x64x1, .f32⟩
  | .hbm, ⟨67, _⟩ => ⟨S8x129x1x64, .f32⟩
  | .hbm, ⟨68, _⟩ => ⟨S8x129x64x64, .f32⟩
  | .hbm, ⟨69, _⟩ => ⟨S8x129x64x64, .f32⟩
  | .hbm, ⟨70, _⟩ => ⟨S8x129x64x64, .f32⟩
  | .hbm, ⟨71, _⟩ => ⟨S_, .f32⟩
  | .hbm, ⟨72, _⟩ => ⟨S_, .f32⟩
  | .hbm, ⟨73, _⟩ => ⟨S8x129x64x64, .i1⟩
  | .hbm, ⟨74, _⟩ => ⟨S8x129x64x64, .f32⟩
  | .hbm, ⟨75, _⟩ => ⟨S8x129x64x64, .f32⟩
  | .hbm, ⟨76, _⟩ => ⟨S8x129x64x64, .f32⟩
  | .hbm, ⟨77, _⟩ => ⟨S8x129x64x1, .f32⟩
  | .hbm, ⟨78, _⟩ => ⟨S8x129x64x128, .f32⟩
  | .hbm, ⟨79, _⟩ => ⟨S8x129x64x128, .f32⟩
  | .hbm, ⟨80, _⟩ => ⟨S8x129x64x64, .f32⟩
  | .hbm, ⟨81, _⟩ => ⟨S8x129x64x64, .f32⟩
  | .hbm, ⟨82, _⟩ => ⟨S_, .f32⟩
  | .hbm, ⟨83, _⟩ => ⟨S_, .f32⟩
  | .hbm, ⟨84, _⟩ => ⟨S8x129x64x64, .i1⟩
  | .hbm, ⟨85, _⟩ => ⟨S8x129x64x64, .f32⟩
  | .hbm, ⟨86, _⟩ => ⟨S8x129x64x64, .f32⟩
  | .hbm, ⟨87, _⟩ => ⟨S64x64, .i32⟩
  | .hbm, ⟨88, _⟩ => ⟨S64x64, .i32⟩
  | .hbm, ⟨89, _⟩ => ⟨S_, .i32⟩
  | .hbm, ⟨90, _⟩ => ⟨S64x64, .i32⟩
  | .hbm, ⟨91, _⟩ => ⟨S64x64, .i32⟩
  | .hbm, ⟨92, _⟩ => ⟨S64x64, .i1⟩
  | .hbm, ⟨93, _⟩ => ⟨S64x64, .f32⟩
  | .hbm, ⟨94, _⟩ => ⟨S1x1x64x64, .f32⟩
  | .hbm, ⟨95, _⟩ => ⟨S8x129x64x64, .f32⟩
  | .hbm, ⟨96, _⟩ => ⟨S8x129x64x64, .f32⟩
  | .hbm, ⟨97, _⟩ => ⟨S8x129x64x64, .f32⟩
  | .hbm, ⟨98, _⟩ => ⟨S1x1x64x64, .f32⟩
  | .hbm, ⟨99, _⟩ => ⟨S8x129x64x64, .f32⟩
  | .hbm, ⟨100, _⟩ => ⟨S8x129x64x64, .f32⟩
  | .hbm, ⟨101, _⟩ => ⟨S8x129x64x64, .f32⟩
  | .hbm, ⟨102, _⟩ => ⟨S8x129x64x64, .f32⟩
  | .hbm, ⟨103, _⟩ => ⟨S1x1x64x64, .f32⟩
  | .hbm, ⟨104, _⟩ => ⟨S8x129x64x64, .f32⟩
  | .hbm, ⟨105, _⟩ => ⟨S8x129x64x64, .f32⟩
  | .hbm, ⟨106, _⟩ => ⟨S8x129x64x64, .f32⟩
  | .hbm, ⟨107, _⟩ => ⟨S8x129x64x64, .f32⟩
  | .hbm, ⟨108, _⟩ => ⟨S1x1x64x64, .f32⟩
  | .hbm, ⟨109, _⟩ => ⟨S8x129x64x64, .f32⟩
  | .hbm, ⟨110, _⟩ => ⟨S8x129x64x64, .f32⟩
  | .hbm, ⟨111, _⟩ => ⟨S8x129x64x64, .f32⟩
  | .hbm, ⟨112, _⟩ => ⟨S8x129x64x64, .f32⟩
  | .hbm, ⟨113, _⟩ => ⟨S1x1x64x64, .f32⟩
  | .hbm, ⟨114, _⟩ => ⟨S8x129x64x64, .f32⟩
  | .hbm, ⟨115, _⟩ => ⟨S8x129x64x64, .f32⟩
  | .hbm, ⟨116, _⟩ => ⟨S8x129x64x64, .f32⟩
  | .hbm, ⟨117, _⟩ => ⟨S8x129x64x64, .f32⟩
  | .hbm, ⟨118, _⟩ => ⟨S1x1x64x64, .f32⟩
  | .hbm, ⟨119, _⟩ => ⟨S8x129x64x64, .f32⟩
  | .hbm, ⟨120, _⟩ => ⟨S8x129x64x64, .f32⟩
  | .hbm, ⟨121, _⟩ => ⟨S8x129x64x64, .f32⟩
  | .hbm, ⟨122, _⟩ => ⟨S129x8x64x64, .f32⟩
  | .hbm, ⟨123, _⟩ => ⟨S8256x3072, .f32⟩
  | .hbm, ⟨124, _⟩ => ⟨S8256x128, .f32⟩
  | .local _ .vmem, ⟨0, _⟩ => ⟨S64x3072, .f32⟩
  | .local _ .vmem, ⟨1, _⟩ => ⟨S64x3072, .f32⟩
  | .local _ .vmem, ⟨2, _⟩ => ⟨S64x128, .f32⟩
  | .local _ .vmem, ⟨3, _⟩ => ⟨S64x128, .f32⟩
  | .local _ .vmem, ⟨4, _⟩ => ⟨S1x8x128x128, .f32⟩
  | .local _ .vmem, ⟨5, _⟩ => ⟨S1x8x128x128, .f32⟩
  | .local _ .vmem, ⟨6, _⟩ => ⟨S1x8x64x64, .f32⟩
  | .local _ .vmem, ⟨7, _⟩ => ⟨S1x8x64x64, .f32⟩
  | .local _ .vmem, ⟨8, _⟩ => ⟨S64x1024, .f32⟩
  | .local _ .vmem, ⟨9, _⟩ => ⟨S64x1024, .f32⟩
  | .local _ .vmem, ⟨10, _⟩ => ⟨S64x3072, .f32⟩
  | .local _ .vmem, ⟨11, _⟩ => ⟨S64x3072, .f32⟩
  | .local _ .vmem, ⟨12, _⟩ => ⟨S64x128, .f32⟩
  | .local _ .vmem, ⟨13, _⟩ => ⟨S64x128, .f32⟩
  | .local _ .vmem, ⟨14, _⟩ => ⟨S8x128x128, .f32⟩
  | _, _ => ⟨S8256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call0_call0_cst : Ref sig .tc := ⟨.hbm, 41, rfl⟩
abbrev main_call0_call0_v0 : Ref sig .tc := ⟨.hbm, 42, rfl⟩
abbrev main_v32 : Ref sig .tc := ⟨.hbm, 43, rfl⟩
abbrev main_c : Ref sig .tc := ⟨.hbm, 44, rfl⟩
abbrev main_v33 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_0 : Ref sig .tc := ⟨.hbm, 52, rfl⟩
abbrev main_call1_v5 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_0 : Ref sig .tc := ⟨.hbm, 63, rfl⟩
abbrev main_call2_v5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_5 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_6 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_c_7 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85_0 : Ref sig .tc := ⟨.hbm, 123, rfl⟩
abbrev main_v85_1 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 4 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  ![v0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8256x3072 : Shape := ⟨2, ![8256, 3072]⟩
abbrev S8256x128 : Shape := ⟨2, ![8256, 128]⟩
abbrev S129x8x128x128 : Shape := ⟨4, ![129, 8, 128, 128]⟩
abbrev S8256x1024 : Shape := ⟨2, ![8256, 1024]⟩
abbrev S129x64x8x128 : Shape := ⟨4, ![129, 64, 8, 128]⟩
abbrev S8x129x64x128 : Shape := ⟨4, ![8, 129, 64, 128]⟩
abbrev S_ : Shape := ⟨0, ![]⟩
abbrev S8x129x64 : Shape := ⟨3, ![8, 129, 64]⟩
abbrev S8x129x64x1 : Shape := ⟨4, ![8, 129, 64, 1]⟩
abbrev S8256x8 : Shape := ⟨2, ![8256, 8]⟩
abbrev S129x64x8x1 : Shape := ⟨4, ![129, 64, 8, 1]⟩
abbrev S64x64 : Shape := ⟨2, ![64, 64]⟩
abbrev S8x129x1x64 : Shape := ⟨4, ![8, 129, 1, 64]⟩
abbrev S8x129x64x64 : Shape := ⟨4, ![8, 129, 64, 64]⟩
abbrev S1x1x64x64 : Shape := ⟨4, ![1, 1, 64, 64]⟩
abbrev S8x129x1 : Shape := ⟨3, ![8, 129, 1]⟩
abbrev S8x129 : Shape := ⟨2, ![8, 129]⟩
abbrev S8x129x1x1 : Shape := ⟨4, ![8, 129, 1, 1]⟩
abbrev S129x8x64x128 : Shape := ⟨4, ![129, 8, 64, 128]⟩
abbrev S129x8x64x1 : Shape := ⟨4, ![129, 8, 64, 1]⟩
abbrev S129x8x64x64 : Shape := ⟨4, ![129, 8, 64, 64]⟩
abbrev S129x8x1x1 : Shape := ⟨4, ![129, 8, 1, 1]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x8x1x1 : Shape := ⟨4, ![1, 8, 1, 1]⟩
abbrev S8x1x1 : Shape := ⟨3, ![8, 1, 1]⟩
abbrev S1x8x64x64 : Shape := ⟨4, ![1, 8, 64, 64]⟩
abbrev S8x64x64 : Shape := ⟨3, ![8, 64, 64]⟩
abbrev S1x8x64x1 : Shape := ⟨4, ![1, 8, 64, 1]⟩
abbrev S8x64x1 : Shape := ⟨3, ![8, 64, 1]⟩
abbrev S8x128x64 : Shape := ⟨3, ![8, 128, 64]⟩

abbrev nBuf : Space → Nat
  | .hbm => 251
  | .vmem => 0
  | .smem => 0
  | _ => 0

abbrev hbmTy0_0 (i : Nat) : BufTy := match i % 128 with
  | 0 => ⟨S8256x3072, .f32⟩
  | 1 => ⟨S8256x128, .f32⟩
  | 2 => ⟨S129x8x128x128, .f32⟩
  | 3 => ⟨S8256x1024, .f32⟩
  | 4 => ⟨S8256x1024, .f32⟩
  | 5 => ⟨S8256x1024, .f32⟩
  | 6 => ⟨S129x64x8x128, .f32⟩
  | 7 => ⟨S8x129x64x128, .f32⟩
  | 8 => ⟨S8x129x64x128, .f32⟩
  | 9 => ⟨S_, .f32⟩
  | 10 => ⟨S8x129x64, .f32⟩
  | 11 => ⟨S8x129x64x1, .f32⟩
  | 12 => ⟨S_, .f32⟩
  | 13 => ⟨S8x129x64x1, .f32⟩
  | 14 => ⟨S8x129x64x1, .f32⟩
  | 15 => ⟨S8x129x64x1, .f32⟩
  | 16 => ⟨S8x129x64x128, .f32⟩
  | 17 => ⟨S8x129x64x128, .f32⟩
  | 18 => ⟨S_, .f32⟩
  | 19 => ⟨S8x129x64x128, .f32⟩
  | 20 => ⟨S8x129x64x128, .f32⟩
  | 21 => ⟨S8256x1024, .f32⟩
  | 22 => ⟨S129x64x8x128, .f32⟩
  | 23 => ⟨S8x129x64x128, .f32⟩
  | 24 => ⟨S8x129x64x128, .f32⟩
  | 25 => ⟨S_, .f32⟩
  | 26 => ⟨S8x129x64, .f32⟩
  | 27 => ⟨S8x129x64x1, .f32⟩
  | 28 => ⟨S_, .f32⟩
  | 29 => ⟨S8x129x64x1, .f32⟩
  | 30 => ⟨S8x129x64x1, .f32⟩
  | 31 => ⟨S8x129x64x1, .f32⟩
  | 32 => ⟨S8x129x64x128, .f32⟩
  | 33 => ⟨S8x129x64x128, .f32⟩
  | 34 => ⟨S8256x8, .f32⟩
  | 35 => ⟨S129x64x8x1, .f32⟩
  | 36 => ⟨S8x129x64x1, .f32⟩
  | 37 => ⟨S8x129x64, .f32⟩
  | 38 => ⟨S8256x8, .f32⟩
  | 39 => ⟨S129x64x8x1, .f32⟩
  | 40 => ⟨S8x129x64x1, .f32⟩
  | 41 => ⟨S8x129x64, .f32⟩
  | 42 => ⟨S_, .f32⟩
  | 43 => ⟨S_, .f32⟩
  | 44 => ⟨S8x129x64, .f32⟩
  | 45 => ⟨S_, .i1⟩
  | 46 => ⟨S64x64, .i1⟩
  | 47 => ⟨S64x64, .i32⟩
  | 48 => ⟨S_, .i32⟩
  | 49 => ⟨S64x64, .i32⟩
  | 50 => ⟨S64x64, .i32⟩
  | 51 => ⟨S64x64, .i32⟩
  | 52 => ⟨S64x64, .i1⟩
  | 53 => ⟨S_, .i1⟩
  | 54 => ⟨S64x64, .i1⟩
  | 55 => ⟨S64x64, .i1⟩
  | 56 => ⟨S_, .i1⟩
  | 57 => ⟨S64x64, .i1⟩
  | 58 => ⟨S64x64, .i32⟩
  | 59 => ⟨S_, .i32⟩
  | 60 => ⟨S64x64, .i32⟩
  | 61 => ⟨S64x64, .i32⟩
  | 62 => ⟨S64x64, .i32⟩
  | 63 => ⟨S64x64, .i1⟩
  | 64 => ⟨S_, .i1⟩
  | 65 => ⟨S64x64, .i1⟩
  | 66 => ⟨S64x64, .i1⟩
  | 67 => ⟨S8x129x64x1, .f32⟩
  | 68 => ⟨S8x129x1x64, .f32⟩
  | 69 => ⟨S8x129x64x64, .f32⟩
  | 70 => ⟨S8x129x64x64, .f32⟩
  | 71 => ⟨S8x129x64x64, .f32⟩
  | 72 => ⟨S_, .f32⟩
  | 73 => ⟨S_, .f32⟩
  | 74 => ⟨S8x129x64x64, .i1⟩
  | 75 => ⟨S8x129x64x64, .f32⟩
  | 76 => ⟨S8x129x64x64, .f32⟩
  | 77 => ⟨S8x129x64x64, .f32⟩
  | 78 => ⟨S8x129x64x1, .f32⟩
  | 79 => ⟨S8x129x64x128, .f32⟩
  | 80 => ⟨S8x129x64x128, .f32⟩
  | 81 => ⟨S8x129x64x64, .f32⟩
  | 82 => ⟨S8x129x64x64, .f32⟩
  | 83 => ⟨S_, .f32⟩
  | 84 => ⟨S_, .f32⟩
  | 85 => ⟨S8x129x64x64, .i1⟩
  | 86 => ⟨S8x129x64x64, .f32⟩
  | 87 => ⟨S8x129x64x64, .f32⟩
  | 88 => ⟨S64x64, .i32⟩
  | 89 => ⟨S64x64, .i32⟩
  | 90 => ⟨S_, .i32⟩
  | 91 => ⟨S64x64, .i32⟩
  | 92 => ⟨S64x64, .i32⟩
  | 93 => ⟨S64x64, .i1⟩
  | 94 => ⟨S64x64, .f32⟩
  | 95 => ⟨S1x1x64x64, .f32⟩
  | 96 => ⟨S8x129x64x64, .f32⟩
  | 97 => ⟨S8x129x64x64, .f32⟩
  | 98 => ⟨S8x129x64x64, .f32⟩
  | 99 => ⟨S1x1x64x64, .f32⟩
  | 100 => ⟨S8x129x64x64, .f32⟩
  | 101 => ⟨S8x129x64x64, .f32⟩
  | 102 => ⟨S8x129x64x64, .f32⟩
  | 103 => ⟨S8x129x64x64, .f32⟩
  | 104 => ⟨S1x1x64x64, .f32⟩
  | 105 => ⟨S8x129x64x64, .f32⟩
  | 106 => ⟨S8x129x64x64, .f32⟩
  | 107 => ⟨S8x129x64x64, .f32⟩
  | 108 => ⟨S8x129x64x64, .f32⟩
  | 109 => ⟨S1x1x64x64, .f32⟩
  | 110 => ⟨S8x129x64x64, .f32⟩
  | 111 => ⟨S8x129x64x64, .f32⟩
  | 112 => ⟨S8x129x64x64, .f32⟩
  | 113 => ⟨S8x129x64x64, .f32⟩
  | 114 => ⟨S1x1x64x64, .f32⟩
  | 115 => ⟨S8x129x64x64, .f32⟩
  | 116 => ⟨S8x129x64x64, .f32⟩
  | 117 => ⟨S8x129x64x64, .f32⟩
  | 118 => ⟨S8x129x64x64, .f32⟩
  | 119 => ⟨S1x1x64x64, .f32⟩
  | 120 => ⟨S8x129x64x64, .f32⟩
  | 121 => ⟨S8x129x64x64, .f32⟩
  | 122 => ⟨S8x129x64x64, .f32⟩
  | 123 => ⟨S8x129x64, .f32⟩
  | 124 => ⟨S8x129x64x1, .f32⟩
  | 125 => ⟨S8x129x64x128, .f32⟩
  | 126 => ⟨S8x129x64x128, .f32⟩
  | 127 => ⟨S8x129x64x128, .f32⟩
  | _ => ⟨S8256x3072, .f32⟩

abbrev hbmTy0_1 (i : Nat) : BufTy := match i % 128 with
  | 0 => ⟨S8x129x64x64, .f32⟩
  | 1 => ⟨S8x129x64x64, .f32⟩
  | 2 => ⟨S8x129x64, .f32⟩
  | 3 => ⟨S8x129x64x1, .f32⟩
  | 4 => ⟨S8x129x64x128, .f32⟩
  | 5 => ⟨S8x129x64x128, .f32⟩
  | 6 => ⟨S8x129x1, .f32⟩
  | 7 => ⟨S8x129x64, .f32⟩
  | 8 => ⟨S8x129x64, .f32⟩
  | 9 => ⟨S8x129x64, .f32⟩
  | 10 => ⟨S8x129x64x1, .f32⟩
  | 11 => ⟨S8x129x64x128, .f32⟩
  | 12 => ⟨S8x129x64x128, .f32⟩
  | 13 => ⟨S8x129x1, .f32⟩
  | 14 => ⟨S8x129, .f32⟩
  | 15 => ⟨S8x129, .f32⟩
  | 16 => ⟨S8x129x1x1, .f32⟩
  | 17 => ⟨S8x129x64x1, .f32⟩
  | 18 => ⟨S129x8x64x128, .f32⟩
  | 19 => ⟨S129x8x64x128, .f32⟩
  | 20 => ⟨S129x8x64x1, .f32⟩
  | 21 => ⟨S129x8x64x64, .f32⟩
  | 22 => ⟨S129x8x64x128, .f32⟩
  | 23 => ⟨S129x8x64x64, .f32⟩
  | 24 => ⟨S129x8x1x1, .f32⟩
  | 25 => ⟨S_, .f32⟩
  | 26 => ⟨S8x128x128, .f32⟩
  | 27 => ⟨S129x64x8x128, .f32⟩
  | 28 => ⟨S8x129x64x128, .f32⟩
  | 29 => ⟨S129x8x64x128, .f32⟩
  | 30 => ⟨S_, .f32⟩
  | 31 => ⟨S8x128x128, .f32⟩
  | 32 => ⟨S_, .f32⟩
  | 33 => ⟨S129x8x64x128, .f32⟩
  | 34 => ⟨S_, .i32⟩
  | 35 => ⟨S129x8x64x128, .f32⟩
  | 36 => ⟨S129x8x1x1, .f32⟩
  | 37 => ⟨S129x8x64x128, .f32⟩
  | 38 => ⟨S129x8x64x64, .f32⟩
  | 39 => ⟨S129x8x64x1, .f32⟩
  | 40 => ⟨S129x8x64x128, .f32⟩
  | 41 => ⟨S129x8x64x128, .f32⟩
  | 42 => ⟨S129x8x64x64, .f32⟩
  | 43 => ⟨S_, .i32⟩
  | 44 => ⟨S8x128x128, .f32⟩
  | 45 => ⟨S129x8x64x128, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S1x8x64x128, .f32⟩
  | 56 => ⟨S8x64x128, .f32⟩
  | 57 => ⟨S_, .i32⟩
  | 58 => ⟨S_, .i32⟩
  | 59 => ⟨S_, .i32⟩
  | 60 => ⟨S1x8x1x1, .f32⟩
  | 61 => ⟨S8x1x1, .f32⟩
  | 62 => ⟨S_, .i32⟩
  | 63 => ⟨S_, .i32⟩
  | 64 => ⟨S_, .i32⟩
  | 65 => ⟨S1x8x64x128, .f32⟩
  | 66 => ⟨S8x64x128, .f32⟩
  | 67 => ⟨S_, .i32⟩
  | 68 => ⟨S_, .i32⟩
  | 69 => ⟨S_, .i32⟩
  | 70 => ⟨S1x8x64x64, .f32⟩
  | 71 => ⟨S8x64x64, .f32⟩
  | 72 => ⟨S_, .i32⟩
  | 73 => ⟨S_, .i32⟩
  | 74 => ⟨S_, .i32⟩
  | 75 => ⟨S1x8x64x1, .f32⟩
  | 76 => ⟨S8x64x1, .f32⟩
  | 77 => ⟨S_, .i32⟩
  | 78 => ⟨S_, .i32⟩
  | 79 => ⟨S_, .i32⟩
  | 80 => ⟨S1x8x64x128, .f32⟩
  | 81 => ⟨S8x64x128, .f32⟩
  | 82 => ⟨S_, .i32⟩
  | 83 => ⟨S_, .i32⟩
  | 84 => ⟨S_, .i32⟩
  | 85 => ⟨S1x8x64x128, .f32⟩
  | 86 => ⟨S8x64x128, .f32⟩
  | 87 => ⟨S_, .i32⟩
  | 88 => ⟨S_, .i32⟩
  | 89 => ⟨S_, .i32⟩
  | 90 => ⟨S1x8x64x64, .f32⟩
  | 91 => ⟨S8x64x64, .f32⟩
  | 92 => ⟨S8x128x64, .f32⟩
  | 93 => ⟨S8x64x128, .f32⟩
  | 94 => ⟨S8x128x128, .f32⟩
  | 95 => ⟨S8x128x128, .f32⟩
  | 96 => ⟨S8x128x64, .f32⟩
  | 97 => ⟨S8x64x128, .f32⟩
  | 98 => ⟨S8x64x128, .f32⟩
  | 99 => ⟨S8x128x128, .f32⟩
  | 100 => ⟨S8x128x128, .f32⟩
  | 101 => ⟨S8x128x128, .f32⟩
  | 102 => ⟨S8x64x128, .f32⟩
  | 103 => ⟨S8x128x128, .f32⟩
  | 104 => ⟨S8x128x128, .f32⟩
  | 105 => ⟨S8x128x128, .f32⟩
  | 106 => ⟨S8x128x64, .f32⟩
  | 107 => ⟨S8x64x128, .f32⟩
  | 108 => ⟨S8x64x128, .f32⟩
  | 109 => ⟨S8x64x128, .f32⟩
  | 110 => ⟨S1x8x64x128, .f32⟩
  | 111 => ⟨S_, .i32⟩
  | 112 => ⟨S_, .i32⟩
  | 113 => ⟨S_, .i32⟩
  | 114 => ⟨S129x8x64x128, .f32⟩
  | 115 => ⟨S_, .i32⟩
  | 116 => ⟨S_, .i32⟩
  | 117 => ⟨S8x129x64x128, .f32⟩
  | 118 => ⟨S129x64x8x128, .f32⟩
  | 119 => ⟨S8256x1024, .f32⟩
  | 120 => ⟨S_, .i32⟩
  | 121 => ⟨S_, .f32⟩
  | 122 => ⟨S8256x3072, .f32⟩
  | _ => ⟨S8256x3072, .f32⟩

abbrev hbmTy (i : Nat) : BufTy := match i / 128 with
  | 0 => hbmTy0_0 i
  | 1 => hbmTy0_1 i
  | _ => ⟨S8256x3072, .f32⟩

abbrev bufTy : (tb : Table) → Fin (tcTables nBuf tb) → BufTy
  | .hbm, ⟨i, _⟩ => hbmTy i
  | _, _ => ⟨S8256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_call0_cst : Ref sig .tc := ⟨.hbm, 42, rfl⟩
abbrev main_call0_call0_v0 : Ref sig .tc := ⟨.hbm, 43, rfl⟩
abbrev main_v33 : Ref sig .tc := ⟨.hbm, 44, rfl⟩
abbrev main_c : Ref sig .tc := ⟨.hbm, 45, rfl⟩
abbrev main_v34 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_0 : Ref sig .tc := ⟨.hbm, 53, rfl⟩
abbrev main_call1_v5 : Ref sig .tc := ⟨.hbm, 54, rfl⟩
abbrev main_v35 : Ref sig .tc := ⟨.hbm, 55, rfl⟩
abbrev main_c_4 : Ref sig .tc := ⟨.hbm, 56, rfl⟩
abbrev main_v36 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_0 : Ref sig .tc := ⟨.hbm, 64, rfl⟩
abbrev main_call2_v5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_7 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_8 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_9 : Ref sig .tc := ⟨.hbm, 158, rfl⟩
abbrev main_v119 : Ref sig .tc := ⟨.hbm, 159, rfl⟩
abbrev main_cst_10 : Ref sig .tc := ⟨.hbm, 160, rfl⟩
abbrev main_v120 : Ref sig .tc := ⟨.hbm, 161, rfl⟩
abbrev main_c_11 : Ref sig .tc := ⟨.hbm, 162, rfl⟩
abbrev main_v121_0 : Ref sig .tc := ⟨.hbm, 163, rfl⟩
abbrev main_v121_1 : Ref sig .tc := ⟨.hbm, 164, rfl⟩
abbrev main_v121_2 : Ref sig .tc := ⟨.hbm, 165, rfl⟩
abbrev main_v121_3 : Ref sig .tc := ⟨.hbm, 166, rfl⟩
abbrev main_v121_4 : Ref sig .tc := ⟨.hbm, 167, rfl⟩
abbrev main_v121_5 : Ref sig .tc := ⟨.hbm, 168, rfl⟩
abbrev main_v121_6 : Ref sig .tc := ⟨.hbm, 169, rfl⟩
abbrev main_v121_7 : Ref sig .tc := ⟨.hbm, 170, rfl⟩
abbrev main_v121_8 : Ref sig .tc := ⟨.hbm, 171, rfl⟩
abbrev main_v121_9 : Ref sig .tc := ⟨.hbm, 172, rfl⟩
abbrev main_v121_10 : Ref sig .tc := ⟨.hbm, 173, rfl⟩
abbrev main_while0c_c_23 : Ref sig .tc := ⟨.hbm, 174, rfl⟩
abbrev main_while0c_v126 : Ref sig .tc := ⟨.hbm, 175, rfl⟩
abbrev main_while0b_c_23 : Ref sig .tc := ⟨.hbm, 176, rfl⟩
abbrev main_while0b_v126 : Ref sig .tc := ⟨.hbm, 177, rfl⟩
abbrev main_while0b_c_24 : Ref sig .tc := ⟨.hbm, 178, rfl⟩
abbrev main_while0b_v127 : Ref sig .tc := ⟨.hbm, 179, rfl⟩
abbrev main_while0b_call5_c : Ref sig .tc := ⟨.hbm, 180, rfl⟩
abbrev main_while0b_call5_c_0 : Ref sig .tc := ⟨.hbm, 181, rfl⟩
abbrev main_while0b_call5_c_1 : Ref sig .tc := ⟨.hbm, 182, rfl⟩
abbrev main_while0b_call5_v0 : Ref sig .tc := ⟨.hbm, 183, rfl⟩
abbrev main_while0b_v128 : Ref sig .tc := ⟨.hbm, 184, rfl⟩
abbrev main_while0b_call6_c : Ref sig .tc := ⟨.hbm, 185, rfl⟩
abbrev main_while0b_call6_c_0 : Ref sig .tc := ⟨.hbm, 186, rfl⟩
abbrev main_while0b_call6_c_1 : Ref sig .tc := ⟨.hbm, 187, rfl⟩
abbrev main_while0b_call6_v0 : Ref sig .tc := ⟨.hbm, 188, rfl⟩
abbrev main_while0b_v129 : Ref sig .tc := ⟨.hbm, 189, rfl⟩
abbrev main_while0b_call7_c : Ref sig .tc := ⟨.hbm, 190, rfl⟩
abbrev main_while0b_call7_c_0 : Ref sig .tc := ⟨.hbm, 191, rfl⟩
abbrev main_while0b_call7_c_1 : Ref sig .tc := ⟨.hbm, 192, rfl⟩
abbrev main_while0b_call7_v0 : Ref sig .tc := ⟨.hbm, 193, rfl⟩
abbrev main_while0b_v130 : Ref sig .tc := ⟨.hbm, 194, rfl⟩
abbrev main_while0b_call8_c : Ref sig .tc := ⟨.hbm, 195, rfl⟩
abbrev main_while0b_call8_c_0 : Ref sig .tc := ⟨.hbm, 196, rfl⟩
abbrev main_while0b_call8_c_1 : Ref sig .tc := ⟨.hbm, 197, rfl⟩
abbrev main_while0b_call8_v0 : Ref sig .tc := ⟨.hbm, 198, rfl⟩
abbrev main_while0b_v131 : Ref sig .tc := ⟨.hbm, 199, rfl⟩
abbrev main_while0b_call9_c : Ref sig .tc := ⟨.hbm, 200, rfl⟩
abbrev main_while0b_call9_c_0 : Ref sig .tc := ⟨.hbm, 201, rfl⟩
abbrev main_while0b_call9_c_1 : Ref sig .tc := ⟨.hbm, 202, rfl⟩
abbrev main_while0b_call9_v0 : Ref sig .tc := ⟨.hbm, 203, rfl⟩
abbrev main_while0b_v132 : Ref sig .tc := ⟨.hbm, 204, rfl⟩
abbrev main_while0b_call10_c : Ref sig .tc := ⟨.hbm, 205, rfl⟩
abbrev main_while0b_call10_c_0 : Ref sig .tc := ⟨.hbm, 206, rfl⟩
abbrev main_while0b_call10_c_1 : Ref sig .tc := ⟨.hbm, 207, rfl⟩
abbrev main_while0b_call10_v0 : Ref sig .tc := ⟨.hbm, 208, rfl⟩
abbrev main_while0b_v133 : Ref sig .tc := ⟨.hbm, 209, rfl⟩
abbrev main_while0b_call11_c : Ref sig .tc := ⟨.hbm, 210, rfl⟩
abbrev main_while0b_call11_c_0 : Ref sig .tc := ⟨.hbm, 211, rfl⟩
abbrev main_while0b_call11_c_1 : Ref sig .tc := ⟨.hbm, 212, rfl⟩
abbrev main_while0b_call11_v0 : Ref sig .tc := ⟨.hbm, 213, rfl⟩
abbrev main_while0b_v134 : Ref sig .tc := ⟨.hbm, 214, rfl⟩
abbrev main_while0b_call12_c : Ref sig .tc := ⟨.hbm, 215, rfl⟩
abbrev main_while0b_call12_c_0 : Ref sig .tc := ⟨.hbm, 216, rfl⟩
abbrev main_while0b_call12_c_1 : Ref sig .tc := ⟨.hbm, 217, rfl⟩
abbrev main_while0b_call12_v0 : Ref sig .tc := ⟨.hbm, 218, rfl⟩
abbrev main_while0b_v135 : Ref sig .tc := ⟨.hbm, 219, rfl⟩
abbrev main_while0b_v136 : Ref sig .tc := ⟨.hbm, 220, rfl⟩
abbrev main_while0b_v137 : Ref sig .tc := ⟨.hbm, 221, rfl⟩
abbrev main_while0b_v138 : Ref sig .tc := ⟨.hbm, 222, rfl⟩
abbrev main_while0b_v139 : Ref sig .tc := ⟨.hbm, 223, rfl⟩
abbrev main_while0b_v140 : Ref sig .tc := ⟨.hbm, 224, rfl⟩
abbrev main_while0b_v141 : Ref sig .tc := ⟨.hbm, 225, rfl⟩
abbrev main_while0b_v142 : Ref sig .tc := ⟨.hbm, 226, rfl⟩
abbrev main_while0b_v143 : Ref sig .tc := ⟨.hbm, 227, rfl⟩
abbrev main_while0b_v144 : Ref sig .tc := ⟨.hbm, 228, rfl⟩
abbrev main_while0b_v145 : Ref sig .tc := ⟨.hbm, 229, rfl⟩
abbrev main_while0b_v146 : Ref sig .tc := ⟨.hbm, 230, rfl⟩
abbrev main_while0b_v147 : Ref sig .tc := ⟨.hbm, 231, rfl⟩
abbrev main_while0b_v148 : Ref sig .tc := ⟨.hbm, 232, rfl⟩
abbrev main_while0b_v149 : Ref sig .tc := ⟨.hbm, 233, rfl⟩
abbrev main_while0b_v150 : Ref sig .tc := ⟨.hbm, 234, rfl⟩
abbrev main_while0b_v151 : Ref sig .tc := ⟨.hbm, 235, rfl⟩
abbrev main_while0b_v152 : Ref sig .tc := ⟨.hbm, 236, rfl⟩
abbrev main_while0b_v153 : Ref sig .tc := ⟨.hbm, 237, rfl⟩
abbrev main_while0b_call13_v0 : Ref sig .tc := ⟨.hbm, 238, rfl⟩
abbrev main_while0b_call13_c : Ref sig .tc := ⟨.hbm, 239, rfl⟩
abbrev main_while0b_call13_c_0 : Ref sig .tc := ⟨.hbm, 240, rfl⟩
abbrev main_while0b_call13_c_1 : Ref sig .tc := ⟨.hbm, 241, rfl⟩
abbrev main_while0b_v154 : Ref sig .tc := ⟨.hbm, 242, rfl⟩
abbrev main_while0b_c_25 : Ref sig .tc := ⟨.hbm, 243, rfl⟩
abbrev main_while0b_v155 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_c_12 : Ref sig .tc := ⟨.hbm, 248, rfl⟩
abbrev main_call14_v0 : Ref sig .tc := ⟨.hbm, 249, rfl⟩
abbrev main_v125 : Ref sig .tc := ⟨.hbm, 250, rfl⟩

abbrev nD : Nat := 1
abbrev τ : Topo := Topo.v7x

variable {F : FTy → Type} [FloatOps F]

abbrev main_while0_count : Scf.Loop 32 := ⟨0#32, 129#32, 1#32⟩
-- ==== Kernel2.lean ====
abbrev S8256x2048 : Shape := ⟨2, ![8256, 2048]⟩
abbrev S2048x5632 : Shape := ⟨2, ![2048, 5632]⟩
abbrev S5632x2048 : Shape := ⟨2, ![5632, 2048]⟩
abbrev S8256x5632 : Shape := ⟨2, ![8256, 5632]⟩
abbrev S1376x2048 : Shape := ⟨2, ![1376, 2048]⟩
abbrev S2048x512 : Shape := ⟨2, ![2048, 512]⟩
abbrev S1376x512 : Shape := ⟨2, ![1376, 512]⟩
abbrev S688x5632 : Shape := ⟨2, ![688, 5632]⟩
abbrev S5632x512 : Shape := ⟨2, ![5632, 512]⟩
abbrev S688x512 : Shape := ⟨2, ![688, 512]⟩
abbrev S8256x512 : Shape := ⟨2, ![8256, 512]⟩
abbrev S512x512 : Shape := ⟨2, ![512, 512]⟩
abbrev S512x2048 : Shape := ⟨2, ![512, 2048]⟩
abbrev S256x5632 : Shape := ⟨2, ![256, 5632]⟩
abbrev S688x256 : Shape := ⟨2, ![688, 256]⟩

abbrev nBuf : Space → Nat
  | .hbm => 13
  | .vmem => 46
  | .smem => 0
  | _ => 0

abbrev bufTy : (tb : Table) → Fin (tcTables nBuf tb) → BufTy
  | .hbm, ⟨0, _⟩ => ⟨S8256x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8256x2048, .bf16⟩
  | .hbm, ⟨5, _⟩ => ⟨S8256x5632, .bf16⟩
  | .hbm, ⟨6, _⟩ => ⟨S8256x5632, .bf16⟩
  | .hbm, ⟨7, _⟩ => ⟨S8256x5632, .bf16⟩
  | .hbm, ⟨8, _⟩ => ⟨S8256x2048, .f32⟩
  | .hbm, ⟨9, _⟩ => ⟨S5632x2048, .bf16⟩
  | .hbm, ⟨10, _⟩ => ⟨S8256x5632, .bf16⟩
  | .hbm, ⟨11, _⟩ => ⟨S8256x5632, .bf16⟩
  | .hbm, ⟨12, _⟩ => ⟨S8256x2048, .f32⟩
  | .local _ .vmem, ⟨0, _⟩ => ⟨S1376x2048, .bf16⟩
  | .local _ .vmem, ⟨1, _⟩ => ⟨S1376x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1376x512, .bf16⟩
  | .local _ .vmem, ⟨7, _⟩ => ⟨S1376x512, .bf16⟩
  | .local _ .vmem, ⟨8, _⟩ => ⟨S1376x512, .bf16⟩
  | .local _ .vmem, ⟨9, _⟩ => ⟨S1376x512, .bf16⟩
  | .local _ .vmem, ⟨10, _⟩ => ⟨S1376x512, .bf16⟩
  | .local _ .vmem, ⟨11, _⟩ => ⟨S1376x512, .bf16⟩
  | .local _ .vmem, ⟨12, _⟩ => ⟨S688x5632, .bf16⟩
  | .local _ .vmem, ⟨13, _⟩ => ⟨S688x5632, .bf16⟩
  | .local _ .vmem, ⟨14, _⟩ => ⟨S5632x512, .bf16⟩
  | .local _ .vmem, ⟨15, _⟩ => ⟨S5632x512, .bf16⟩
  | .local _ .vmem, ⟨16, _⟩ => ⟨S688x512, .f32⟩
  | .local _ .vmem, ⟨17, _⟩ => ⟨S688x512, .f32⟩
  | .local _ .vmem, ⟨18, _⟩ => ⟨S8256x512, .bf16⟩
  | .local _ .vmem, ⟨19, _⟩ => ⟨S8256x512, .bf16⟩
  | .local _ .vmem, ⟨20, _⟩ => ⟨S8256x512, .bf16⟩
  | .local _ .vmem, ⟨21, _⟩ => ⟨S8256x512, .bf16⟩
  | .local _ .vmem, ⟨22, _⟩ => ⟨S512x512, .bf16⟩
  | .local _ .vmem, ⟨23, _⟩ => ⟨S512x512, .bf16⟩
  | .local _ .vmem, ⟨24, _⟩ => ⟨S1376x2048, .bf16⟩
  | .local _ .vmem, ⟨25, _⟩ => ⟨S1376x2048, .bf16⟩
  | .local _ .vmem, ⟨26, _⟩ => ⟨S512x2048, .bf16⟩
  | .local _ .vmem, ⟨27, _⟩ => ⟨S512x2048, .bf16⟩
  | .local _ .vmem, ⟨28, _⟩ => ⟨S1376x512, .bf16⟩
  | .local _ .vmem, ⟨29, _⟩ => ⟨S1376x512, .bf16⟩
  | .local _ .vmem, ⟨30, _⟩ => ⟨S1376x512, .bf16⟩
  | .local _ .vmem, ⟨31, _⟩ => ⟨S1376x512, .bf16⟩
  | .local _ .vmem, ⟨32, _⟩ => ⟨S1376x512, .bf16⟩
  | .local _ .vmem, ⟨33, _⟩ => ⟨S1376x512, .bf16⟩
  | .local _ .vmem, ⟨34, _⟩ => ⟨S1376x512, .bf16⟩
  | .local _ .vmem, ⟨35, _⟩ => ⟨S1376x512, .bf16⟩
  | .local _ .vmem, ⟨36, _⟩ => ⟨S688x5632, .bf16⟩
  | .local _ .vmem, ⟨37, _⟩ => ⟨S688x5632, .bf16⟩
  | .local _ .vmem, ⟨38, _⟩ => ⟨S688x5632, .bf16⟩
  | .local _ .vmem, ⟨39, _⟩ => ⟨S688x5632, .bf16⟩
  | .local _ .vmem, ⟨40, _⟩ => ⟨S256x5632, .bf16⟩
  | .local _ .vmem, ⟨41, _⟩ => ⟨S256x5632, .bf16⟩
  | .local _ .vmem, ⟨42, _⟩ => ⟨S256x5632, .bf16⟩
  | .local _ .vmem, ⟨43, _⟩ => ⟨S256x5632, .bf16⟩
  | .local _ .vmem, ⟨44, _⟩ => ⟨S688x256, .f32⟩
  | .local _ .vmem, ⟨45, _⟩ => ⟨S688x256, .f32⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg4_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc4_sem4_0 : DmaSem sig := 44
abbrev cc4_sem4_1 : DmaSem sig := 45

abbrev nD : Nat := 1
abbrev τ : Topo := Topo.v7x

variable {F : FTy → Type} [FloatOps F]

abbrev grid0 : Pipeline.Grid := ⟨2, ![6, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1376x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1376x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1376x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![12, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S688x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S688x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![11, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S8256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S8256x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![6, 11], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1376x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1376x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1376x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1376x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1376x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![12, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S688x5632 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S688x5632 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S256x5632 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S256x5632 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S688x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]
-- ==== Reference2Ideal.lean ====
abbrev S8256x2048 : Shape := ⟨2, ![8256, 2048]⟩
abbrev S2048x5632 : Shape := ⟨2, ![2048, 5632]⟩
abbrev S5632x2048 : Shape := ⟨2, ![5632, 2048]⟩
abbrev S8256x5632 : Shape := ⟨2, ![8256, 5632]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8256x2048, .bf16⟩
  | .hbm, ⟨5, _⟩ => ⟨S8256x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S8256x5632, .f32⟩
  | .hbm, ⟨10, _⟩ => ⟨S8256x5632, .f32⟩
  | .hbm, ⟨11, _⟩ => ⟨S8256x5632, .f32⟩
  | .hbm, ⟨12, _⟩ => ⟨S_, .f32⟩
  | .hbm, ⟨13, _⟩ => ⟨S8256x5632, .f32⟩
  | .hbm, ⟨14, _⟩ => ⟨S8256x5632, .f32⟩
  | .hbm, ⟨15, _⟩ => ⟨S_, .f32⟩
  | .hbm, ⟨16, _⟩ => ⟨S8256x5632, .f32⟩
  | .hbm, ⟨17, _⟩ => ⟨S8256x5632, .f32⟩
  | .hbm, ⟨18, _⟩ => ⟨S_, .f32⟩
  | .hbm, ⟨19, _⟩ => ⟨S8256x5632, .f32⟩
  | .hbm, ⟨20, _⟩ => ⟨S8256x5632, .f32⟩
  | .hbm, ⟨21, _⟩ => ⟨S8256x5632, .f32⟩
  | .hbm, ⟨22, _⟩ => ⟨S8256x5632, .f32⟩
  | .hbm, ⟨23, _⟩ => ⟨S8256x5632, .f32⟩
  | .hbm, ⟨24, _⟩ => ⟨S8256x5632, .f32⟩
  | .hbm, ⟨25, _⟩ => ⟨S8256x2048, .f32⟩
  | .hbm, ⟨26, _⟩ => ⟨S8256x2048, .f32⟩
  | .hbm, ⟨27, _⟩ => ⟨S2048x5632, .f32⟩
  | .hbm, ⟨28, _⟩ => ⟨S5632x2048, .f32⟩
  | .hbm, ⟨29, _⟩ => ⟨S8256x5632, .f32⟩
  | .hbm, ⟨30, _⟩ => ⟨S8256x5632, .f32⟩
  | .hbm, ⟨31, _⟩ => ⟨S8256x5632, .f32⟩
  | .hbm, ⟨32, _⟩ => ⟨S5632x2048, .f32⟩
  | .hbm, ⟨33, _⟩ => ⟨S2048x5632, .f32⟩
  | .hbm, ⟨34, _⟩ => ⟨S8256x2048, .f32⟩
  | .hbm, ⟨35, _⟩ => ⟨S8256x5632, .f32⟩
  | .hbm, ⟨36, _⟩ => ⟨S8256x5632, .f32⟩
  | .hbm, ⟨37, _⟩ => ⟨S8256x5632, .f32⟩
  | .hbm, ⟨38, _⟩ => ⟨S8256x5632, .f32⟩
  | .hbm, ⟨39, _⟩ => ⟨S5632x2048, .f32⟩
  | .hbm, ⟨40, _⟩ => ⟨S2048x5632, .f32⟩
  | .hbm, ⟨41, _⟩ => ⟨S8256x2048, .f32⟩
  | .hbm, ⟨42, _⟩ => ⟨S8256x2048, .f32⟩
  | .hbm, ⟨43, _⟩ => ⟨S5632x2048, .bf16⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== Kernel3.lean ====
abbrev S8256x2048 : Shape := ⟨2, ![8256, 2048]⟩
abbrev S8256x5632 : Shape := ⟨2, ![8256, 5632]⟩
abbrev S8x1024x1408 : Shape := ⟨3, ![8, 1024, 1408]⟩
abbrev S2752x512 : Shape := ⟨2, ![2752, 512]⟩
abbrev S2752x1408 : Shape := ⟨2, ![2752, 1408]⟩
abbrev S1x512x1408 : Shape := ⟨3, ![1, 512, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8256x2048, .bf16⟩
  | .hbm, ⟨1, _⟩ => ⟨S8256x5632, .bf16⟩
  | .hbm, ⟨2, _⟩ => ⟨S8x1024x1408, .bf16⟩
  | .local _ .vmem, ⟨0, _⟩ => ⟨S2752x512, .bf16⟩
  | .local _ .vmem, ⟨1, _⟩ => ⟨S2752x512, .bf16⟩
  | .local _ .vmem, ⟨2, _⟩ => ⟨S2752x1408, .bf16⟩
  | .local _ .vmem, ⟨3, _⟩ => ⟨S2752x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c2_i32_5 : BitVec 32 := 2#32
  let v18 : BitVec 32 := Scalar.divsi arg0 c2_i32_5
  let c0_i32_6 : BitVec 32 := 0#32
  let v19 : BitVec 1 := Scalar.cmpi .sgt arg0 c0_i32_6
  let v20 : BitVec 32 := Scalar.extui v19
  let c0_i32_7 : BitVec 32 := 0#32
  let v21 : BitVec 1 := Scalar.cmpi .slt arg0 c0_i32_7
  let v22 : BitVec 32 := Scalar.extui v21
  let v23 : BitVec 32 := Scalar.subi v20 v22
  let c0_i32_8 : BitVec 32 := 0#32
  let v24 : BitVec 1 := Scalar.cmpi .sgt c2_i32_5 c0_i32_8
  let v25 : BitVec 32 := Scalar.extui v24
  let c0_i32_9 : BitVec 32 := 0#32
  let v26 : BitVec 1 := Scalar.cmpi .slt c2_i32_5 c0_i32_9
  let v27 : BitVec 32 := Scalar.extui v26
  let v28 : BitVec 32 := Scalar.subi v25 v27
  let v29 : BitVec 1 := Scalar.cmpi .ne v23 v28
  let v30 : BitVec 32 := Scalar.remsi arg0 c2_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let v35 : BitVec 32 := Scalar.addi v17 v34
  let c2_i32_12 : BitVec 32 := 2#32
  let c0_i32_13 : BitVec 32 := 0#32
  let v36 : BitVec 1 := Scalar.cmpi .eq c2_i32_12 c0_i32_13
  let c1_i32_14 : BitVec 32 := 1#32
  let v37 : BitVec 32 := Scalar.select v36 c1_i32_14 c2_i32_12
  let v38 : BitVec 32 := Scalar.remsi arg0 v37
  let c0_i32_15 : BitVec 32 := 0#32
  let v39 : BitVec 1 := Scalar.cmpi .ne v38 c0_i32_15
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let v43 : BitVec 1 := Scalar.andi v42 v39
  let v44 : BitVec 32 := Scalar.addi v38 v37
  let v45 : BitVec 32 := Scalar.select v43 v44 v38
  let c1_i32_18 : BitVec 32 := 1#32
  let c0_i32_19 : BitVec 32 := 0#32
  let v46 : BitVec 1 := Scalar.cmpi .eq c1_i32_18 c0_i32_19
  let c1_i32_20 : BitVec 32 := 1#32
  let v47 : BitVec 32 := Scalar.select v46 c1_i32_20 c1_i32_18
  let v48 : BitVec 32 := Scalar.remsi arg1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  ![v35.toNat, v45.toNat, v55.toNat]

abbrev stage0_0 : Fin 2 → Memref sig .tc .vmem S2752x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2752x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8256x2048 : Shape := ⟨2, ![8256, 2048]⟩
abbrev S8256x5632 : Shape := ⟨2, ![8256, 5632]⟩
abbrev S_ : Shape := ⟨0, ![]⟩
abbrev S2048x5632 : Shape := ⟨2, ![2048, 5632]⟩
abbrev S5632x2048 : Shape := ⟨2, ![5632, 2048]⟩
abbrev S2x1024x4x1408 : Shape := ⟨4, ![2, 1024, 4, 1408]⟩
abbrev S4x2x1024x1408 : Shape := ⟨4, ![4, 2, 1024, 1408]⟩
abbrev S8x1024x1408 : Shape := ⟨3, ![8, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S8256x5632, .bf16⟩
  | .hbm, ⟨2, _⟩ => ⟨S8256x2048, .f32⟩
  | .hbm, ⟨3, _⟩ => ⟨S_, .f32⟩
  | .hbm, ⟨4, _⟩ => ⟨S2048x5632, .f32⟩
  | .hbm, ⟨5, _⟩ => ⟨S8256x5632, .f32⟩
  | .hbm, ⟨6, _⟩ => ⟨S8256x5632, .f32⟩
  | .hbm, ⟨7, _⟩ => ⟨S5632x2048, .f32⟩
  | .hbm, ⟨8, _⟩ => ⟨S2048x5632, .f32⟩
  | .hbm, ⟨9, _⟩ => ⟨S2x1024x4x1408, .f32⟩
  | .hbm, ⟨10, _⟩ => ⟨S4x2x1024x1408, .f32⟩
  | .hbm, ⟨11, _⟩ => ⟨S8x1024x1408, .f32⟩
  | .hbm, ⟨12, _⟩ => ⟨S8x1024x1408, .bf16⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S8256x2048 : Shape := ⟨2, ![8256, 2048]⟩
abbrev S2048x2048 : Shape := ⟨2, ![2048, 2048]⟩
abbrev S1376x2048 : Shape := ⟨2, ![1376, 2048]⟩
abbrev S2048x1024 : Shape := ⟨2, ![2048, 1024]⟩
abbrev S1376x1024 : Shape := ⟨2, ![1376, 1024]⟩
abbrev S1024x2048 : Shape := ⟨2, ![1024, 2048]⟩
abbrev S8256x512 : Shape := ⟨2, ![8256, 512]⟩
abbrev S512x512 : Shape := ⟨2, ![512, 512]⟩

abbrev nBuf : Space → Nat
  | .hbm => 6
  | .vmem => 18
  | .smem => 0
  | _ => 0

abbrev bufTy : (tb : Table) → Fin (tcTables nBuf tb) → BufTy
  | .hbm, ⟨0, _⟩ => ⟨S8256x2048, .bf16⟩
  | .hbm, ⟨1, _⟩ => ⟨S2048x2048, .bf16⟩
  | .hbm, ⟨2, _⟩ => ⟨S8256x2048, .bf16⟩
  | .hbm, ⟨3, _⟩ => ⟨S8256x2048, .f32⟩
  | .hbm, ⟨4, _⟩ => ⟨S8256x2048, .f32⟩
  | .hbm, ⟨5, _⟩ => ⟨S2048x2048, .bf16⟩
  | .local _ .vmem, ⟨0, _⟩ => ⟨S1376x2048, .bf16⟩
  | .local _ .vmem, ⟨1, _⟩ => ⟨S1376x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1376x1024, .f32⟩
  | .local _ .vmem, ⟨5, _⟩ => ⟨S1376x1024, .f32⟩
  | .local _ .vmem, ⟨6, _⟩ => ⟨S1376x2048, .bf16⟩
  | .local _ .vmem, ⟨7, _⟩ => ⟨S1376x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1376x1024, .f32⟩
  | .local _ .vmem, ⟨11, _⟩ => ⟨S1376x1024, .f32⟩
  | .local _ .vmem, ⟨12, _⟩ => ⟨S8256x512, .bf16⟩
  | .local _ .vmem, ⟨13, _⟩ => ⟨S8256x512, .bf16⟩
  | .local _ .vmem, ⟨14, _⟩ => ⟨S8256x512, .bf16⟩
  | .local _ .vmem, ⟨15, _⟩ => ⟨S8256x512, .bf16⟩
  | .local _ .vmem, ⟨16, _⟩ => ⟨S512x512, .bf16⟩
  | .local _ .vmem, ⟨17, _⟩ => ⟨S512x512, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![6, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1376x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1376x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S8256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S8256x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference4Ideal.lean ====
abbrev S8256x2048 : Shape := ⟨2, ![8256, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S2048x2048, .bf16⟩
  | .hbm, ⟨2, _⟩ => ⟨S8256x2048, .bf16⟩
  | .hbm, ⟨3, _⟩ => ⟨S8256x2048, .f32⟩
  | .hbm, ⟨4, _⟩ => ⟨S2048x2048, .f32⟩
  | .hbm, ⟨5, _⟩ => ⟨S8256x2048, .f32⟩
  | .hbm, ⟨6, _⟩ => ⟨S8256x2048, .f32⟩
  | .hbm, ⟨7, _⟩ => ⟨S2048x2048, .f32⟩
  | .hbm, ⟨8, _⟩ => ⟨S2048x2048, .f32⟩
  | .hbm, ⟨9, _⟩ => ⟨S8256x2048, .f32⟩
  | .hbm, ⟨10, _⟩ => ⟨S2048x2048, .bf16⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8256x2048 : Shape := ⟨2, ![8256, 2048]⟩
abbrev S2048x7168 : Shape := ⟨2, ![2048, 7168]⟩
abbrev S2048x128 : Shape := ⟨2, ![2048, 128]⟩
abbrev S8256x7168 : Shape := ⟨2, ![8256, 7168]⟩
abbrev S8256x128 : Shape := ⟨2, ![8256, 128]⟩
abbrev S1376x2048 : Shape := ⟨2, ![1376, 2048]⟩
abbrev S2048x1024 : Shape := ⟨2, ![2048, 1024]⟩
abbrev S1376x1024 : Shape := ⟨2, ![1376, 1024]⟩
abbrev S1376x128 : Shape := ⟨2, ![1376, 128]⟩
abbrev S8256x512 : Shape := ⟨2, ![8256, 512]⟩
abbrev S512x128 : Shape := ⟨2, ![512, 128]⟩
abbrev S2048x3072 : Shape := ⟨2, ![2048, 3072]⟩
abbrev S512x512 : Shape := ⟨2, ![512, 512]⟩
abbrev S2048x4096 : Shape := ⟨2, ![2048, 4096]⟩
abbrev S688x7168 : Shape := ⟨2, ![688, 7168]⟩
abbrev S512x7168 : Shape := ⟨2, ![512, 7168]⟩
abbrev S688x128 : Shape := ⟨2, ![688, 128]⟩
abbrev S688x512 : Shape := ⟨2, ![688, 512]⟩

abbrev nBuf : Space → Nat
  | .hbm => 11
  | .vmem => 38
  | .smem => 0
  | _ => 0

abbrev bufTy : (tb : Table) → Fin (tcTables nBuf tb) → BufTy
  | .hbm, ⟨0, _⟩ => ⟨S8256x2048, .bf16⟩
  | .hbm, ⟨1, _⟩ => ⟨S2048x7168, .bf16⟩
  | .hbm, ⟨2, _⟩ => ⟨S2048x128, .bf16⟩
  | .hbm, ⟨3, _⟩ => ⟨S8256x7168, .bf16⟩
  | .hbm, ⟨4, _⟩ => ⟨S8256x128, .bf16⟩
  | .hbm, ⟨5, _⟩ => ⟨S8256x7168, .f32⟩
  | .hbm, ⟨6, _⟩ => ⟨S8256x128, .f32⟩
  | .hbm, ⟨7, _⟩ => ⟨S2048x128, .bf16⟩
  | .hbm, ⟨8, _⟩ => ⟨S2048x3072, .bf16⟩
  | .hbm, ⟨9, _⟩ => ⟨S2048x4096, .bf16⟩
  | .hbm, ⟨10, _⟩ => ⟨S8256x2048, .f32⟩
  | .local _ .vmem, ⟨0, _⟩ => ⟨S1376x2048, .bf16⟩
  | .local _ .vmem, ⟨1, _⟩ => ⟨S1376x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1376x1024, .f32⟩
  | .local _ .vmem, ⟨5, _⟩ => ⟨S1376x1024, .f32⟩
  | .local _ .vmem, ⟨6, _⟩ => ⟨S1376x2048, .bf16⟩
  | .local _ .vmem, ⟨7, _⟩ => ⟨S1376x2048, .bf16⟩
  | .local _ .vmem, ⟨8, _⟩ => ⟨S2048x128, .bf16⟩
  | .local _ .vmem, ⟨9, _⟩ => ⟨S1376x128, .f32⟩
  | .local _ .vmem, ⟨10, _⟩ => ⟨S1376x128, .f32⟩
  | .local _ .vmem, ⟨11, _⟩ => ⟨S8256x512, .bf16⟩
  | .local _ .vmem, ⟨12, _⟩ => ⟨S8256x512, .bf16⟩
  | .local _ .vmem, ⟨13, _⟩ => ⟨S8256x128, .bf16⟩
  | .local _ .vmem, ⟨14, _⟩ => ⟨S512x128, .bf16⟩
  | .local _ .vmem, ⟨15, _⟩ => ⟨S512x128, .bf16⟩
  | .local _ .vmem, ⟨16, _⟩ => ⟨S8256x512, .bf16⟩
  | .local _ .vmem, ⟨17, _⟩ => ⟨S8256x512, .bf16⟩
  | .local _ .vmem, ⟨18, _⟩ => ⟨S8256x512, .bf16⟩
  | .local _ .vmem, ⟨19, _⟩ => ⟨S8256x512, .bf16⟩
  | .local _ .vmem, ⟨20, _⟩ => ⟨S512x512, .bf16⟩
  | .local _ .vmem, ⟨21, _⟩ => ⟨S512x512, .bf16⟩
  | .local _ .vmem, ⟨22, _⟩ => ⟨S8256x512, .bf16⟩
  | .local _ .vmem, ⟨23, _⟩ => ⟨S8256x512, .bf16⟩
  | .local _ .vmem, ⟨24, _⟩ => ⟨S8256x512, .bf16⟩
  | .local _ .vmem, ⟨25, _⟩ => ⟨S8256x512, .bf16⟩
  | .local _ .vmem, ⟨26, _⟩ => ⟨S512x512, .bf16⟩
  | .local _ .vmem, ⟨27, _⟩ => ⟨S512x512, .bf16⟩
  | .local _ .vmem, ⟨28, _⟩ => ⟨S688x7168, .bf16⟩
  | .local _ .vmem, ⟨29, _⟩ => ⟨S688x7168, .bf16⟩
  | .local _ .vmem, ⟨30, _⟩ => ⟨S512x7168, .bf16⟩
  | .local _ .vmem, ⟨31, _⟩ => ⟨S512x7168, .bf16⟩
  | .local _ .vmem, ⟨32, _⟩ => ⟨S688x128, .bf16⟩
  | .local _ .vmem, ⟨33, _⟩ => ⟨S688x128, .bf16⟩
  | .local _ .vmem, ⟨34, _⟩ => ⟨S512x128, .bf16⟩
  | .local _ .vmem, ⟨35, _⟩ => ⟨S512x128, .bf16⟩
  | .local _ .vmem, ⟨36, _⟩ => ⟨S688x512, .f32⟩
  | .local _ .vmem, ⟨37, _⟩ => ⟨S688x512, .f32⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg3_1 : Ref sig .tc := ⟨.vmem, 35, rfl⟩
abbrev cc5_stg4_0 : Ref sig .tc := ⟨.vmem, 36, rfl⟩
abbrev cc5_stg4_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc5_sem3_0 : DmaSem sig := 34
abbrev cc5_sem3_1 : DmaSem sig := 35
abbrev cc5_sem4_0 : DmaSem sig := 36
abbrev cc5_sem4_1 : DmaSem sig := 37

abbrev nD : Nat := 1
abbrev τ : Topo := Topo.v7x

variable {F : FTy → Type} [FloatOps F]

abbrev grid0 : Pipeline.Grid := ⟨3, ![6, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![6, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1376x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1376x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S8256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S8256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 6, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S8256x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S8256x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  ![arg2.toNat, v0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S8256x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S8256x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![12, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S688x7168 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S512x7168 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S688x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false, false]

abbrev stage5_3 : Fin 2 → Memref sig .tc .vmem S512x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true, false]

abbrev stage5_4 : Fin 2 → Memref sig .tc .vmem S688x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, false]
-- ==== Reference5Ideal.lean ====
abbrev S8256x2048 : Shape := ⟨2, ![8256, 2048]⟩
abbrev S2048x7168 : Shape := ⟨2, ![2048, 7168]⟩
abbrev S2048x128 : Shape := ⟨2, ![2048, 128]⟩
abbrev S8256x7168 : Shape := ⟨2, ![8256, 7168]⟩
abbrev S8256x128 : Shape := ⟨2, ![8256, 128]⟩
abbrev S128x2048 : Shape := ⟨2, ![128, 2048]⟩
abbrev S7168x2048 : Shape := ⟨2, ![7168, 2048]⟩
abbrev S2048x3072 : Shape := ⟨2, ![2048, 3072]⟩
abbrev S2048x4096 : Shape := ⟨2, ![2048, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S2048x7168, .bf16⟩
  | .hbm, ⟨2, _⟩ => ⟨S2048x128, .bf16⟩
  | .hbm, ⟨3, _⟩ => ⟨S8256x7168, .bf16⟩
  | .hbm, ⟨4, _⟩ => ⟨S8256x128, .bf16⟩
  | .hbm, ⟨5, _⟩ => ⟨S8256x2048, .f32⟩
  | .hbm, ⟨6, _⟩ => ⟨S2048x7168, .f32⟩
  | .hbm, ⟨7, _⟩ => ⟨S2048x128, .f32⟩
  | .hbm, ⟨8, _⟩ => ⟨S8256x7168, .f32⟩
  | .hbm, ⟨9, _⟩ => ⟨S8256x128, .f32⟩
  | .hbm, ⟨10, _⟩ => ⟨S8256x7168, .f32⟩
  | .hbm, ⟨11, _⟩ => ⟨S8256x128, .f32⟩
  | .hbm, ⟨12, _⟩ => ⟨S128x2048, .f32⟩
  | .hbm, ⟨13, _⟩ => ⟨S2048x128, .f32⟩
  | .hbm, ⟨14, _⟩ => ⟨S8256x2048, .f32⟩
  | .hbm, ⟨15, _⟩ => ⟨S7168x2048, .f32⟩
  | .hbm, ⟨16, _⟩ => ⟨S2048x7168, .f32⟩
  | .hbm, ⟨17, _⟩ => ⟨S8256x2048, .f32⟩
  | .hbm, ⟨18, _⟩ => ⟨S8256x2048, .f32⟩
  | .hbm, ⟨19, _⟩ => ⟨S2048x7168, .bf16⟩
  | .hbm, ⟨20, _⟩ => ⟨S2048x128, .bf16⟩
  | .hbm, ⟨21, _⟩ => ⟨S2048x3072, .bf16⟩
  | .hbm, ⟨22, _⟩ => ⟨S2048x4096, .bf16⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel6.lean ====
abbrev S2048x1408 : Shape := ⟨2, ![2048, 1408]⟩
abbrev S512x2048 : Shape := ⟨2, ![512, 2048]⟩
abbrev S1408x2048 : Shape := ⟨2, ![1408, 2048]⟩
abbrev S8x1800x256 : Shape := ⟨3, ![8, 1800, 256]⟩
abbrev S1800x2048 : Shape := ⟨2, ![1800, 2048]⟩
abbrev S256x1408 : Shape := ⟨2, ![256, 1408]⟩
abbrev S256x2048 : Shape := ⟨2, ![256, 2048]⟩
abbrev S176x2048 : Shape := ⟨2, ![176, 2048]⟩
abbrev S1x1800x256 : Shape := ⟨3, ![1, 1800, 256]⟩
abbrev S1800x256 : Shape := ⟨2, ![1800, 256]⟩

abbrev nBuf : Space → Nat
  | .hbm => 32
  | .vmem => 64
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S1408x2048, .f32⟩
  | .hbm, ⟨12, _⟩ => ⟨S8x1800x256, .bf16⟩
  | .hbm, ⟨13, _⟩ => ⟨S1800x2048, .f32⟩
  | .hbm, ⟨14, _⟩ => ⟨S1800x2048, .f32⟩
  | .hbm, ⟨15, _⟩ => ⟨S1800x2048, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S2048x1408, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S1408x2048, .f32⟩
  | .hbm, ⟨25, _⟩ => ⟨S1408x2048, .f32⟩
  | .hbm, ⟨26, _⟩ => ⟨S1408x2048, .f32⟩
  | .hbm, ⟨27, _⟩ => ⟨S1408x2048, .f32⟩
  | .hbm, ⟨28, _⟩ => ⟨S1800x2048, .f32⟩
  | .hbm, ⟨29, _⟩ => ⟨S1800x2048, .f32⟩
  | .hbm, ⟨30, _⟩ => ⟨S1800x2048, .f32⟩
  | .hbm, ⟨31, _⟩ => ⟨S1800x2048, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S176x2048, .f32⟩
  | .local _ .vmem, ⟨33, _⟩ => ⟨S176x2048, .f32⟩
  | .local _ .vmem, ⟨34, _⟩ => ⟨S176x2048, .f32⟩
  | .local _ .vmem, ⟨35, _⟩ => ⟨S176x2048, .f32⟩
  | .local _ .vmem, ⟨36, _⟩ => ⟨S176x2048, .f32⟩
  | .local _ .vmem, ⟨37, _⟩ => ⟨S176x2048, .f32⟩
  | .local _ .vmem, ⟨38, _⟩ => ⟨S176x2048, .f32⟩
  | .local _ .vmem, ⟨39, _⟩ => ⟨S176x2048, .f32⟩
  | .local _ .vmem, ⟨40, _⟩ => ⟨S176x2048, .f32⟩
  | .local _ .vmem, ⟨41, _⟩ => ⟨S176x2048, .f32⟩
  | .local _ .vmem, ⟨42, _⟩ => ⟨S176x2048, .f32⟩
  | .local _ .vmem, ⟨43, _⟩ => ⟨S176x2048, .f32⟩
  | .local _ .vmem, ⟨44, _⟩ => ⟨S176x2048, .f32⟩
  | .local _ .vmem, ⟨45, _⟩ => ⟨S176x2048, .f32⟩
  | .local _ .vmem, ⟨46, _⟩ => ⟨S176x2048, .f32⟩
  | .local _ .vmem, ⟨47, _⟩ => ⟨S176x2048, .f32⟩
  | .local _ .vmem, ⟨48, _⟩ => ⟨S1x1800x256, .bf16⟩
  | .local _ .vmem, ⟨49, _⟩ => ⟨S1x1800x256, .bf16⟩
  | .local _ .vmem, ⟨50, _⟩ => ⟨S1800x256, .f32⟩
  | .local _ .vmem, ⟨51, _⟩ => ⟨S1800x256, .f32⟩
  | .local _ .vmem, ⟨52, _⟩ => ⟨S1800x256, .f32⟩
  | .local _ .vmem, ⟨53, _⟩ => ⟨S1800x256, .f32⟩
  | .local _ .vmem, ⟨54, _⟩ => ⟨S1800x256, .f32⟩
  | .local _ .vmem, ⟨55, _⟩ => ⟨S1800x256, .f32⟩
  | .local _ .vmem, ⟨56, _⟩ => ⟨S1800x256, .f32⟩
  | .local _ .vmem, ⟨57, _⟩ => ⟨S1800x256, .f32⟩
  | .local _ .vmem, ⟨58, _⟩ => ⟨S1800x256, .f32⟩
  | .local _ .vmem, ⟨59, _⟩ => ⟨S1800x256, .f32⟩
  | .local _ .vmem, ⟨60, _⟩ => ⟨S1800x256, .f32⟩
  | .local _ .vmem, ⟨61, _⟩ => ⟨S1800x256, .f32⟩
  | .local _ .vmem, ⟨62, _⟩ => ⟨S1800x256, .f32⟩
  | .local _ .vmem, ⟨63, _⟩ => ⟨S1800x256, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v1_0 : Ref sig .tc := ⟨.hbm, 20, rfl⟩
abbrev main_v1_1 : Ref sig .tc := ⟨.hbm, 21, rfl⟩
abbrev main_v1_2 : Ref sig .tc := ⟨.hbm, 22, rfl⟩
abbrev main_v1_3 : Ref sig .tc := ⟨.hbm, 23, rfl⟩
abbrev main_v2_0 : Ref sig .tc := ⟨.hbm, 24, rfl⟩
abbrev main_v2_1 : Ref sig .tc := ⟨.hbm, 25, rfl⟩
abbrev main_v2_2 : Ref sig .tc := ⟨.hbm, 26, rfl⟩
abbrev main_v2_3 : Ref sig .tc := ⟨.hbm, 27, rfl⟩
abbrev main_v3_0 : Ref sig .tc := ⟨.hbm, 28, rfl⟩
abbrev main_v3_1 : Ref sig .tc := ⟨.hbm, 29, rfl⟩
abbrev main_v3_2 : Ref sig .tc := ⟨.hbm, 30, rfl⟩
abbrev main_v3_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S176x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S176x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S176x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S176x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S176x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S176x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S176x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S176x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S1x1800x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1800x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1800x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1800x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1800x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1800x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1800x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1800x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference6Ideal.lean ====
abbrev S2048x1408 : Shape := ⟨2, ![2048, 1408]⟩
abbrev S512x2048 : Shape := ⟨2, ![512, 2048]⟩
abbrev S1408x2048 : Shape := ⟨2, ![1408, 2048]⟩
abbrev S8x1800x256 : Shape := ⟨3, ![8, 1800, 256]⟩
abbrev S1800x2048 : Shape := ⟨2, ![1800, 2048]⟩
abbrev S1800x8x256 : Shape := ⟨3, ![1800, 8, 256]⟩
abbrev S_ : Shape := ⟨0, ![]⟩

abbrev nBuf : Space → Nat
  | .hbm => 151
  | .vmem => 0
  | .smem => 0
  | _ => 0

abbrev hbmTy0_0 (i : Nat) : BufTy := match i % 128 with
  | 0 => ⟨S2048x1408, .f32⟩
  | 1 => ⟨S2048x1408, .f32⟩
  | 2 => ⟨S2048x1408, .f32⟩
  | 3 => ⟨S2048x1408, .f32⟩
  | 4 => ⟨S512x2048, .f32⟩
  | 5 => ⟨S512x2048, .f32⟩
  | 6 => ⟨S512x2048, .f32⟩
  | 7 => ⟨S512x2048, .f32⟩
  | 8 => ⟨S1408x2048, .f32⟩
  | 9 => ⟨S1408x2048, .f32⟩
  | 10 => ⟨S1408x2048, .f32⟩
  | 11 => ⟨S1408x2048, .f32⟩
  | 12 => ⟨S8x1800x256, .bf16⟩
  | 13 => ⟨S1800x2048, .f32⟩
  | 14 => ⟨S1800x2048, .f32⟩
  | 15 => ⟨S1800x2048, .f32⟩
  | 16 => ⟨S8x1800x256, .f32⟩
  | 17 => ⟨S1800x8x256, .f32⟩
  | 18 => ⟨S1800x2048, .f32⟩
  | 19 => ⟨S_, .f32⟩
  | 20 => ⟨S2048x1408, .f32⟩
  | 21 => ⟨S2048x1408, .f32⟩
  | 22 => ⟨S_, .f32⟩
  | 23 => ⟨S2048x1408, .f32⟩
  | 24 => ⟨S2048x1408, .f32⟩
  | 25 => ⟨S2048x1408, .f32⟩
  | 26 => ⟨S_, .f32⟩
  | 27 => ⟨S2048x1408, .f32⟩
  | 28 => ⟨S2048x1408, .f32⟩
  | 29 => ⟨S2048x1408, .f32⟩
  | 30 => ⟨S_, .f32⟩
  | 31 => ⟨S2048x1408, .f32⟩
  | 32 => ⟨S2048x1408, .f32⟩
  | 33 => ⟨S2048x1408, .f32⟩
  | 34 => ⟨S_, .f32⟩
  | 35 => ⟨S2048x1408, .f32⟩
  | 36 => ⟨S2048x1408, .f32⟩
  | 37 => ⟨S_, .f32⟩
  | 38 => ⟨S2048x1408, .f32⟩
  | 39 => ⟨S2048x1408, .f32⟩
  | 40 => ⟨S2048x1408, .f32⟩
  | 41 => ⟨S_, .f32⟩
  | 42 => ⟨S2048x1408, .f32⟩
  | 43 => ⟨S2048x1408, .f32⟩
  | 44 => ⟨S2048x1408, .f32⟩
  | 45 => ⟨S_, .f32⟩
  | 46 => ⟨S2048x1408, .f32⟩
  | 47 => ⟨S2048x1408, .f32⟩
  | 48 => ⟨S2048x1408, .f32⟩
  | 49 => ⟨S_, .f32⟩
  | 50 => ⟨S2048x1408, .f32⟩
  | 51 => ⟨S2048x1408, .f32⟩
  | 52 => ⟨S_, .f32⟩
  | 53 => ⟨S512x2048, .f32⟩
  | 54 => ⟨S512x2048, .f32⟩
  | 55 => ⟨S_, .f32⟩
  | 56 => ⟨S512x2048, .f32⟩
  | 57 => ⟨S512x2048, .f32⟩
  | 58 => ⟨S512x2048, .f32⟩
  | 59 => ⟨S_, .f32⟩
  | 60 => ⟨S512x2048, .f32⟩
  | 61 => ⟨S512x2048, .f32⟩
  | 62 => ⟨S512x2048, .f32⟩
  | 63 => ⟨S_, .f32⟩
  | 64 => ⟨S512x2048, .f32⟩
  | 65 => ⟨S512x2048, .f32⟩
  | 66 => ⟨S512x2048, .f32⟩
  | 67 => ⟨S_, .f32⟩
  | 68 => ⟨S512x2048, .f32⟩
  | 69 => ⟨S512x2048, .f32⟩
  | 70 => ⟨S_, .f32⟩
  | 71 => ⟨S512x2048, .f32⟩
  | 72 => ⟨S512x2048, .f32⟩
  | 73 => ⟨S512x2048, .f32⟩
  | 74 => ⟨S_, .f32⟩
  | 75 => ⟨S512x2048, .f32⟩
  | 76 => ⟨S512x2048, .f32⟩
  | 77 => ⟨S512x2048, .f32⟩
  | 78 => ⟨S_, .f32⟩
  | 79 => ⟨S512x2048, .f32⟩
  | 80 => ⟨S512x2048, .f32⟩
  | 81 => ⟨S512x2048, .f32⟩
  | 82 => ⟨S_, .f32⟩
  | 83 => ⟨S512x2048, .f32⟩
  | 84 => ⟨S512x2048, .f32⟩
  | 85 => ⟨S_, .f32⟩
  | 86 => ⟨S1408x2048, .f32⟩
  | 87 => ⟨S1408x2048, .f32⟩
  | 88 => ⟨S_, .f32⟩
  | 89 => ⟨S1408x2048, .f32⟩
  | 90 => ⟨S1408x2048, .f32⟩
  | 91 => ⟨S1408x2048, .f32⟩
  | 92 => ⟨S_, .f32⟩
  | 93 => ⟨S1408x2048, .f32⟩
  | 94 => ⟨S1408x2048, .f32⟩
  | 95 => ⟨S1408x2048, .f32⟩
  | 96 => ⟨S_, .f32⟩
  | 97 => ⟨S1408x2048, .f32⟩
  | 98 => ⟨S1408x2048, .f32⟩
  | 99 => ⟨S1408x2048, .f32⟩
  | 100 => ⟨S_, .f32⟩
  | 101 => ⟨S1408x2048, .f32⟩
  | 102 => ⟨S1408x2048, .f32⟩
  | 103 => ⟨S_, .f32⟩
  | 104 => ⟨S1408x2048, .f32⟩
  | 105 => ⟨S1408x2048, .f32⟩
  | 106 => ⟨S1408x2048, .f32⟩
  | 107 => ⟨S_, .f32⟩
  | 108 => ⟨S1408x2048, .f32⟩
  | 109 => ⟨S1408x2048, .f32⟩
  | 110 => ⟨S1408x2048, .f32⟩
  | 111 => ⟨S_, .f32⟩
  | 112 => ⟨S1408x2048, .f32⟩
  | 113 => ⟨S1408x2048, .f32⟩
  | 114 => ⟨S1408x2048, .f32⟩
  | 115 => ⟨S_, .f32⟩
  | 116 => ⟨S1408x2048, .f32⟩
  | 117 => ⟨S1408x2048, .f32⟩
  | 118 => ⟨S_, .f32⟩
  | 119 => ⟨S1800x2048, .f32⟩
  | 120 => ⟨S1800x2048, .f32⟩
  | 121 => ⟨S_, .f32⟩
  | 122 => ⟨S1800x2048, .f32⟩
  | 123 => ⟨S1800x2048, .f32⟩
  | 124 => ⟨S1800x2048, .f32⟩
  | 125 => ⟨S_, .f32⟩
  | 126 => ⟨S1800x2048, .f32⟩
  | 127 => ⟨S1800x2048, .f32⟩
  | _ => ⟨S2048x1408, .f32⟩

abbrev hbmTy0_1 (i : Nat) : BufTy := match i % 128 with
  | 0 => ⟨S1800x2048, .f32⟩
  | 1 => ⟨S_, .f32⟩
  | 2 => ⟨S1800x2048, .f32⟩
  | 3 => ⟨S1800x2048, .f32⟩
  | 4 => ⟨S1800x2048, .f32⟩
  | 5 => ⟨S_, .f32⟩
  | 6 => ⟨S1800x2048, .f32⟩
  | 7 => ⟨S1800x2048, .f32⟩
  | 8 => ⟨S_, .f32⟩
  | 9 => ⟨S1800x2048, .f32⟩
  | 10 => ⟨S1800x2048, .f32⟩
  | 11 => ⟨S1800x2048, .f32⟩
  | 12 => ⟨S_, .f32⟩
  | 13 => ⟨S1800x2048, .f32⟩
  | 14 => ⟨S1800x2048, .f32⟩
  | 15 => ⟨S1800x2048, .f32⟩
  | 16 => ⟨S_, .f32⟩
  | 17 => ⟨S1800x2048, .f32⟩
  | 18 => ⟨S1800x2048, .f32⟩
  | 19 => ⟨S1800x2048, .f32⟩
  | 20 => ⟨S_, .f32⟩
  | 21 => ⟨S1800x2048, .f32⟩
  | 22 => ⟨S1800x2048, .f32⟩
  | _ => ⟨S2048x1408, .f32⟩

abbrev hbmTy (i : Nat) : BufTy := match i / 128 with
  | 0 => hbmTy0_0 i
  | 1 => hbmTy0_1 i
  | _ => ⟨S2048x1408, .f32⟩

abbrev bufTy : (tb : Table) → Fin (tcTables nBuf tb) → BufTy
  | .hbm, ⟨i, _⟩ => hbmTy i
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_6 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩
abbrev main_cst_8 : Ref sig .tc := ⟨.hbm, 52, rfl⟩
abbrev main_v27 : Ref sig .tc := ⟨.hbm, 53, rfl⟩
abbrev main_v28 : Ref sig .tc := ⟨.hbm, 54, rfl⟩
abbrev main_cst_9 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_10 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_11 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_12 : Ref sig .tc := ⟨.hbm, 67, rfl⟩
abbrev main_v38 : Ref sig .tc := ⟨.hbm, 68, rfl⟩
abbrev main_v39 : Ref sig .tc := ⟨.hbm, 69, rfl⟩
abbrev main_cst_13 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_14 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_15 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_16 : Ref sig .tc := ⟨.hbm, 82, rfl⟩
abbrev main_v49 : Ref sig .tc := ⟨.hbm, 83, rfl⟩
abbrev main_v50 : Ref sig .tc := ⟨.hbm, 84, rfl⟩
abbrev main_cst_17 : Ref sig .tc := ⟨.hbm, 85, rfl⟩
abbrev main_v51 : Ref sig .tc := ⟨.hbm, 86, rfl⟩
abbrev main_v52 : Ref sig .tc := ⟨.hbm, 87, rfl⟩
abbrev main_cst_18 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_19 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_20 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_21 : Ref sig .tc := ⟨.hbm, 100, rfl⟩
abbrev main_v62 : Ref sig .tc := ⟨.hbm, 101, rfl⟩
abbrev main_v63 : Ref sig .tc := ⟨.hbm, 102, rfl⟩
abbrev main_cst_22 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_23 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_24 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_25 : Ref sig .tc := ⟨.hbm, 115, rfl⟩
abbrev main_v73 : Ref sig .tc := ⟨.hbm, 116, rfl⟩
abbrev main_v74 : Ref sig .tc := ⟨.hbm, 117, rfl⟩
abbrev main_cst_26 : Ref sig .tc := ⟨.hbm, 118, rfl⟩
abbrev main_v75 : Ref sig .tc := ⟨.hbm, 119, rfl⟩
abbrev main_v76 : Ref sig .tc := ⟨.hbm, 120, rfl⟩
abbrev main_cst_27 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_28 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_29 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_30 : Ref sig .tc := ⟨.hbm, 133, rfl⟩
abbrev main_v86 : Ref sig .tc := ⟨.hbm, 134, rfl⟩
abbrev main_v87 : Ref sig .tc := ⟨.hbm, 135, rfl⟩
abbrev main_cst_31 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_32 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_33 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_34 : Ref sig .tc := ⟨.hbm, 148, rfl⟩
abbrev main_v97 : Ref sig .tc := ⟨.hbm, 149, rfl⟩
abbrev main_v98 : Ref sig .tc := ⟨.hbm, 150, rfl⟩

abbrev nD : Nat := 1
abbrev τ : Topo := Topo.v7x

variable {F : FTy → Type} [FloatOps F]
-- ==== Proof.KernelHead.lean ====
/- One head's part of the kernel's body, as vectors: what it computes from the block's gates g and b, queries q, keys k, the
   inverse p, the output's gradient o and the carried gradient s of the state. -/
module

public import proofs.«01_k».proof.Proof.Gen.KernelIdeal.Value

@[expose] public section

noncomputable section

namespace Cert.KernelIdeal.Head

open Idealize.ShloMosaic Cert.KernelIdeal Cert.KernelIdeal.Gen

variable {F : FTy → Type} [FloatOps F]

/-- The causal mask: the row at or after the column. -/
def mask : IVec S64x64 1 := cmpi .sge (iota .tc S64x64 32 [0] iota_S64x64_d0_w32) (iota .tc S64x64 32 [1] iota_S64x64_d1_w32)

/-- Rows scaled to unit length. -/
def unitRows (x : FVec F S64x128 .f32) : FVec F S64x128 .f32 :=
  mulf x (broadcastTo S64x128 (rsqrt (addf (shapeCast S64x1 (multiReduction .add [1] S64 (mulf x x) 0x00000000#32 reduces_S64x128_S64 (.inl rfl) rfl) shapeCasts_S64_S64x1)
    (broadcast S64x1 (Scalar.ofBits .f32 0x358637BD#32)))) broadcasts_S64x1_S64x128)

def qn (q : FVec F S64x128 .f32) : FVec F S64x128 .f32 := mulf (unitRows q) (broadcast S64x128 (Scalar.ofBits .f32 0x3DB504F3#32))

/-- The running sums of the gates in every column, by a product with the mask, the gates cut in three. -/
def sums (g : FVec F S64x1 .f32) : FVec F S64x64 .f32 :=
  let cf : FVec F S64x64 .bf16 := truncf .bf16 (sitofp .f32 (extui 32 mask natLt_1_32) : FVec F S64x64 .f32) bitsLt_bf16_f32
  let x : FVec F S64x64 .f32 := broadcastTo S64x64 (shapeCast S64x1 g shapeCasts_S64x1_S64x1) broadcasts_S64x1_S64x64
  let x1 : FVec F S64x64 .bf16 := truncf .bf16 x bitsLt_bf16_f32
  let y : FVec F S64x64 .f32 := subf x (extf .f32 x1 bitsLt_bf16_f32)
  let y1 : FVec F S64x64 .bf16 := truncf .bf16 y bitsLt_bf16_f32
  let z : FVec F S64x64 .bf16 := truncf .bf16 (subf y (extf .f32 y1 bitsLt_bf16_f32)) bitsLt_bf16_f32
  addf (matmul dot_S64x64_S64x64_S64x64_1_0_0_1_n_n none cf x1 (constant S64x64 .f32 0x00000000#32))
    (addf (matmul dot_S64x64_S64x64_S64x64_1_0_0_1_n_n none cf y1 (constant S64x64 .f32 0x00000000#32))
      (matmul dot_S64x64_S64x64_S64x64_1_0_0_1_n_n none cf z (constant S64x64 .f32 0x00000000#32)))

def gc (g : FVec F S64x1 .f32) : FVec F S64x1 .f32 := extractStridedSlice S64x1 ![0, 0] (sums g) slices_S64x64_o0_0_S64x1

def decay (g : FVec F S64x1 .f32) : FVec F S64x64 .f32 :=
  select mask (exp (select mask (subf (sums g) (transpose S64x64 [1, 0] (sums g) transposes_S64x64_p1_0_S64x64))
    (broadcast S64x64 (Scalar.ofBits .f32 0x00000000#32)))) (broadcast S64x64 (Scalar.ofBits .f32 0x00000000#32))

def qk (g : FVec F S64x1 .f32) (q k : FVec F S64x128 .f32) : FVec F S64x64 .f32 :=
  select mask (mulf (matmul dot_S64x128_S64x128_S64x64_1_1_0_0_n_n none (truncf .bf16 (qn q) bitsLt_bf16_f32) (truncf .bf16 (unitRows k) bitsLt_bf16_f32)
    (constant S64x64 .f32 0x00000000#32)) (decay g)) (broadcast S64x64 (Scalar.ofBits .f32 0x00000000#32))

def last (g : FVec F S64x1 .f32) : FVec F S1x1 .f32 := extractStridedSlice S1x1 ![63, 0] (gc g) slices_S64x1_o63_0_S1x1

def kd (g : FVec F S64x1 .f32) (k : FVec F S64x128 .f32) : FVec F S64x128 .f32 :=
  mulf (unitRows k) (broadcastTo S64x128 (exp (subf (broadcastTo S64x1 (last g) broadcasts_S1x1_S64x1) (gc g))) broadcasts_S64x1_S64x128)

def mat (p : FVec F S1x1x64x64 .f32) : FVec F S64x64 .bf16 := truncf .bf16 (shapeCast S64x64 p shapeCasts_S1x1x64x64_S64x64) bitsLt_bf16_f32

def w (g b : FVec F S64x1 .f32) (k : FVec F S64x128 .f32) (p : FVec F S1x1x64x64 .f32) : FVec F S64x128 .f32 :=
  matmul dot_S64x64_S64x128_S64x128_1_0_0_1_n_n none (mat p)
    (truncf .bf16 (mulf (mulf (unitRows k) (broadcastTo S64x128 b broadcasts_S64x1_S64x128)) (broadcastTo S64x128 (exp (gc g)) broadcasts_S64x1_S64x128)) bitsLt_bf16_f32)
    (constant S64x128 .f32 0x00000000#32)

def qd (g : FVec F S64x1 .f32) (q : FVec F S64x128 .f32) : FVec F S64x128 .f32 :=
  mulf (qn q) (broadcastTo S64x128 (exp (gc g)) broadcasts_S64x1_S64x128)

/-- What a transposed product leaves after it passed the narrow format. -/
def thru {S : Shape} (x : FVec F S .f32) : FVec F S .f32 := extf .f32 (truncf .bf16 x bitsLt_bf16_f32) bitsLt_bf16_f32

def st (s : FVec F S1x128x128 .f32) : FVec F S128x128 .f32 :=
  shapeCast S128x128 (shapeCast S128x128 s shapeCasts_S1x128x128_S128x128) shapeCasts_S128x128_S128x128

def ct (o : FVec F S64x128 .f32) : FVec F S64x128 .f32 := shapeCast S64x128 o shapeCasts_S64x128_S64x128

/-- The gradient of the new values. -/
def dvn (g : FVec F S64x1 .f32) (q k o : FVec F S64x128 .f32) (s : FVec F S1x128x128 .f32) : FVec F S64x128 .f32 :=
  addf (thru (transpose S64x128 [1, 0] (matmul dot_S128x128_S64x128_S128x64_0_1_1_0_n_n none (st s) (truncf .bf16 (kd g k) bitsLt_bf16_f32)
      (constant S128x64 .f32 0x00000000#32)) transposes_S128x64_p1_0_S64x128))
    (thru (transpose S64x128 [1, 0] (matmul dot_S64x128_S64x64_S128x64_0_0_1_1_n_n none (ct o) (truncf .bf16 (qk g q k) bitsLt_bf16_f32)
      (constant S128x64 .f32 0x00000000#32)) transposes_S128x64_p1_0_S64x128))

/-- The gradient of the values. -/
def dv (g b : FVec F S64x1 .f32) (q k o : FVec F S64x128 .f32) (p : FVec F S1x1x64x64 .f32) (s : FVec F S1x128x128 .f32) : FVec F S64x128 .f32 :=
  mulf (thru (transpose S64x128 [1, 0] (matmul dot_S64x128_S64x64_S128x64_0_0_1_1_n_n none (dvn g q k o s) (mat p)
      (constant S128x64 .f32 0x00000000#32)) transposes_S128x64_p1_0_S64x128))
    (broadcastTo S64x128 b broadcasts_S64x1_S64x128)

/-- The gradient of the state before the chunk, as it is stored. -/
def dS (g b : FVec F S64x1 .f32) (q k o : FVec F S64x128 .f32) (p : FVec F S1x1x64x64 .f32) (s : FVec F S1x128x128 .f32) : FVec F S1x128x128 .f32 :=
  shapeCast S1x128x128
    (addf
      (addf (mulf (st s) (broadcastTo S128x128 (exp (last g)) broadcasts_S1x1_S128x128))
        (thru (transpose S128x128 [1, 0] (matmul dot_S64x128_S64x128_S128x128_0_0_1_1_n_n none (ct o) (truncf .bf16 (qd g q) bitsLt_bf16_f32)
          (constant S128x128 .f32 0x00000000#32)) transposes_S128x128_p1_0_S128x128)))
      (thru (transpose S128x128 [1, 0] (matmul dot_S64x128_S64x128_S128x128_0_0_1_1_n_n none
          (subf (broadcast S64x128 (Scalar.ofBits .f32 0x00000000#32)) (dvn g q k o s)) (truncf .bf16 (w g b k p) bitsLt_bf16_f32)
          (constant S128x128 .f32 0x00000000#32)) transposes_S128x128_p1_0_S128x128)))
    shapeCasts_S128x128_S1x128x128

end Cert.KernelIdeal.Head

end
-- ==== Proof.KernelBlock.lean ====
/- What one grid point leaves, as heads: the columns of v's part of the output block are the heads' gradients of the values, and
   the scratch's slabs are the heads' gradients of the state. -/
module

public import proofs.«01_k».proof.Proof.KernelHead
public import Idealize.ShloMosaic.Lib.Pointwise
public import Mathlib.Tactic.IntervalCases

@[expose] public section

set_option maxRecDepth 16384

noncomputable section

namespace Cert.KernelIdeal.Block

open Idealize.ShloMosaic Idealize.ShloMosaic.TcCoe Idealize.ShloMosaic.Tactic Cert.KernelIdeal Cert.KernelIdeal.Gen

variable {F : FTy → Type} [FloatOps F]

/-! A block written piece by piece, read at an index. -/

section Pieces

variable {Val : EltTy → Type} [∀ e, Nonempty (Val e)] {τ' : EltTy}

theorem skip_cols {N o : ℕ} (inb : ∀ a, (![0, o] : Fin 2 → ℕ) a + (![64, 128] : Fin 2 → ℕ) a ≤ (⟨2, ![64, N]⟩ : Shape).size a)
    (w : (Rect.unit (s := ⟨2, ![64, N]⟩) ![0, o] ![64, 128] inb).shape.Idx → Val τ') (L : List (View.Piece Val ⟨2, ![64, N]⟩ τ'))
    (r : Fin 64) (c : Fin N) (h : c.val < o ∨ o + 128 ≤ c.val) :
    View.canon ((⟨Rect.unit (s := ⟨2, ![64, N]⟩) ![0, o] ![64, 128] inb, w⟩ : View.Piece Val ⟨2, ![64, N]⟩ τ') :: L) (ix2 r c) = View.canon L (ix2 r c) := by
  refine View.canon_cons_of_not_mem _ L fun hm => ?_
  have hs : (ix2 r c : (⟨2, ![64, N]⟩ : Shape).Idx) ∈ (Rect.unit (s := ⟨2, ![64, N]⟩) ![0, o] ![64, 128] inb).set := hm
  rw [Rect.mem_set_unit] at hs
  have h1 : o ≤ c.val ∧ c.val < o + 128 := hs (1 : Fin 2)
  omega

theorem hit_cols {N o : ℕ} (inb : ∀ a, (![0, o] : Fin 2 → ℕ) a + (![64, 128] : Fin 2 → ℕ) a ≤ (⟨2, ![64, N]⟩ : Shape).size a)
    (w : (Rect.unit (s := ⟨2, ![64, N]⟩) ![0, o] ![64, 128] inb).shape.Idx → Val τ') (L : List (View.Piece Val ⟨2, ![64, N]⟩ τ'))
    (r : Fin 64) (c : Fin N) (e : Fin 128) (h : c.val = o + e.val) :
    View.canon ((⟨Rect.unit (s := ⟨2, ![64, N]⟩) ![0, o] ![64, 128] inb, w⟩ : View.Piece Val ⟨2, ![64, N]⟩ τ') :: L) (ix2 r c)
      = w (ix2 r e : (⟨2, ![64, 128]⟩ : Shape).Idx) := by
  have hx : (ix2 r c : (⟨2, ![64, N]⟩ : Shape).Idx)
      = (Rect.unit (s := ⟨2, ![64, N]⟩) ![0, o] ![64, 128] inb).emb (ix2 r e : (⟨2, ![64, 128]⟩ : Shape).Idx) := by
    funext a
    refine Fin.ext ?_
    match a with
    | ⟨0, _⟩ => show r.val = 0 + 1 * r.val; omega
    | ⟨1, _⟩ => show c.val = o + 1 * e.val; omega
  rw [hx]
  exact View.canon_cons_emb _ w L _

theorem skip_slab {o : ℕ} (inb : ∀ a, (![o, 0, 0] : Fin 3 → ℕ) a + (![1, 128, 128] : Fin 3 → ℕ) a ≤ (⟨3, ![8, 128, 128]⟩ : Shape).size a)
    (w : (Rect.unit (s := ⟨3, ![8, 128, 128]⟩) ![o, 0, 0] ![1, 128, 128] inb).shape.Idx → Val τ') (L : List (View.Piece Val ⟨3, ![8, 128, 128]⟩ τ'))
    (h : Fin 8) (d e : Fin 128) (hn : h.val ≠ o) :
    View.canon ((⟨Rect.unit (s := ⟨3, ![8, 128, 128]⟩) ![o, 0, 0] ![1, 128, 128] inb, w⟩ : View.Piece Val ⟨3, ![8, 128, 128]⟩ τ') :: L) (ix3 h d e)
      = View.canon L (ix3 h d e) := by
  refine View.canon_cons_of_not_mem _ L fun hm => ?_
  have hs : (ix3 h d e : (⟨3, ![8, 128, 128]⟩ : Shape).Idx) ∈ (Rect.unit (s := ⟨3, ![8, 128, 128]⟩) ![o, 0, 0] ![1, 128, 128] inb).set := hm
  rw [Rect.mem_set_unit] at hs
  have h1 : o ≤ h.val ∧ h.val < o + 1 := hs (0 : Fin 3)
  omega

theorem hit_slab {o : ℕ} (inb : ∀ a, (![o, 0, 0] : Fin 3 → ℕ) a + (![1, 128, 128] : Fin 3 → ℕ) a ≤ (⟨3, ![8, 128, 128]⟩ : Shape).size a)
    (w : (Rect.unit (s := ⟨3, ![8, 128, 128]⟩) ![o, 0, 0] ![1, 128, 128] inb).shape.Idx → Val τ') (L : List (View.Piece Val ⟨3, ![8, 128, 128]⟩ τ'))
    (h : Fin 8) (d e : Fin 128) (hn : h.val = o) :
    View.canon ((⟨Rect.unit (s := ⟨3, ![8, 128, 128]⟩) ![o, 0, 0] ![1, 128, 128] inb, w⟩ : View.Piece Val ⟨3, ![8, 128, 128]⟩ τ') :: L) (ix3 h d e)
      = w (ix3 (0 : Fin 1) d e : (⟨3, ![1, 128, 128]⟩ : Shape).Idx) := by
  have hx : (ix3 h d e : (⟨3, ![8, 128, 128]⟩ : Shape).Idx)
      = (Rect.unit (s := ⟨3, ![8, 128, 128]⟩) ![o, 0, 0] ![1, 128, 128] inb).emb (ix3 (0 : Fin 1) d e : (⟨3, ![1, 128, 128]⟩ : Shape).Idx) := by
    funext a
    refine Fin.ext ?_
    match a with
    | ⟨0, _⟩ => show h.val = o + 1 * 0; omega
    | ⟨1, _⟩ => show d.val = 0 + 1 * d.val; omega
    | ⟨2, _⟩ => show e.val = 0 + 1 * e.val; omega
  rw [hx]
  exact View.canon_cons_emb _ w L _

end Pieces

/-! What a head reads of the blocks. -/

abbrev rQ (o : ℕ) (ho : o + 128 ≤ 3072) : Rect S64x3072 := Rect.unit ![0, o] S64x128.size (fun a => match a with
  | ⟨0, _⟩ => (by show 0 + 64 ≤ 64; omega) | ⟨1, _⟩ => ho)

abbrev rO (o : ℕ) (ho : o + 128 ≤ 1024) : Rect S64x1024 := Rect.unit ![0, o] S64x128.size (fun a => match a with
  | ⟨0, _⟩ => (by show 0 + 64 ≤ 64; omega) | ⟨1, _⟩ => ho)

abbrev rP (h : Fin 8) : Rect S1x8x64x64 := Rect.unit ![0, h.val, 0, 0] S1x1x64x64.size (fun a => match a with
  | ⟨0, _⟩ => (by show 0 + 1 ≤ 1; omega) | ⟨1, _⟩ => (by show h.val + 1 ≤ 8; omega) | ⟨2, _⟩ => (by show 0 + 64 ≤ 64; omega)
  | ⟨3, _⟩ => (by show 0 + 64 ≤ 64; omega))

abbrev rS (h : Fin 8) : Rect S8x128x128 := Rect.unit ![h.val, 0, 0] S1x128x128.size (fun a => match a with
  | ⟨0, _⟩ => (by show h.val + 1 ≤ 8; omega) | ⟨1, _⟩ => (by show 0 + 128 ≤ 128; omega) | ⟨2, _⟩ => (by show 0 + 128 ≤ 128; omega))

theorem slices_col (o : ℕ) (ho : o + 1 ≤ 128) : S64x128.Slices ![0, o] S64x1 := ⟨rfl, fun a => match a with
  | ⟨0, _⟩ => (by show 0 + 64 ≤ 64; omega) | ⟨1, _⟩ => ho⟩

/-- One column of the gates' block. -/
abbrev col (x : Vec F S64x128 .f32) (o : ℕ) (ho : o + 1 ≤ 128) : FVec F S64x1 .f32 := extractStridedSlice S64x1 ![0, o] x (slices_col o ho)

/-- A load of a whole buffer's contents through a rectangle. -/
theorem load {sig : RefSig} {κ : Kind} {sp : Space} {s : Shape} {e : EltTy} {arg : Memref sig κ sp s e} (harg : arg.IsWhole)
    (x : s.Idx → Elt F e) (r : Rect s) : View.readAt (Elt F) arg.view r.toLoadRect (harg.unread x) = View.ld x r := by
  rw [View.readAt_eq_ld, harg.read_unread]

/-- A load of the whole gates' block. -/
theorem load_gates {arg : Memref sig .tc .vmem S64x128 .f32} (harg : arg.IsWhole) (x : S64x128.Idx → Elt F .f32)
    (inb : ∀ a, (![0, 0] : Fin 2 → ℕ) a + S64x128.size a ≤ S64x128.size a) :
    View.readAt (Elt F) arg.view (Rect.unit (s := S64x128) ![0, 0] S64x128.size inb).toLoadRect (harg.unread x) = x := by
  rw [load]
  funext y
  show x _ = x y
  congr 1
  funext a
  refine Fin.ext ?_
  match a with
  | ⟨0, _⟩ => show 0 + 1 * (y 0).val = (y 0).val; omega
  | ⟨1, _⟩ => show 0 + 1 * (y 1).val = (y 1).val; omega

/-- Head `h`'s gradient of the values, of the blocks. -/
def dv (x0 : Vec F S64x3072 .f32) (x1 : Vec F S64x128 .f32) (x3 : Vec F S1x8x64x64 .f32) (x4 : Vec F S64x1024 .f32) (s : FVec F S1x128x128 .f32)
    (h : Fin 8) : FVec F S64x128 .f32 :=
  Head.dv (col x1 h.val (by omega)) (col x1 (8 + h.val) (by omega)) (View.ld x0 (rQ (h.val * 128) (by omega)))
    (View.ld x0 (rQ (1024 + h.val * 128) (by omega))) (View.ld x4 (rO (h.val * 128) (by omega))) (View.ld x3 (rP h)) s

/-- Head `h`'s gradient of the state, of the blocks. -/
def dS (x0 : Vec F S64x3072 .f32) (x1 : Vec F S64x128 .f32) (x3 : Vec F S1x8x64x64 .f32) (x4 : Vec F S64x1024 .f32) (s : FVec F S1x128x128 .f32)
    (h : Fin 8) : FVec F S1x128x128 .f32 :=
  Head.dS (col x1 h.val (by omega)) (col x1 (8 + h.val) (by omega)) (View.ld x0 (rQ (h.val * 128) (by omega)))
    (View.ld x0 (rQ (1024 + h.val * 128) (by omega))) (View.ld x4 (rO (h.val * 128) (by omega))) (View.ld x3 (rP h)) s

/-- The state a run starts from. -/
def zeros : Vec F S8x128x128 .f32 := broadcast S8x128x128 (Scalar.ofBits .f32 0x00000000#32)

variable (c : Dev nD) (i : grid0.Coords) (arg1 : Memref sig .tc .vmem S64x3072 .f32) (harg1 : arg1.IsWhole) (arg2 : Memref sig .tc .vmem S64x128 .f32) (harg2 : arg2.IsWhole) (arg3 : Memref sig .tc .vmem S1x8x128x128 .f32) (harg3 : arg3.IsWhole) (arg4 : Memref sig .tc .vmem S1x8x64x64 .f32) (harg4 : arg4.IsWhole) (arg5 : Memref sig .tc .vmem S64x1024 .f32) (harg5 : arg5.IsWhole) (arg6 : Memref sig .tc .vmem S64x3072 .f32) (harg6 : arg6.IsWhole) (arg7 : Memref sig .tc .vmem S64x128 .f32) (harg7 : arg7.IsWhole) (arg8 : Memref sig .tc .vmem S8x128x128 .f32) (harg8 : arg8.IsWhole)
  (x0 : Vec F S64x3072 .f32) (x1 : Vec F S64x128 .f32) (x2 : Vec F S1x8x128x128 .f32) (x3 : Vec F S1x8x64x64 .f32) (x4 : Vec F S64x1024 .f32) (xs0 : Vec F S8x128x128 .f32)

/-- Head `h`'s loads, as the body makes them. -/
def rawDv (s : FVec F S1x128x128 .f32) (h : Fin 8) : FVec F S64x128 .f32 :=
  Head.dv (col (View.readAt (Elt F) arg2.view (Rect.unit (s := S64x128) ![0, 0] S64x128.size inb_S64x128_S64x128_0_0).toLoadRect (harg2.unread x1)) h.val (by omega))
    (col (View.readAt (Elt F) arg2.view (Rect.unit (s := S64x128) ![0, 0] S64x128.size inb_S64x128_S64x128_0_0).toLoadRect (harg2.unread x1)) (8 + h.val) (by omega))
    (View.readAt (Elt F) arg1.view (rQ (h.val * 128) (by omega)).toLoadRect (harg1.unread x0))
    (View.readAt (Elt F) arg1.view (rQ (1024 + h.val * 128) (by omega)).toLoadRect (harg1.unread x0))
    (View.readAt (Elt F) arg5.view (rO (h.val * 128) (by omega)).toLoadRect (harg5.unread x4))
    (View.readAt (Elt F) arg4.view (rP h).toLoadRect (harg4.unread x3)) s

def rawDS (s : FVec F S1x128x128 .f32) (h : Fin 8) : FVec F S1x128x128 .f32 :=
  Head.dS (col (View.readAt (Elt F) arg2.view (Rect.unit (s := S64x128) ![0, 0] S64x128.size inb_S64x128_S64x128_0_0).toLoadRect (harg2.unread x1)) h.val (by omega))
    (col (View.readAt (Elt F) arg2.view (Rect.unit (s := S64x128) ![0, 0] S64x128.size inb_S64x128_S64x128_0_0).toLoadRect (harg2.unread x1)) (8 + h.val) (by omega))
    (View.readAt (Elt F) arg1.view (rQ (h.val * 128) (by omega)).toLoadRect (harg1.unread x0))
    (View.readAt (Elt F) arg1.view (rQ (1024 + h.val * 128) (by omega)).toLoadRect (harg1.unread x0))
    (View.readAt (Elt F) arg5.view (rO (h.val * 128) (by omega)).toLoadRect (harg5.unread x4))
    (View.readAt (Elt F) arg4.view (rP h).toLoadRect (harg4.unread x3)) s

omit c i arg3 harg3 arg6 harg6 arg7 harg7 arg8 harg8 x2 xs0 in
theorem rawDv_eq (s : FVec F S1x128x128 .f32) (h : Fin 8) : rawDv arg1 harg1 arg2 harg2 arg4 harg4 arg5 harg5 x0 x1 x3 x4 s h = dv x0 x1 x3 x4 s h := by
  unfold rawDv dv
  rw [load_gates]
  simp only [load]

omit c i arg3 harg3 arg6 harg6 arg7 harg7 arg8 harg8 x2 xs0 in
theorem rawDS_eq (s : FVec F S1x128x128 .f32) (h : Fin 8) : rawDS arg1 harg1 arg2 harg2 arg4 harg4 arg5 harg5 x0 x1 x3 x4 s h = dS x0 x1 x3 x4 s h := by
  unfold rawDS dS
  rw [load_gates]
  simp only [load]

/-- The state a run starts from, as the body loads it. -/
theorem readCov_zeros (h : Fin 8) : arg8.view.readCov [(⟨Rect.unit (s := S8x128x128) ![0, 0, 0] S8x128x128.size inb_S8x128x128_S8x128x128_0_0_0, k0_pay1 (F := F)⟩
    : View.Piece (Elt F) S8x128x128 .f32)] (rS h).toLoadRect = View.ld (Val := Elt F) (zeros (F := F)) (rS h) := by
  rw [View.readCov_eq_canon']
  funext y
  rw [View.canon_unit_zero (by funext a; match a with | ⟨0, _⟩ => rfl | ⟨1, _⟩ => rfl | ⟨2, _⟩ => rfl)]
  rfl

theorem out_B (hc0 : ¬cond0_0 i) (h : Fin 8) (r : Fin 64) (e : Fin 128) :
    out0_B_5 c i arg1 harg1 arg2 harg2 arg3 harg3 arg4 harg4 arg5 harg5 arg6 harg6 arg7 harg7 arg8 harg8 hc0 x0 x1 x2 x3 x4 xs0 (ix2 r (⟨2048 + (h.val * 128 + e.val), by omega⟩ : Fin 3072))
      = dv x0 x1 x3 x4 (View.ld xs0 (rS h)) h (ix2 r e) := by
  rw [← rawDv_eq arg1 harg1 arg2 harg2 arg4 harg4 arg5 harg5, ← load harg8]
  unfold out0_B_5
  rw [View.read_writes_junk_eq_canon]
  unfold kernelRun0_B
  dsimp only
  obtain ⟨h, hh⟩ := h
  try dsimp only
  interval_cases h
  all_goals
    repeat rw [skip_cols _ _ _ _ _ (by dsimp only; omega)]
    rw [hit_cols _ _ _ _ _ e (by dsimp only; omega)]
    rfl

theorem state_B (hc0 : ¬cond0_0 i) (h : Fin 8) (d e : Fin 128) :
    sout0_B_0 c i arg1 harg1 arg2 harg2 arg3 harg3 arg4 harg4 arg5 harg5 arg6 harg6 arg7 harg7 arg8 harg8 hc0 x0 x1 x2 x3 x4 xs0 (ix3 h d e) = dS x0 x1 x3 x4 (View.ld xs0 (rS h)) h (ix3 (0 : Fin 1) d e) := by
  rw [← rawDS_eq arg1 harg1 arg2 harg2 arg4 harg4 arg5 harg5, ← load harg8]
  unfold sout0_B_0
  rw [View.read_writes_junk_eq_canon]
  unfold kernelRun0_B
  dsimp only
  obtain ⟨h, hh⟩ := h
  try dsimp only
  interval_cases h
  all_goals
    repeat rw [skip_slab _ _ _ _ _ _ (by dsimp only; omega)]
    rw [hit_slab _ _ _ _ _ _ (by dsimp only)]
    rfl

theorem out_A (hc0 : cond0_0 i) (h : Fin 8) (r : Fin 64) (e : Fin 128) :
    out0_A_5 c i arg1 harg1 arg2 harg2 arg3 harg3 arg4 harg4 arg5 harg5 arg6 harg6 arg7 harg7 arg8 harg8 hc0 x0 x1 x2 x3 x4 (ix2 r (⟨2048 + (h.val * 128 + e.val), by omega⟩ : Fin 3072))
      = dv x0 x1 x3 x4 (View.ld (Val := Elt F) (zeros (F := F)) (rS h)) h (ix2 r e) := by
  rw [← rawDv_eq arg1 harg1 arg2 harg2 arg4 harg4 arg5 harg5, ← readCov_zeros arg8]
  unfold out0_A_5
  rw [View.read_writes_junk_eq_canon]
  unfold kernelRun0_A
  dsimp only
  obtain ⟨h, hh⟩ := h
  try dsimp only
  interval_cases h
  all_goals
    repeat rw [skip_cols _ _ _ _ _ (by dsimp only; omega)]
    rw [hit_cols _ _ _ _ _ e (by dsimp only; omega)]
    rfl

theorem state_A (hc0 : cond0_0 i) (h : Fin 8) (d e : Fin 128) :
    sout0_A_0 c i arg1 harg1 arg2 harg2 arg3 harg3 arg4 harg4 arg5 harg5 arg6 harg6 arg7 harg7 arg8 harg8 hc0 x0 x1 x2 x3 x4 (ix3 h d e) = dS x0 x1 x3 x4 (View.ld (Val := Elt F) (zeros (F := F)) (rS h)) h (ix3 (0 : Fin 1) d e) := by
  rw [← rawDS_eq arg1 harg1 arg2 harg2 arg4 harg4 arg5 harg5, ← readCov_zeros arg8]
  unfold sout0_A_0
  rw [View.read_writes_junk_eq_canon]
  unfold kernelRun0_A
  dsimp only
  obtain ⟨h, hh⟩ := h
  try dsimp only
  interval_cases h
  all_goals
    repeat rw [skip_slab _ _ _ _ _ _ (by dsimp only; omega)]
    rw [hit_slab _ _ _ _ _ _ (by dsimp only)]
    rfl

end Cert.KernelIdeal.Block

end
-- ==== Proof.Spec.lean ====
/- What one chunk of one head of the gated delta rule hands back: the gradient of the chunk's values, and the gradient of
   the state before the chunk from that of the state after it. Every function here is over the extended reals and over
   plain indices, so that the kernel's blocks and the reference's whole arrays are both read as these functions. -/
module

public import Idealize.ShloMosaic.Lib.Pointwise

@[expose] public section

noncomputable section

namespace Cert.Spec

open Idealize.ShloMosaic

/-- What one chunk of one head reads: the rows of q and k before their normalisation, the log-decay, the write strength,
    the inverse of the chunk's triangular system, and the incoming gradient of the output. -/
structure Chunk where
  q : Fin 64 → Fin 128 → EReal
  k : Fin 64 → Fin 128 → EReal
  g : Fin 64 → EReal
  b : Fin 64 → EReal
  p : Fin 64 → Fin 64 → EReal
  ct : Fin 64 → Fin 128 → EReal

/-- A row scaled to unit length. -/
def unitRow (x : Fin 64 → Fin 128 → EReal) (i : Fin 64) (d : Fin 128) : EReal :=
  x i d * Ideal.rsqrt ((∑ l : Fin 128, x i l * x i l) + Ideal.ofBits .f32 0x358637BD#32)

variable (c : Chunk)

/-- The query, scaled. -/
def Chunk.qn (i : Fin 64) (d : Fin 128) : EReal := unitRow c.q i d * Ideal.ofBits .f32 0x3DB504F3#32

/-- The key. -/
def Chunk.kn (i : Fin 64) (d : Fin 128) : EReal := unitRow c.k i d

/-- The log-decay summed from the chunk's start. -/
def Chunk.gc (i : Fin 64) : EReal := ∑ j : Fin 64, if j ≤ i then c.g j else 0

/-- The masked decay between two rows. -/
def Chunk.decay (i j : Fin 64) : EReal := if j ≤ i then Ideal.exp (c.gc i - c.gc j) else 0

/-- The chunk's own attention. -/
def Chunk.qk (i j : Fin 64) : EReal := (∑ d : Fin 128, c.qn i d * c.kn j d) * c.decay i j

/-- The query decayed from the chunk's start. -/
def Chunk.qd (i : Fin 64) (d : Fin 128) : EReal := c.qn i d * Ideal.exp (c.gc i)

/-- The key decayed to the chunk's end. -/
def Chunk.kd (i : Fin 64) (d : Fin 128) : EReal := c.kn i d * Ideal.exp (c.gc 63 - c.gc i)

/-- What the state's old contents are read with. -/
def Chunk.w (i : Fin 64) (d : Fin 128) : EReal := ∑ s : Fin 64, c.p i s * (c.kn s d * c.b s * Ideal.exp (c.gc s))

/-- The gradient of the chunk's new values, from the gradient `S` of the state after the chunk. -/
def Chunk.dvn (S : Fin 128 → Fin 128 → EReal) (i : Fin 64) (e : Fin 128) : EReal :=
  (∑ d : Fin 128, S d e * c.kd i d) + ∑ s : Fin 64, c.ct s e * c.qk s i

/-- The gradient of the chunk's values. -/
def Chunk.dv (S : Fin 128 → Fin 128 → EReal) (i : Fin 64) (e : Fin 128) : EReal :=
  (∑ s : Fin 64, c.dvn S s e * c.p s i) * c.b i

/-- The gradient of the state before the chunk. -/
def Chunk.dS (S : Fin 128 → Fin 128 → EReal) (d e : Fin 128) : EReal :=
  S d e * Ideal.exp (c.gc 63) + (∑ s : Fin 64, c.ct s e * c.qd s d) + ∑ s : Fin 64, -c.dvn S s e * c.w s d

/-- The gradient of the state after `n` chunks have been walked, the last chunk first. -/
def state (C : ℕ → Chunk) : ℕ → Fin 128 → Fin 128 → EReal
  | 0 => fun _ _ => 0
  | n + 1 => (C n).dS (state C n)

end Cert.Spec

end
-- ==== Proof.Cumsum.lean ====
/- The host's running sum along the last of three axes, as the host program states it (a window as long as the axis, padded
   below by one less): at an index it is the sum of the entries up to that one. -/
module

public import Idealize.ShloMosaic.Lib.Pointwise

@[expose] public section

noncomputable section

namespace Cert.Cumsum

open Idealize.ShloMosaic

/-- A left fold that adds is the sum. -/
theorem foldl_add_eq {n : ℕ} (f : Fin n → EReal) : (List.finRange n).foldl (fun r k => r + f k) 0 = ∑ k, f k := by
  rw [← List.sum_ofFn, ← List.foldl_map, ← List.sum_eq_foldl, List.ofFn_eq_map]

/-- The entries of a padded window, the padding reading 0, are the entries up to `i`. -/
theorem sum_window {L N : ℕ} (hL : L + 1 = N) (i : Fin N) (x : Fin N → EReal) :
    (∑ w : Fin N, if hin : L ≤ i.val + w.val ∧ i.val + w.val - L < N then x ⟨i.val + w.val - L, hin.2⟩ else 0)
      = ∑ j : Fin N, if j ≤ i then x j else 0 := by
  have e : ∀ w : Fin N, (if hin : L ≤ i.val + w.val ∧ i.val + w.val - L < N then x ⟨i.val + w.val - L, hin.2⟩ else 0)
      = if L ≤ i.val + w.val then x ⟨i.val + w.val - L, by omega⟩ else 0 := by
    intro w
    by_cases h : L ≤ i.val + w.val
    · rw [dif_pos ⟨h, by omega⟩, if_pos h]
    · rw [dif_neg (fun hh => h hh.1), if_neg h]
  rw [Finset.sum_congr rfl fun w _ => e w, ← Finset.sum_filter, ← Finset.sum_filter]
  refine Finset.sum_bij' (fun w _ => ⟨i.val + w.val - L, by omega⟩) (fun j hj => ⟨j.val + L - i.val, ?_⟩) ?_ ?_ ?_ ?_ ?_
  · have : j ≤ i := (Finset.mem_filter.mp hj).2
    have := Fin.le_def.mp this
    omega
  · intro w hw
    have := (Finset.mem_filter.mp hw).2
    refine Finset.mem_filter.mpr ⟨Finset.mem_univ _, Fin.le_def.mpr ?_⟩
    show i.val + w.val - L ≤ i.val
    omega
  · intro j hj
    have h := Fin.le_def.mp (Finset.mem_filter.mp hj).2
    refine Finset.mem_filter.mpr ⟨Finset.mem_univ _, ?_⟩
    show L ≤ i.val + (j.val + L - i.val)
    omega
  · intro w hw
    have := (Finset.mem_filter.mp hw).2
    refine Fin.ext ?_
    show i.val + w.val - L + L - i.val = w.val
    omega
  · intro j hj
    have h := Fin.le_def.mp (Finset.mem_filter.mp hj).2
    refine Fin.ext ?_
    show i.val + (j.val + L - i.val) - L = j.val
    omega
  · intro w hw
    rfl

/-- The running sum at an index. -/
theorem reduceWindowAdd_apply {A B : ℕ} (x : FVec Ideal ⟨3, ![A, B, 64]⟩ .f32) {u : Shape} (init : u.Idx → EReal) (hu : 0 < u.numel)
    (hinit : init (Shape.Idx.first hu) = 0)
    (h : (⟨3, ![A, B, 64]⟩ : Shape).ReduceWindows (![1, 1, 64] : Fin 3 → Nat) ![1, 1, 1] ![0, 0, 63] ![0, 0, 0] ⟨3, ![A, B, 64]⟩)
    (a : Fin A) (b : Fin B) (i : Fin 64) :
    Host.reduceWindowAdd (F := Ideal) (![1, 1, 64] : Fin 3 → Nat) ![1, 1, 1] ![0, 0, 63] ![0, 0, 0] x init h hu (ix3 a b i)
      = ∑ j : Fin 64, if j ≤ i then x (ix3 a b j) else 0 := by
  show Host.reduceWindow (· + ·) (![1, 1, 64] : Fin 3 → Nat) ![1, 1, 1] ![0, 0, 63] ![0, 0, 0] x
    (fun _ : (⟨0, ![]⟩ : Shape).Idx => init (Shape.Idx.first hu)) h (by decide) (ix3 a b i) = _
  rw [hinit]
  unfold Host.reduceWindow
  dsimp only
  rw [foldl_add_eq]
  rw [← sum_window (L := 63) rfl i (fun j => x (ix3 a b j))]
  refine (Fintype.sum_equiv (⟨3, ![1, 1, 64]⟩ : Shape).rowMajor.symm _
    (fun w : (⟨3, ![1, 1, 64]⟩ : Shape).Idx => if hin : 63 ≤ i.val + (w ⟨2, by decide⟩).val ∧ i.val + (w ⟨2, by decide⟩).val - 63 < 64
      then x (ix3 a b ⟨i.val + (w ⟨2, by decide⟩).val - 63, hin.2⟩) else 0) (fun k => ?_)).trans ?_
  · let w : (⟨3, ![1, 1, 64]⟩ : Shape).Idx := (⟨3, ![1, 1, 64]⟩ : Shape).rowMajor.symm k
    show _ = (if hin : 63 ≤ i.val + (w ⟨2, by decide⟩).val ∧ i.val + (w ⟨2, by decide⟩).val - 63 < 64
      then x (ix3 a b ⟨i.val + (w ⟨2, by decide⟩).val - 63, hin.2⟩) else 0)
    have h0 : (w ⟨0, by decide⟩).val = 0 := Nat.lt_one_iff.mp (show (w ⟨0, by decide⟩).val < 1 from (w (0 : Fin 3)).isLt)
    have h1 : (w ⟨1, by decide⟩).val = 0 := Nat.lt_one_iff.mp (show (w ⟨1, by decide⟩).val < 1 from (w (1 : Fin 3)).isLt)
    have h2 : (w ⟨2, by decide⟩).val < 64 := (w (2 : Fin 3)).isLt
    by_cases hc : 63 ≤ i.val + (w ⟨2, by decide⟩).val
    · rw [dif_pos (show 63 ≤ i.val + (w ⟨2, by decide⟩).val ∧ i.val + (w ⟨2, by decide⟩).val - 63 < 64 from ⟨hc, by omega⟩), dif_pos]
      · congr 1
        funext q
        refine Fin.ext ?_
        match q with
        | ⟨0, _⟩ => show a.val * 1 + (w ⟨0, by decide⟩).val - 0 = a.val; omega
        | ⟨1, _⟩ => show b.val * 1 + (w ⟨1, by decide⟩).val - 0 = b.val; omega
        | ⟨2, _⟩ => show i.val * 1 + (w ⟨2, by decide⟩).val - 63 = i.val + (w ⟨2, by decide⟩).val - 63; omega
      · intro q
        match q with
        | ⟨0, _⟩ => show 0 ≤ a.val * 1 + (w ⟨0, by decide⟩).val ∧ a.val * 1 + (w ⟨0, by decide⟩).val - 0 < A; omega
        | ⟨1, _⟩ => show 0 ≤ b.val * 1 + (w ⟨1, by decide⟩).val ∧ b.val * 1 + (w ⟨1, by decide⟩).val - 0 < B; omega
        | ⟨2, _⟩ => show 63 ≤ i.val * 1 + (w ⟨2, by decide⟩).val ∧ i.val * 1 + (w ⟨2, by decide⟩).val - 63 < 64; omega
    · rw [dif_neg, dif_neg]
      · exact fun hh => hc hh.1
      · intro hh
        have h3 : 63 ≤ i.val * 1 + (w ⟨2, by decide⟩).val := (hh (2 : Fin 3)).1
        omega
  · rw [sum_idx3]
    simp only [Fin.sum_univ_one]
    rfl

end Cert.Cumsum

end
-- ==== Proof.RefStage.lean ====
/- The reference's values before its loop, read at an index: each is the value of Spec.lean at the chunk's rows. -/
module

public import proofs.«01_k».proof.Proof.Gen.ReferenceIdeal.Step
public import proofs.«01_k».proof.Proof.Spec
public import proofs.«01_k».proof.Proof.Cumsum
public import Idealize.ShloMosaic.Lib.WordCmp

@[expose] public section

set_option maxRecDepth 16384

noncomputable section

namespace Cert.ReferenceIdeal.Stage

open Idealize.ShloMosaic Cert.ReferenceIdeal Cert.ReferenceIdeal.Gen Cert.ReferenceIdeal.Step Cert.Spec

variable (a0 : (⟨S8256x3072, .f32⟩ : BufTy).Contents (Elt Ideal)) (a1 : (⟨S8256x128, .f32⟩ : BufTy).Contents (Elt Ideal))
  (a3 : (⟨S8256x1024, .f32⟩ : BufTy).Contents (Elt Ideal))

/-- Row `i` of chunk `n`. -/
abbrev rowOf (n : Fin 129) (i : Fin 64) : Fin 8256 := ⟨n.val * 64 + i.val, by omega⟩

/-- What chunk `n` of head `h` reads: the columns of the head in the arguments, and the inverse the host lines compute. -/
def chunk (h : Fin 8) (n : Fin 129) : Chunk where
  q i d := a0 (ix2 (rowOf n i) (⟨h.val * 128 + d.val, by omega⟩ : Fin 3072))
  k i d := a0 (ix2 (rowOf n i) (⟨1024 + (h.val * 128 + d.val), by omega⟩ : Fin 3072))
  g i := a1 (ix2 (rowOf n i) (⟨h.val, by omega⟩ : Fin 128))
  b i := a1 (ix2 (rowOf n i) (⟨8 + h.val, by omega⟩ : Fin 128))
  p i j := A_main_v84 a0 a1 a3 (ix4 h n i j)
  ct i e := a3 (ix2 (rowOf n i) (⟨h.val * 128 + e.val, by omega⟩ : Fin 1024))

variable (h : Fin 8) (n : Fin 129) (i j : Fin 64) (d : Fin 128)

theorem q_raw : A_main_v3 a0 a1 a3 (ix4 h n i d) = (chunk a0 a1 a3 h n).q i d := by
  pointwise [A_main_v3, A_main_v2, A_main_v1, chunk]

theorem k_raw : A_main_v16 a0 a1 a3 (ix4 h n i d) = (chunk a0 a1 a3 h n).k i d := by
  pointwise [A_main_v16, A_main_v15, A_main_v14, chunk]

theorem g_raw : A_main_v28 a0 a1 a3 (ix3 h n i) = (chunk a0 a1 a3 h n).g i := by
  pointwise [A_main_v28, A_main_v27, A_main_v26, A_main_v25, chunk]

theorem b_raw : A_main_v32 a0 a1 a3 (ix3 h n i) = (chunk a0 a1 a3 h n).b i := by
  pointwise [A_main_v32, A_main_v31, A_main_v30, A_main_v29, chunk]

theorem qn : A_main_v13 a0 a1 a3 (ix4 h n i d) = (chunk a0 a1 a3 h n).qn i d := by
  pointwise [A_main_v13, A_main_v11, A_main_v10, A_main_v9, A_main_v8, A_main_v6, A_main_v5, A_main_v4, K_main_v12, K_main_v7,
    K_main_cst_0, K_main_cst_1, K_main_cst]
  simp only [q_raw]
  rfl

theorem kn : A_main_v24 a0 a1 a3 (ix4 h n i d) = (chunk a0 a1 a3 h n).kn i d := by
  pointwise [A_main_v24, A_main_v23, A_main_v22, A_main_v21, A_main_v19, A_main_v18, A_main_v17, K_main_v20,
    K_main_cst_3, K_main_cst_2]
  simp only [k_raw]
  rfl

theorem gc : A_main_v33 a0 a1 a3 (ix3 h n i) = (chunk a0 a1 a3 h n).gc i := by
  unfold A_main_v33
  refine (Cumsum.reduceWindowAdd_apply _ _ _ ?_ _ h n i).trans ?_
  · pointwise [K_main_call0_call0_v0, K_main_call0_call0_cst]
  · simp only [g_raw]
    rfl

/-- A row index compared with a column index, as the causal mask compares them. -/
theorem causal : IntOp.cmpi .sge (BitVec.ofNat 32 i.val) (BitVec.ofNat 32 j.val) = if j ≤ i then 1#1 else 0#1 := by
  rw [WordCmp.cmpi_sge_ofNat (by omega) (by omega)]
  by_cases hc : j ≤ i
  · rw [if_pos hc, decide_eq_true (Fin.le_def.mp hc)]; rfl
  · rw [if_neg hc, decide_eq_false (fun hh => hc (Fin.le_def.mpr hh))]; rfl

/-- The word of minus infinity. -/
theorem ofBits_neg_inf : Ideal.ofBits .f32 0xFF800000#32 = ⊥ := by
  simp only [Ideal.ofBits]
  unfold Ideal.ieee
  simp

theorem decay : A_main_v44 a0 a1 a3 (ix4 h n i j) = (chunk a0 a1 a3 h n).decay i j := by
  pointwise [A_main_v44, A_main_v43, A_main_v42, A_main_v41, A_main_v40, A_main_v39, A_main_v38, K_main_call3_v1, K_main_call3_v2, K_main_call3_v0, K_main_cst_5, K_main_v35, K_main_call1_v4, K_main_call1_v2, K_main_call1_v0, K_main_call1_v1, K_main_call1_c, K_main_call1_v3, K_main_v34, K_main_c, K_main_call1_v5, K_main_call1_c_0]
  rw [show IntOp.addi (BitVec.ofNat 32 i.val) 0#32 = BitVec.ofNat 32 i.val from BitVec.add_zero _, causal, gc, gc]
  unfold Chunk.decay
  by_cases hc : j ≤ i
  · rw [if_pos hc, if_pos hc]; rfl
  · rw [if_neg hc, if_neg hc]
    show Ideal.exp (Ideal.ofBits .f32 0xFF800000#32) = 0
    rw [ofBits_neg_inf, Ideal.exp_bot]

theorem qk : A_main_v91 a0 a1 a3 (ix4 h n i j) = (chunk a0 a1 a3 h n).qk i j := by
  pointwise [A_main_v91, A_main_v90]
  simp only [qn, kn, decay]
  rfl

theorem qd : A_main_v95 a0 a1 a3 (ix4 h n i d) = (chunk a0 a1 a3 h n).qd i d := by
  pointwise [A_main_v95, A_main_v94, A_main_v93, A_main_v92]
  simp only [qn, gc]
  rfl

theorem kd : A_main_v102 a0 a1 a3 (ix4 h n i d) = (chunk a0 a1 a3 h n).kd i d := by
  pointwise [A_main_v102, A_main_v101, A_main_v100, A_main_v99, A_main_v98, A_main_v97, A_main_v96]
  simp only [kn, gc]
  rfl

theorem w : A_main_v89 a0 a1 a3 (ix4 h n i d) = (chunk a0 a1 a3 h n).w i d := by
  pointwise [A_main_v89, A_main_v88, A_main_v47, A_main_v46, A_main_v45, A_main_v87, A_main_v86, A_main_v85]
  simp only [kn, gc, b_raw]
  rfl

/-! The loop's constants. -/

theorem ct_row : A_main_v118 a0 a1 a3 (ix4 n h i d) = (chunk a0 a1 a3 h n).ct i d := by
  pointwise [A_main_v118, A_main_v117, A_main_v116, chunk]

theorem gl_row (z z' : Fin 1) : A_main_v114 a0 a1 a3 (ix4 n h z z') = Ideal.exp ((chunk a0 a1 a3 h n).gc 63) := by
  pointwise [A_main_v114, A_main_v106, A_main_v105, A_main_v104, A_main_v103]
  exact congrArg Ideal.exp (gc a0 a1 a3 h n 63)

theorem kd_row : A_main_v109 a0 a1 a3 (ix4 n h i d) = (chunk a0 a1 a3 h n).kd i d := by
  pointwise [A_main_v109]
  exact kd a0 a1 a3 h n i d

theorem p_row : A_main_v111 a0 a1 a3 (ix4 n h i j) = (chunk a0 a1 a3 h n).p i j := by
  pointwise [A_main_v111, chunk]

theorem b_row (z : Fin 1) : A_main_v110 a0 a1 a3 (ix4 n h i z) = (chunk a0 a1 a3 h n).b i := by
  pointwise [A_main_v110, A_main_v107]
  exact b_raw a0 a1 a3 h n i

theorem w_row : A_main_v112 a0 a1 a3 (ix4 n h i d) = (chunk a0 a1 a3 h n).w i d := by
  pointwise [A_main_v112]
  exact w a0 a1 a3 h n i d

theorem qd_row : A_main_v108 a0 a1 a3 (ix4 n h i d) = (chunk a0 a1 a3 h n).qd i d := by
  pointwise [A_main_v108]
  exact qd a0 a1 a3 h n i d

theorem qk_row : A_main_v113 a0 a1 a3 (ix4 n h i j) = (chunk a0 a1 a3 h n).qk i j := by
  pointwise [A_main_v113]
  exact qk a0 a1 a3 h n i j

end Cert.ReferenceIdeal.Stage

end
-- ==== Proof.HeadValue.lean ====
/- One head's vectors over the extended reals, read at an index: each is the value of Spec.lean at the chunk the block holds. -/
module

public import proofs.«01_k».proof.Proof.KernelHead
public import proofs.«01_k».proof.Proof.RefStage

@[expose] public section

noncomputable section

namespace Cert.KernelIdeal.Head

open Idealize.ShloMosaic Cert.KernelIdeal Cert.KernelIdeal.Gen Cert.Spec

/-- A number cut in pieces by a format that keeps it, the pieces added again: the number, unless it is plus infinity. -/
theorem pieces (x : EReal) (hx : x ≠ ⊤) : x + ((x - x) + ((x - x) - (x - x))) = x := by
  induction x with
  | bot => rfl
  | coe r => norm_cast; simp
  | top => exact absurd rfl hx

/-- The block's vectors hold the chunk `C`'s rows. -/
structure Holds (C : Chunk) (g b : FVec Ideal S64x1 .f32) (q k o : FVec Ideal S64x128 .f32) (p : FVec Ideal S1x1x64x64 .f32) : Prop where
  g : ∀ (i : Fin 64) (z : Fin 1), g (ix2 i z) = C.g i
  b : ∀ (i : Fin 64) (z : Fin 1), b (ix2 i z) = C.b i
  q : ∀ (i : Fin 64) (d : Fin 128), q (ix2 i d) = C.q i d
  k : ∀ (i : Fin 64) (d : Fin 128), k (ix2 i d) = C.k i d
  o : ∀ (i : Fin 64) (d : Fin 128), o (ix2 i d) = C.ct i d
  p : ∀ (i j : Fin 64), p (ix4 (0 : Fin 1) (0 : Fin 1) i j) = C.p i j
  fin : ∀ i : Fin 64, C.g i ≠ ⊤

variable {C : Chunk} {g b : FVec Ideal S64x1 .f32} {q k o : FVec Ideal S64x128 .f32} {p : FVec Ideal S1x1x64x64 .f32}
variable (H : Holds C g b q k o p) (i j : Fin 64) (d e : Fin 128)
include H

theorem qn_at : qn q (ix2 i d) = C.qn i d := by
  pointwise [qn, unitRows]
  simp only [H.q]
  rfl

theorem kn_at : unitRows k (ix2 i d) = C.kn i d := by
  pointwise [unitRows]
  simp only [H.k]
  rfl

omit H in
theorem weight : (FloatOps.sitofp FTy.f32 (BitVec.setWidth 32 (IntOp.cmpi .sge (BitVec.ofNat 32 i.val) (BitVec.ofNat 32 j.val))) : Ideal .f32)
    = if j ≤ i then (1 : EReal) else 0 := by
  rw [Cert.ReferenceIdeal.Stage.causal]
  by_cases h : j ≤ i
  · rw [if_pos h, if_pos h]
    show (((BitVec.setWidth 32 1#1).toInt : ℝ) : EReal) = 1
    have : (BitVec.setWidth 32 1#1).toInt = 1 := by decide
    rw [this]; simp
  · rw [if_neg h, if_neg h]
    show (((BitVec.setWidth 32 0#1).toInt : ℝ) : EReal) = 0
    have : (BitVec.setWidth 32 0#1).toInt = 0 := by decide
    rw [this]; simp

theorem sums_at : sums g (ix2 i j) = C.gc i := by
  pointwise [sums, mask]
  simp only [weight, H.g]
  rw [← Finset.sum_add_distrib, ← Finset.sum_add_distrib]
  refine Finset.sum_congr rfl fun x _ => ?_
  by_cases h : x ≤ i
  · simp only [if_pos h, one_mul]
    exact pieces _ (H.fin x)
  · simp only [if_neg h, zero_mul, add_zero]

theorem gc_at (z : Fin 1) : gc g (ix2 i z) = C.gc i := by
  have e : gc g (ix2 i z) = sums g (ix2 i 0) := by
    pointwise [gc]
  rw [e, sums_at H]

omit H in
theorem mask_at : mask (ix2 i j) = if j ≤ i then 1#1 else 0#1 := by
  have e : mask (ix2 i j) = IntOp.cmpi .sge (BitVec.ofNat 32 i.val) (BitVec.ofNat 32 j.val) := by
    pointwise [mask]
  rw [e, Cert.ReferenceIdeal.Stage.causal]

theorem decay_at : decay g (ix2 i j) = C.decay i j := by
  pointwise [decay]
  rw [mask_at, sums_at H, sums_at H]
  unfold Chunk.decay
  by_cases h : j ≤ i
  · simp only [if_pos h]; rfl
  · simp only [if_neg h]; rfl

theorem qk_at : qk g q k (ix2 i j) = C.qk i j := by
  pointwise [qk]
  simp only [mask_at, decay_at H, qn_at H, kn_at H]
  unfold Chunk.qk
  by_cases h : j ≤ i
  · simp only [if_pos h]; rfl
  · have e : C.decay i j = 0 := if_neg h
    rw [if_neg h, e, mul_zero]; rfl

theorem last_at (z z' : Fin 1) : last g (ix2 z z') = C.gc 63 := by
  have e : last g (ix2 z z') = gc g (ix2 (63 : Fin 64) (0 : Fin 1)) := by
    pointwise [last]
  rw [e, gc_at H]

theorem kd_at : kd g k (ix2 i d) = C.kd i d := by
  pointwise [kd]
  simp only [kn_at H, gc_at H, last_at H]
  rfl

omit H in
theorem mat_at : mat p (ix2 i j) = p (ix4 (0 : Fin 1) (0 : Fin 1) i j) := by
  pointwise [mat]

theorem w_at : w g b k p (ix2 i d) = C.w i d := by
  pointwise [w]
  simp only [mat_at, kn_at H, gc_at H, H.b, H.p]
  rfl

theorem qd_at : qd g q (ix2 i d) = C.qd i d := by
  pointwise [qd]
  simp only [qn_at H, gc_at H]
  rfl

variable {s : FVec Ideal S1x128x128 .f32} {S : Fin 128 → Fin 128 → EReal} (hS : ∀ d e : Fin 128, s (ix3 (0 : Fin 1) d e) = S d e)
include hS

theorem dvn_at : dvn g q k o s (ix2 i e) = C.dvn S i e := by
  pointwise [dvn, thru, st, ct]
  simp only [kd_at H, qk_at H, hS, H.o]
  rfl

theorem dv_at : dv g b q k o p s (ix2 i e) = C.dv S i e := by
  pointwise [dv, thru]
  simp only [dvn_at H _ _ hS, mat_at, H.b, H.p]
  rfl

theorem dS_at (z : Fin 1) : dS g b q k o p s (ix3 z d e) = C.dS S d e := by
  pointwise [dS, thru, st, ct]
  simp only [last_at H, qd_at H, w_at H, dvn_at H _ _ hS, hS, H.o]
  unfold Chunk.dS
  simp only [zero_sub]

end Cert.KernelIdeal.Head

end
-- ==== Proof.Pall.lean ====
/- The host's product before the call: the array of inverses the kernel is handed is the reference's, its heads and chunks
   exchanged. -/
module

public import proofs.«01_k».proof.Proof.Gen.KernelIdeal.Frame
public import proofs.«01_k».proof.Proof.Gen.ReferenceIdeal.Step
public import Idealize.ShloMosaic.Lib.Pointwise
public import Idealize.ShloMosaic.Lib.StableHlo.RunRead

@[expose] public section

noncomputable section

namespace Cert.KernelIdeal.Pall

open Idealize.ShloMosaic Idealize.ShloMosaic.TcCoe Idealize.SL.Sem Idealize.ShloMosaic.StableHlo
open Cert.KernelIdeal Cert.KernelIdeal.Gen
open Cert.ReferenceIdeal.Step (K_main_v58 K_main_v37 A_main_v24 A_main_v32 A_main_v43 A_main_v50 A_main_v59 A_main_v60 A_main_v63 A_main_v64 A_main_v65 A_main_v68
  A_main_v69 A_main_v70 A_main_v73 A_main_v74 A_main_v75 A_main_v78 A_main_v79 A_main_v80 A_main_v83 A_main_v84)

variable {F : FTy → Type} [FloatOps F]

/-! The product that inverts a chunk's triangular matrix, folded back into the stages' names, the innermost first. -/

section Fold

variable (a0 : (⟨S8256x3072, .f32⟩ : BufTy).Contents (Elt F)) (a1 : (⟨S8256x128, .f32⟩ : BufTy).Contents (Elt F))
  (a3 : (⟨S8256x1024, .f32⟩ : BufTy).Contents (Elt F))

theorem eye : (broadcastInDim S8x129x64x64 ![0, 1, 2, 3] bcast_S1x1x64x64_S8x129x64x64_0_1_2_3
      (broadcastInDim S1x1x64x64 ![2, 3] bcast_S64x64_S1x1x64x64_2_3
        (uitofp .f32 (cmpi .eq (addi (iotaInDim S64x64 32 0) (broadcastInDim S64x64 ![] bcast_S_S64x64 (constantI S_ 32 0#32)))
          (iotaInDim S64x64 32 1)))) : (⟨S8x129x64x64, .f32⟩ : BufTy).Contents (Elt F)) = K_main_v58 := rfl
theorem f59 : subf K_main_v58 (A_main_v50 a0 a1 a3) = A_main_v59 a0 a1 a3 := rfl
theorem f60 : Host.dotGeneral dot_S8x129x64x64_S8x129x64x64_S8x129x64x64_3_2_2_3_01_01 none (A_main_v50 a0 a1 a3) (A_main_v50 a0 a1 a3) = A_main_v60 a0 a1 a3 := rfl
theorem f63 : addf K_main_v58 (A_main_v60 a0 a1 a3) = A_main_v63 a0 a1 a3 := rfl
theorem f64 : Host.dotGeneral dot_S8x129x64x64_S8x129x64x64_S8x129x64x64_3_2_2_3_01_01 none (A_main_v59 a0 a1 a3) (A_main_v63 a0 a1 a3) = A_main_v64 a0 a1 a3 := rfl
theorem f65 : Host.dotGeneral dot_S8x129x64x64_S8x129x64x64_S8x129x64x64_3_2_2_3_01_01 none (A_main_v60 a0 a1 a3) (A_main_v60 a0 a1 a3) = A_main_v65 a0 a1 a3 := rfl
theorem f68 : addf K_main_v58 (A_main_v65 a0 a1 a3) = A_main_v68 a0 a1 a3 := rfl
theorem f69 : Host.dotGeneral dot_S8x129x64x64_S8x129x64x64_S8x129x64x64_3_2_2_3_01_01 none (A_main_v64 a0 a1 a3) (A_main_v68 a0 a1 a3) = A_main_v69 a0 a1 a3 := rfl
theorem f70 : Host.dotGeneral dot_S8x129x64x64_S8x129x64x64_S8x129x64x64_3_2_2_3_01_01 none (A_main_v65 a0 a1 a3) (A_main_v65 a0 a1 a3) = A_main_v70 a0 a1 a3 := rfl
theorem f73 : addf K_main_v58 (A_main_v70 a0 a1 a3) = A_main_v73 a0 a1 a3 := rfl
theorem f74 : Host.dotGeneral dot_S8x129x64x64_S8x129x64x64_S8x129x64x64_3_2_2_3_01_01 none (A_main_v69 a0 a1 a3) (A_main_v73 a0 a1 a3) = A_main_v74 a0 a1 a3 := rfl
theorem f75 : Host.dotGeneral dot_S8x129x64x64_S8x129x64x64_S8x129x64x64_3_2_2_3_01_01 none (A_main_v70 a0 a1 a3) (A_main_v70 a0 a1 a3) = A_main_v75 a0 a1 a3 := rfl
theorem f78 : addf K_main_v58 (A_main_v75 a0 a1 a3) = A_main_v78 a0 a1 a3 := rfl
theorem f79 : Host.dotGeneral dot_S8x129x64x64_S8x129x64x64_S8x129x64x64_3_2_2_3_01_01 none (A_main_v74 a0 a1 a3) (A_main_v78 a0 a1 a3) = A_main_v79 a0 a1 a3 := rfl
theorem f80 : Host.dotGeneral dot_S8x129x64x64_S8x129x64x64_S8x129x64x64_3_2_2_3_01_01 none (A_main_v75 a0 a1 a3) (A_main_v75 a0 a1 a3) = A_main_v80 a0 a1 a3 := rfl
theorem f83 : addf K_main_v58 (A_main_v80 a0 a1 a3) = A_main_v83 a0 a1 a3 := rfl
theorem f84 : Host.dotGeneral dot_S8x129x64x64_S8x129x64x64_S8x129x64x64_3_2_2_3_01_01 none (A_main_v79 a0 a1 a3) (A_main_v83 a0 a1 a3) = A_main_v84 a0 a1 a3 := rfl

end Fold

section Stages

variable {a0 : (⟨S8256x3072, .f32⟩ : BufTy).Contents (Elt F)} {a1 : (⟨S8256x128, .f32⟩ : BufTy).Contents (Elt F)}
  {a3 : (⟨S8256x1024, .f32⟩ : BufTy).Contents (Elt F)} (V : Valuation τ sig (Elt F))

set_option maxRecDepth 65536 in
theorem last (h49 : V (Proc.devRef .tc main_v49) = A_main_v50 a0 a1 a3) :
    after hostOps0_10 V (Proc.devRef .tc main_v84)
      = transpose S129x8x64x64 [1, 0, 2, 3] (A_main_v84 a0 a1 a3) transposes_S8x129x64x64_S129x8x64x64_1_0_2_3 := by
  after_reads_simp
  rw [h49, eye, f59, f60, f63, f64, f65, f68, f69, f70, f73, f74, f75, f78, f79, f80, f83, f84]

set_option maxRecDepth 65536 in
theorem mid (h42 : V (Proc.devRef .tc main_v42) = A_main_v43 a0 a1 a3) (h23 : V (Proc.devRef .tc main_v23) = A_main_v24 a0 a1 a3)
    (h31 : V (Proc.devRef .tc main_v31) = A_main_v32 a0 a1 a3) (h36 : V (Proc.devRef .tc main_v36) = K_main_v37) :
    after hostOps0_9 (after hostOps0_8 V) (Proc.devRef .tc main_v49) = A_main_v50 a0 a1 a3 := by
  after_reads_simp
  rw [h42, h23, h31, h36]
  simp -implicitDefEqProofs only [StableHlo.TRef.toBuf, StableHlo.TRef.ofBuf, cast_cast, cast_eq]
  rfl

end Stages

variable (m : (ℓ : Loc nD τ sig) → Buf (Elt F) ℓ) (c : Dev nD)

set_option maxRecDepth 65536 in
theorem pall : V m c main_v84 = transpose S129x8x64x64 [1, 0, 2, 3]
    (A_main_v84 (m ((c.tc : Thread nD τ).loc main_arg0)) (m ((c.tc : Thread nD τ).loc main_arg1)) (m ((c.tc : Thread nD τ).loc main_arg3)))
    transposes_S8x129x64x64_S129x8x64x64_1_0_2_3 := by
  show after _ _ (Proc.devRef .tc main_v84) = _
  simp only [List.flatten_cons, List.flatten_nil, List.append_nil, after_append]
  refine last _ (mid _ ?_ ?_ ?_ ?_)
  · after_reads_simp; rfl
  · after_reads_simp; rfl
  · after_reads_simp; rfl
  · after_reads_simp
    simp -implicitDefEqProofs only [StableHlo.TRef.toBuf, StableHlo.TRef.ofBuf, cast_cast, cast_eq]
    rfl

/-- At a chunk and a head. -/
theorem pall_at (n : Fin 129) (h : Fin 8) (i j : Fin 64) : V m c main_v84 (ix4 n h i j : S129x8x64x64.Idx)
    = A_main_v84 (m ((c.tc : Thread nD τ).loc main_arg0)) (m ((c.tc : Thread nD τ).loc main_arg1)) (m ((c.tc : Thread nD τ).loc main_arg3))
      (ix4 h n i j : S8x129x64x64.Idx) := by
  rw [pall]
  show A_main_v84 _ _ _ _ = A_main_v84 _ _ _ _
  congr 1
  funext a
  match a with
  | ⟨0, _⟩ => rfl
  | ⟨1, _⟩ => rfl
  | ⟨2, _⟩ => rfl
  | ⟨3, _⟩ => rfl

end Cert.KernelIdeal.Pall

end
-- ==== Proof.KernelValue.lean ====
/- What the kernel's call leaves in v's columns of its output array: each head's gradient of v, chunk by chunk. The grid takes the
   chunks from the last to the first, and the scratch carries each head's gradient of the state. -/
module

public import proofs.«01_k».proof.Proof.KernelBlock
public import proofs.«01_k».proof.Proof.HeadValue
public import proofs.«01_k».proof.Proof.Pall

@[expose] public section

set_option maxRecDepth 16384

noncomputable section

namespace Cert.KernelIdeal.Result

open Idealize.ShloMosaic Idealize.ShloMosaic.TcCoe Idealize.ShloMosaic.Tactic Cert.KernelIdeal Cert.KernelIdeal.Gen Cert.Spec
open Cert.ReferenceIdeal (Stage.rowOf Stage.chunk)

/-! The index each window's block has in its array: the grid's point t is the chunk 128 − t. -/

theorem at0 : ∀ t : Fin grid0.N, win0_0.index t (0 : Fin 2) = 128 - t.val ∧ win0_0.index t (1 : Fin 2) = 0 := by decide +kernel
theorem at1 : ∀ t : Fin grid0.N, win0_1.index t (0 : Fin 2) = 128 - t.val ∧ win0_1.index t (1 : Fin 2) = 0 := by decide +kernel
theorem at3 : ∀ t : Fin grid0.N, win0_3.index t (0 : Fin 4) = 128 - t.val ∧ win0_3.index t (1 : Fin 4) = 0
    ∧ win0_3.index t (2 : Fin 4) = 0 ∧ win0_3.index t (3 : Fin 4) = 0 := by decide +kernel
theorem at4 : ∀ t : Fin grid0.N, win0_4.index t (0 : Fin 2) = 128 - t.val ∧ win0_4.index t (1 : Fin 2) = 0 := by decide +kernel
theorem at5 : ∀ t : Fin grid0.N, win0_5.index t (0 : Fin 2) = 128 - t.val ∧ win0_5.index t (1 : Fin 2) = 0 := by decide +kernel

theorem flush5 : ∀ t : Fin cfg0.N, (cfg0.win 5).flush t = true := by decide +kernel

/-- The chunk of a grid point. -/
abbrev chunkNo (t : Fin cfg0.N) : Fin 129 := ⟨128 - t.val, by omega⟩

section Blocks

variable {F : FTy → Type} [FloatOps F] (m : (ℓ : Loc nD τ sig) → Buf (Elt F) ℓ) (c : Dev nD)

theorem block0 (t : Fin cfg0.N) (i : Fin 64) (d : Fin 3072) : iblk m c 0 t (ix2 i d : S64x3072.Idx)
    = m ((c : Thread nD τ).loc main_arg0) (ix2 (Stage.rowOf (chunkNo t) i) d : S8256x3072.Idx) := by
  rw [← V_main_arg0 m c]
  show V m c main_arg0 _ = V m c main_arg0 _
  congr 1
  funext a
  refine Fin.ext ?_
  match a with
  | ⟨0, _⟩ =>
    show win0_0.index t (0 : Fin 2) * 64 + 1 * i.val = (128 - t.val) * 64 + i.val
    rw [(at0 t).1]; omega
  | ⟨1, _⟩ =>
    show win0_0.index t (1 : Fin 2) * 3072 + 1 * d.val = d.val
    rw [(at0 t).2]; omega

theorem block1 (t : Fin cfg0.N) (i : Fin 64) (d : Fin 128) : iblk m c 1 t (ix2 i d : S64x128.Idx)
    = m ((c : Thread nD τ).loc main_arg1) (ix2 (Stage.rowOf (chunkNo t) i) d : S8256x128.Idx) := by
  rw [← V_main_arg1 m c]
  show V m c main_arg1 _ = V m c main_arg1 _
  congr 1
  funext a
  refine Fin.ext ?_
  match a with
  | ⟨0, _⟩ =>
    show win0_1.index t (0 : Fin 2) * 64 + 1 * i.val = (128 - t.val) * 64 + i.val
    rw [(at1 t).1]; omega
  | ⟨1, _⟩ =>
    show win0_1.index t (1 : Fin 2) * 128 + 1 * d.val = d.val
    rw [(at1 t).2]; omega

theorem block3 (t : Fin cfg0.N) (z : Fin 1) (h : Fin 8) (i j : Fin 64) : iblk m c 3 t (ix4 z h i j : S1x8x64x64.Idx)
    = V m c main_v84 (ix4 (chunkNo t) h i j : S129x8x64x64.Idx) := by
  show V m c main_v84 _ = V m c main_v84 _
  congr 1
  funext a
  refine Fin.ext ?_
  obtain ⟨e0, e1, e2, e3⟩ := at3 t
  match a with
  | ⟨0, _⟩ =>
    show win0_3.index t (0 : Fin 4) * 1 + 1 * z.val = 128 - t.val
    rw [e0]; omega
  | ⟨1, _⟩ =>
    show win0_3.index t (1 : Fin 4) * 8 + 1 * h.val = h.val
    rw [e1]; omega
  | ⟨2, _⟩ =>
    show win0_3.index t (2 : Fin 4) * 64 + 1 * i.val = i.val
    rw [e2]; omega
  | ⟨3, _⟩ =>
    show win0_3.index t (3 : Fin 4) * 64 + 1 * j.val = j.val
    rw [e3]; omega

theorem block4 (t : Fin cfg0.N) (i : Fin 64) (d : Fin 1024) : iblk m c 4 t (ix2 i d : S64x1024.Idx)
    = m ((c : Thread nD τ).loc main_arg3) (ix2 (Stage.rowOf (chunkNo t) i) d : S8256x1024.Idx) := by
  rw [← V_main_arg3 m c]
  show V m c main_arg3 _ = V m c main_arg3 _
  congr 1
  funext a
  refine Fin.ext ?_
  match a with
  | ⟨0, _⟩ =>
    show win0_4.index t (0 : Fin 2) * 64 + 1 * i.val = (128 - t.val) * 64 + i.val
    rw [(at4 t).1]; omega
  | ⟨1, _⟩ =>
    show win0_4.index t (1 : Fin 2) * 1024 + 1 * d.val = d.val
    rw [(at4 t).2]; omega

/-! A head's loads, at an index. -/

theorem ld_cols (x : Vec F S64x3072 .f32) (o : ℕ) (ho : o + 128 ≤ 3072) (i : Fin 64) (d : Fin 128) :
    View.ld x (Block.rQ o ho) (ix2 i d : S64x128.Idx) = x (ix2 i (⟨o + d.val, by omega⟩ : Fin 3072)) := by
  show x _ = x _
  congr 1
  funext a
  refine Fin.ext ?_
  match a with
  | ⟨0, _⟩ => show 0 + 1 * i.val = i.val; omega
  | ⟨1, _⟩ => show o + 1 * d.val = o + d.val; omega

theorem ld_ct (x : Vec F S64x1024 .f32) (o : ℕ) (ho : o + 128 ≤ 1024) (i : Fin 64) (d : Fin 128) :
    View.ld x (Block.rO o ho) (ix2 i d : S64x128.Idx) = x (ix2 i (⟨o + d.val, by omega⟩ : Fin 1024)) := by
  show x _ = x _
  congr 1
  funext a
  refine Fin.ext ?_
  match a with
  | ⟨0, _⟩ => show 0 + 1 * i.val = i.val; omega
  | ⟨1, _⟩ => show o + 1 * d.val = o + d.val; omega

theorem ld_p (x : Vec F S1x8x64x64 .f32) (h : Fin 8) (z z' : Fin 1) (i j : Fin 64) :
    View.ld x (Block.rP h) (ix4 z z' i j : S1x1x64x64.Idx) = x (ix4 z h i j) := by
  show x _ = x _
  congr 1
  funext a
  refine Fin.ext ?_
  match a with
  | ⟨0, _⟩ => show 0 + 1 * z.val = z.val; omega
  | ⟨1, _⟩ => show h.val + 1 * z'.val = h.val; omega
  | ⟨2, _⟩ => show 0 + 1 * i.val = i.val; omega
  | ⟨3, _⟩ => show 0 + 1 * j.val = j.val; omega

theorem ld_s (x : Vec F S8x128x128 .f32) (h : Fin 8) (z : Fin 1) (d e : Fin 128) :
    View.ld x (Block.rS h) (ix3 z d e : S1x128x128.Idx) = x (ix3 h d e) := by
  show x _ = x _
  congr 1
  funext a
  refine Fin.ext ?_
  match a with
  | ⟨0, _⟩ => show h.val + 1 * z.val = h.val; omega
  | ⟨1, _⟩ => show 0 + 1 * d.val = d.val; omega
  | ⟨2, _⟩ => show 0 + 1 * e.val = e.val; omega

theorem col_at (x : Vec F S64x128 .f32) (o : ℕ) (ho : o + 1 ≤ 128) (i : Fin 64) (z : Fin 1) :
    Block.col x o ho (ix2 i z : S64x1.Idx) = x (ix2 i (⟨o, by omega⟩ : Fin 128)) := by
  show x _ = x _
  congr 1
  funext a
  refine Fin.ext ?_
  match a with
  | ⟨0, _⟩ => show 0 + i.val = i.val; omega
  | ⟨1, _⟩ => show o + z.val = o; omega

end Blocks

variable (m : (ℓ : Loc nD τ sig) → Buf (Elt Ideal) ℓ) (c : Dev nD)

/-- Chunk `n` of head `h` of the arguments. -/
abbrev chunkOf (h : Fin 8) (n : Fin 129) : Chunk :=
  Stage.chunk (m ((c : Thread nD τ).loc main_arg0)) (m ((c : Thread nD τ).loc main_arg1)) (m ((c : Thread nD τ).loc main_arg3)) h n

/-- The chunks of head `h` in the order the grid takes them. -/
def chunks (h : Fin 8) (q : ℕ) : Chunk := chunkOf m c h ⟨128 - q, by omega⟩

/-- No log decay is plus infinity. -/
def Finite : Prop := ∀ (r : Fin 8256) (h : Fin 8), m ((c : Thread nD τ).loc main_arg1) (ix2 r (⟨h.val, by omega⟩ : Fin 128) : S8256x128.Idx) ≠ (⊤ : EReal)

variable {m c} (hfin : Finite m c)

include hfin

theorem holds (t : Fin cfg0.N) (h : Fin 8) : Head.Holds (chunkOf m c h (chunkNo t)) (Block.col (iblk m c 1 t) h.val (by omega))
    (Block.col (iblk m c 1 t) (8 + h.val) (by omega)) (View.ld (iblk m c 0 t) (Block.rQ (h.val * 128) (by omega)))
    (View.ld (iblk m c 0 t) (Block.rQ (1024 + h.val * 128) (by omega))) (View.ld (iblk m c 4 t) (Block.rO (h.val * 128) (by omega)))
    (View.ld (iblk m c 3 t) (Block.rP h)) where
  g i z := by rw [col_at, block1]; rfl
  b i z := by rw [col_at, block1]; rfl
  q i d := by rw [ld_cols, block0]; rfl
  k i d := by
    rw [ld_cols, block0]
    show m _ _ = m _ _
    congr 2
    exact Fin.ext (by show 1024 + h.val * 128 + d.val = 1024 + (h.val * 128 + d.val); omega)
  o i d := by rw [ld_ct, block4]; rfl
  p i j := by rw [ld_p, block3, Pall.pall_at]; rfl
  fin i := hfin _ h

/-- The scratch after the point `n`: the gradient of each head's state after `n + 1` chunks. -/
theorem scratch (h : Fin 8) : ∀ (n : ℕ) (hn : n < cfg0.N) (d e : Fin 128),
    (outsAt0 m c n hn).2.2 (ix3 h d e : S8x128x128.Idx) = state (chunks m c h) (n + 1) d e
  | 0, hn, d, e => by
    rw [outsAt0_A m c ⟨0, hn⟩ rfl]
    dsimp only
    rw [Block.state_A]
    refine Head.dS_at (holds hfin ⟨0, hn⟩ h) d e (fun d e => ?_) 0
    rw [ld_s]
    pointwise [Block.zeros]
    rfl
  | n + 1, hn, d, e => by
    have hN : cfg0.N = 129 := N_0
    have h0 : ¬(n + 1) % 129 = 0 := by omega
    rw [outsAt0_B m c ⟨n + 1, hn⟩ h0]
    dsimp only
    rw [Block.state_B]
    refine Head.dS_at (holds hfin ⟨n + 1, hn⟩ h) d e (fun d e => ?_) 0
    rw [ld_s]
    exact scratch h n (by omega) d e

/-- The output block of the point `t`, in v's columns. -/
theorem out (t : Fin cfg0.N) (h : Fin 8) (i : Fin 64) (e : Fin 128) :
    (outsAt0 m c t.val t.isLt).1 (ix2 i (⟨2048 + (h.val * 128 + e.val), by omega⟩ : Fin 3072) : S64x3072.Idx)
      = (chunkOf m c h (chunkNo t)).dv (state (chunks m c h) t.val) i e := by
  have hN : cfg0.N = 129 := N_0
  by_cases h0 : t.val % 129 = 0
  · rw [outsAt0_A m c t h0]
    dsimp only
    rw [Block.out_A]
    refine Head.dv_at (holds hfin t h) i e (fun d e => ?_)
    rw [ld_s, show t.val = 0 by omega]
    pointwise [Block.zeros]
    rfl
  · rw [outsAt0_B m c t h0]
    dsimp only
    rw [Block.out_B]
    refine Head.dv_at (holds hfin t h) i e (fun d e => ?_)
    rw [ld_s, scratch hfin]
    congr 1
    omega

/-- The kernel's result at a row and a column of v's part. -/
theorem value (h : Fin 8) (n : Fin 129) (i : Fin 64) (e : Fin 128) :
    (dats m 0 c).arrAt 5 cfg0.N (ix2 (Stage.rowOf n i) (⟨2048 + (h.val * 128 + e.val), by omega⟩ : Fin 3072) : S8256x3072.Idx)
      = (chunkOf m c h n).dv (state (chunks m c h) (128 - n.val)) i e := by
  have hN : cfg0.N = 129 := N_0
  have ht : 128 - n.val < cfg0.N := by omega
  have hc : chunkNo ⟨128 - n.val, ht⟩ = n := Fin.ext (by show 128 - (128 - n.val) = n.val; omega)
  have hb := congrFun (Value.blocks5 m c ⟨128 - n.val, ht⟩ (flush5 _)) (ix2 i (⟨2048 + (h.val * 128 + e.val), by omega⟩ : Fin 3072) : S64x3072.Idx)
  rw [Value.flushed5] at hb
  have ho := out hfin ⟨128 - n.val, ht⟩ h i e
  rw [hc] at ho
  refine Eq.trans ?_ (hb.trans ho)
  show (dats m 0 c).arrAt 5 cfg0.N _ = (dats m 0 c).arrAt 5 cfg0.N _
  congr 1
  funext a
  refine Fin.ext ?_
  match a with
  | ⟨0, _⟩ =>
    show n.val * 64 + i.val = win0_5.index ⟨128 - n.val, ht⟩ (0 : Fin 2) * 64 + 1 * i.val
    rw [(at5 _).1]
    show _ = (128 - (128 - n.val)) * 64 + 1 * i.val
    omega
  | ⟨1, _⟩ =>
    show 2048 + (h.val * 128 + e.val) = win0_5.index ⟨128 - n.val, ht⟩ (1 : Fin 2) * 3072 + 1 * (2048 + (h.val * 128 + e.val))
    rw [(at5 _).2]
    omega

end Cert.KernelIdeal.Result

end
-- ==== Proof.RefRun.lean ====
/- The reference's run as its loop's step iterated: what the host operations before the loop leave in each of the loop's
   buffers, that one trip of the loop is one `step` of Gen/ReferenceIdeal/Step.lean, and so what the run's result holds. -/
module

public import proofs.«01_k».proof.Proof.Gen.ReferenceIdeal.Run
public import proofs.«01_k».proof.Proof.Gen.ReferenceIdeal.Step

@[expose] public section

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-! The product that inverts a chunk's triangular matrix, folded back into the stages' names, the innermost first. -/

section Fold

variable (a0 : (⟨S8256x3072, .f32⟩ : BufTy).Contents (Elt F)) (a1 : (⟨S8256x128, .f32⟩ : BufTy).Contents (Elt F))
  (a3 : (⟨S8256x1024, .f32⟩ : BufTy).Contents (Elt F))

theorem eye : (broadcastInDim S8x129x64x64 ![0, 1, 2, 3] bcast_S1x1x64x64_S8x129x64x64_0_1_2_3
      (broadcastInDim S1x1x64x64 ![2, 3] bcast_S64x64_S1x1x64x64_2_3
        (uitofp .f32 (cmpi .eq (addi (iotaInDim S64x64 32 0) (broadcastInDim S64x64 ![] bcast_S_S64x64 (constantI S_ 32 0#32)))
          (iotaInDim S64x64 32 1)))) : (⟨S8x129x64x64, .f32⟩ : BufTy).Contents (Elt F)) = K_main_v58 := rfl
theorem f59 : subf K_main_v58 (A_main_v50 a0 a1 a3) = A_main_v59 a0 a1 a3 := rfl
theorem f60 : Host.dotGeneral dot_S8x129x64x64_S8x129x64x64_S8x129x64x64_3_2_2_3_01_01 none (A_main_v50 a0 a1 a3) (A_main_v50 a0 a1 a3) = A_main_v60 a0 a1 a3 := rfl
theorem f63 : addf K_main_v58 (A_main_v60 a0 a1 a3) = A_main_v63 a0 a1 a3 := rfl
theorem f64 : Host.dotGeneral dot_S8x129x64x64_S8x129x64x64_S8x129x64x64_3_2_2_3_01_01 none (A_main_v59 a0 a1 a3) (A_main_v63 a0 a1 a3) = A_main_v64 a0 a1 a3 := rfl
theorem f65 : Host.dotGeneral dot_S8x129x64x64_S8x129x64x64_S8x129x64x64_3_2_2_3_01_01 none (A_main_v60 a0 a1 a3) (A_main_v60 a0 a1 a3) = A_main_v65 a0 a1 a3 := rfl
theorem f68 : addf K_main_v58 (A_main_v65 a0 a1 a3) = A_main_v68 a0 a1 a3 := rfl
theorem f69 : Host.dotGeneral dot_S8x129x64x64_S8x129x64x64_S8x129x64x64_3_2_2_3_01_01 none (A_main_v64 a0 a1 a3) (A_main_v68 a0 a1 a3) = A_main_v69 a0 a1 a3 := rfl
theorem f70 : Host.dotGeneral dot_S8x129x64x64_S8x129x64x64_S8x129x64x64_3_2_2_3_01_01 none (A_main_v65 a0 a1 a3) (A_main_v65 a0 a1 a3) = A_main_v70 a0 a1 a3 := rfl
theorem f73 : addf K_main_v58 (A_main_v70 a0 a1 a3) = A_main_v73 a0 a1 a3 := rfl
theorem f74 : Host.dotGeneral dot_S8x129x64x64_S8x129x64x64_S8x129x64x64_3_2_2_3_01_01 none (A_main_v69 a0 a1 a3) (A_main_v73 a0 a1 a3) = A_main_v74 a0 a1 a3 := rfl
theorem f75 : Host.dotGeneral dot_S8x129x64x64_S8x129x64x64_S8x129x64x64_3_2_2_3_01_01 none (A_main_v70 a0 a1 a3) (A_main_v70 a0 a1 a3) = A_main_v75 a0 a1 a3 := rfl
theorem f78 : addf K_main_v58 (A_main_v75 a0 a1 a3) = A_main_v78 a0 a1 a3 := rfl
theorem f79 : Host.dotGeneral dot_S8x129x64x64_S8x129x64x64_S8x129x64x64_3_2_2_3_01_01 none (A_main_v74 a0 a1 a3) (A_main_v78 a0 a1 a3) = A_main_v79 a0 a1 a3 := rfl
theorem f80 : Host.dotGeneral dot_S8x129x64x64_S8x129x64x64_S8x129x64x64_3_2_2_3_01_01 none (A_main_v75 a0 a1 a3) (A_main_v75 a0 a1 a3) = A_main_v80 a0 a1 a3 := rfl
theorem f83 : addf K_main_v58 (A_main_v80 a0 a1 a3) = A_main_v83 a0 a1 a3 := rfl
theorem f84 : Host.dotGeneral dot_S8x129x64x64_S8x129x64x64_S8x129x64x64_3_2_2_3_01_01 none (A_main_v79 a0 a1 a3) (A_main_v83 a0 a1 a3) = A_main_v84 a0 a1 a3 := rfl

variable {a0 a1 a3} (V : Valuation τ sig (Elt F)) (h50 : V (Proc.devRef .tc main_v50) = A_main_v50 a0 a1 a3)

include h50

set_option maxRecDepth 65536 in
theorem last_v111 : after hostOps0_10 V (Proc.devRef .tc main_v121_3) = A_main_v111 a0 a1 a3 := by
  after_reads_simp
  rw [h50, eye, f59, f60, f63, f64, f65, f68, f69, f70, f73, f74, f75, f78, f79, f80, f83, f84]
  rfl

set_option maxRecDepth 65536 in
theorem last_v112 (h47 : V (Proc.devRef .tc main_v47) = A_main_v47 a0 a1 a3) (h33 : V (Proc.devRef .tc main_v33) = A_main_v33 a0 a1 a3) :
    after hostOps0_10 V (Proc.devRef .tc main_v121_5) = A_main_v112 a0 a1 a3 := by
  after_reads_simp
  rw [h50, eye, f59, f60, f63, f64, f65, f68, f69, f70, f73, f74, f75, f78, f79, f80, f83, f84, h47, h33]
  rfl

end Fold

variable (m : (ℓ : Loc nD τ sig) → Buf (Elt F) ℓ) (c : Dev nD)

/-- The state the first trip starts from, of the memory the run starts from. -/
abbrev start : State F :=
  Step.init (m ((c.tc : Thread nD τ).loc main_arg0)) (m ((c.tc : Thread nD τ).loc main_arg1)) (m ((c.tc : Thread nD τ).loc main_arg3))

/-- The valuation holds the state and the trip's number. -/
structure Holds (V : Valuation τ sig (Elt F)) (s : State F) (j : ℕ) : Prop where
  f9 : V (Proc.devRef .tc main_v121_9) = s.main_v121_9
  f10 : V (Proc.devRef .tc main_v121_10) = s.main_v121_10
  f0 : V (Proc.devRef .tc main_v121_0) = s.main_v121_0
  f1 : V (Proc.devRef .tc main_v121_1) = s.main_v121_1
  f2 : V (Proc.devRef .tc main_v121_2) = s.main_v121_2
  f3 : V (Proc.devRef .tc main_v121_3) = s.main_v121_3
  f4 : V (Proc.devRef .tc main_v121_4) = s.main_v121_4
  f5 : V (Proc.devRef .tc main_v121_5) = s.main_v121_5
  f6 : V (Proc.devRef .tc main_v121_6) = s.main_v121_6
  f7 : V (Proc.devRef .tc main_v121_7) = s.main_v121_7
  f8 : V (Proc.devRef .tc main_v121_8) = constantI S_ 32 (BitVec.ofNat 32 j)

set_option maxRecDepth 65536 in
/-- The triangular matrix before its inversion, from the masked decay and the two key arrays. -/
theorem mid_v50 (V : Valuation τ sig (Elt F)) {a0 : (⟨S8256x3072, .f32⟩ : BufTy).Contents (Elt F)}
    {a1 : (⟨S8256x128, .f32⟩ : BufTy).Contents (Elt F)} {a3 : (⟨S8256x1024, .f32⟩ : BufTy).Contents (Elt F)}
    (h43 : V (Proc.devRef .tc main_v43) = A_main_v43 a0 a1 a3) (h24 : V (Proc.devRef .tc main_v24) = A_main_v24 a0 a1 a3)
    (h32 : V (Proc.devRef .tc main_v32) = A_main_v32 a0 a1 a3) (h37 : V (Proc.devRef .tc main_v37) = K_main_v37) :
    after hostOps0_9 (after hostOps0_8 V) (Proc.devRef .tc main_v50) = A_main_v50 a0 a1 a3 := by
  after_reads_simp
  rw [h43, h24, h32, h37]
  simp -implicitDefEqProofs only [StableHlo.TRef.toBuf, StableHlo.TRef.ofBuf, cast_cast, cast_eq]
  rfl

set_option maxRecDepth 65536 in
theorem entry_v50 : after hostOps0_9 (after hostOps0_8 (after hostOps0_7 (after hostOps0_6 (after hostOps0_5 (after hostOps0_4
    (after hostOps0_3 (after hostOps0_2 (after hostOps0_1 (after hostOps0 fun b => m (c, b)))))))))) (Proc.devRef .tc main_v50)
    = A_main_v50 (m ((c.tc : Thread nD τ).loc main_arg0)) (m ((c.tc : Thread nD τ).loc main_arg1)) (m ((c.tc : Thread nD τ).loc main_arg3)) := by
  refine mid_v50 _ ?_ ?_ ?_ ?_
  · after_reads_simp; rfl
  · after_reads_simp; rfl
  · after_reads_simp; rfl
  · after_reads_simp
    simp -implicitDefEqProofs only [StableHlo.TRef.toBuf, StableHlo.TRef.ofBuf, cast_cast, cast_eq]
    rfl

set_option maxRecDepth 65536 in
set_option maxHeartbeats 1200000 in
/-- What the operations before the loop leave: the first state, and the number 0. -/
theorem holds_entry : Holds (entryContents preI m c) (start m c) 0 where
  f3 := by
    simp only [entryContents, afterL_cons, afterL_nil]
    exact last_v111 _ (entry_v50 m c)
  f5 := by
    simp only [entryContents, afterL_cons, afterL_nil]
    refine last_v112 _ (entry_v50 m c) ?_ ?_ <;> (after_reads_simp; rfl)
  f9 := by simp only [entryContents, afterL_cons, afterL_nil]; after_reads_simp; rfl
  f10 := by simp only [entryContents, afterL_cons, afterL_nil]; after_reads_simp; rfl
  f0 := by simp only [entryContents, afterL_cons, afterL_nil]; after_reads_simp; rfl
  f1 := by simp only [entryContents, afterL_cons, afterL_nil]; after_reads_simp; rfl
  f2 := by simp only [entryContents, afterL_cons, afterL_nil]; after_reads_simp; rfl
  f4 := by simp only [entryContents, afterL_cons, afterL_nil]; after_reads_simp; rfl
  f6 := by simp only [entryContents, afterL_cons, afterL_nil]; after_reads_simp; rfl
  f7 := by simp only [entryContents, afterL_cons, afterL_nil]; after_reads_simp; rfl
  f8 := by simp only [entryContents, afterL_cons, afterL_nil]; after_reads_simp; rfl

variable {V : Valuation τ sig (Elt F)} {s : State F} {j : ℕ}

theorem row (h : Holds V s j) : res_main_while0b_v127 V = b3 j s := by
  unfold res_main_while0b_v127
  rw [h.f8]
  rfl

theorem ct (h : Holds V s j) : res_main_while0b_v128 V = b8 j s := by
  unfold res_main_while0b_v128
  rw [row h, h.f0]
  rfl

set_option maxRecDepth 65536 in
theorem dvn (h : Holds V s j) : res_main_while0b_v142 V = b50 j s := by
  unfold res_main_while0b_v142
  rw [row h, ct h, h.f9, h.f2, h.f7]
  rfl

set_option maxRecDepth 65536 in
/-- One trip is one step. -/
theorem holds_step (h : Holds V s j) : Holds (STEP V) (step j s) (j + 1) where
  f9 := by
    rw [STEP_main_v121_9]
    unfold Value.step_main_v121_9
    rw [dvn h, row h, ct h, h.f9, h.f1, h.f6, h.f5]
    rfl
  f10 := by
    rw [STEP_main_v121_10]
    unfold Value.step_main_v121_10
    rw [dvn h, row h, h.f10, h.f3, h.f4]
    rfl
  f8 := by
    rw [STEP_main_v121_8]
    unfold Value.step_main_v121_8
    rw [h.f8]
    funext i
    show BitVec.ofNat 32 j + 1#32 = BitVec.ofNat 32 (j + 1)
    simp only [BitVec.ofNat_add]
  f0 := (STEP_main_v121_0 V).trans h.f0
  f1 := (STEP_main_v121_1 V).trans h.f1
  f2 := (STEP_main_v121_2 V).trans h.f2
  f3 := (STEP_main_v121_3 V).trans h.f3
  f4 := (STEP_main_v121_4 V).trans h.f4
  f5 := (STEP_main_v121_5 V).trans h.f5
  f6 := (STEP_main_v121_6 V).trans h.f6
  f7 := (STEP_main_v121_7 V).trans h.f7

/-- The state after `n` trips. -/
def iter : ℕ → State F
  | 0 => start m c
  | n + 1 => step n (iter n)

theorem holds_iter : ∀ k, Holds (STEP^[k] (entryContents preI m c)) (iter m c k) k
  | 0 => holds_entry m c
  | k + 1 => by
    rw [Function.iterate_succ_apply']
    exact holds_step (holds_iter k)

theorem result (h : Holds V s j) : out_main_v125 V = R_main_v125 s := by
  unfold out_main_v125 R_main_v125
  rw [h.f10]

/-- The reference's run: the result is that of the state after the 129 trips, and the arguments are unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v125) = R_main_v125 (iter m c 129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result (holds_iter m c 129)), (h c).2⟩) (Value.run m ρ)

end Cert.ReferenceIdeal.Loop

end
-- ==== Proof.RefLoop.lean ====
/- The reference's loop, read at an index: after `j` trips the carried gradient of the state is Spec.lean's state over the last
   `j` chunks, last chunk first, and the rows of the result written so far are those chunks' gradients of v. -/
module

public import proofs.«01_k».proof.Proof.RefRun
public import proofs.«01_k».proof.Proof.RefStage

@[expose] public section

set_option maxRecDepth 16384

noncomputable section

namespace Cert.ReferenceIdeal.Trip

open Idealize.ShloMosaic Cert.ReferenceIdeal Cert.ReferenceIdeal.Gen Cert.ReferenceIdeal.Step Cert.Spec

/-- The chunk trip `j` works on. -/
abbrev slot (j : ℕ) (hj : j < 129) : Fin 129 := ⟨128 - j, by omega⟩

/-- One row of an array of 129 rows, cut out at a row the program computes. -/
theorem row_at {B C D : ℕ} {α : Type} (x : (⟨4, ![129, B, C, D]⟩ : Shape).Idx → α) (start : Fin 4 → Int)
    (hs : (⟨4, ![129, B, C, D]⟩ : Shape).Slices (fun _ => 0) ⟨4, ![1, B, C, D]⟩) (n : Fin 129) (h0 : start 0 = (n.val : Int)) (h1 : start 1 = 0)
    (h2 : start 2 = 0) (h3 : start 3 = 0) (b : Fin B) (c : Fin C) (d : Fin D) :
    Host.dynamicSlice ⟨4, ![1, B, C, D]⟩ x start hs (ix4 (0 : Fin 1) b c d) = x (ix4 n b c d) := by
  have e0 : Host.clampedStart ⟨4, ![129, B, C, D]⟩ ⟨4, ![1, B, C, D]⟩ hs.1 start 0 = n.val :=
    Host.clampedStart_of_le hs.1 start 0 n.val h0 (show n.val + 1 ≤ 129 by omega)
  have e1 : Host.clampedStart ⟨4, ![129, B, C, D]⟩ ⟨4, ![1, B, C, D]⟩ hs.1 start 1 = 0 :=
    Host.clampedStart_of_le hs.1 start 1 0 h1 (show 0 + B ≤ B by omega)
  have e2 : Host.clampedStart ⟨4, ![129, B, C, D]⟩ ⟨4, ![1, B, C, D]⟩ hs.1 start 2 = 0 :=
    Host.clampedStart_of_le hs.1 start 2 0 h2 (show 0 + C ≤ C by omega)
  have e3 : Host.clampedStart ⟨4, ![129, B, C, D]⟩ ⟨4, ![1, B, C, D]⟩ hs.1 start 3 = 0 :=
    Host.clampedStart_of_le hs.1 start 3 0 h3 (show 0 + D ≤ D by omega)
  rw [Host.dynamicSlice_apply]
  congr 1
  funext q
  refine Fin.ext ?_
  match q with
  | ⟨0, _⟩ => exact (congrArg (· + 0) e0).trans (Nat.add_zero _)
  | ⟨1, _⟩ => exact (congrArg (· + b.val) e1).trans (Nat.zero_add _)
  | ⟨2, _⟩ => exact (congrArg (· + c.val) e2).trans (Nat.zero_add _)
  | ⟨3, _⟩ => exact (congrArg (· + d.val) e3).trans (Nat.zero_add _)

/-- The array with one row put in place, at a row the program computes. -/
theorem put_at {B C D : ℕ} {α : Type} (x : (⟨4, ![129, B, C, D]⟩ : Shape).Idx → α) (u : (⟨4, ![1, B, C, D]⟩ : Shape).Idx → α)
    (start : Fin 4 → Int) (hs : (⟨4, ![129, B, C, D]⟩ : Shape).Slices (fun _ => 0) ⟨4, ![1, B, C, D]⟩) (n : Fin 129)
    (h0 : start 0 = (n.val : Int)) (h1 : start 1 = 0) (h2 : start 2 = 0) (h3 : start 3 = 0) (m : Fin 129) (b : Fin B) (c : Fin C) (d : Fin D) :
    Host.dynamicUpdateSlice x u start hs (ix4 m b c d) = if m = n then u (ix4 (0 : Fin 1) b c d) else x (ix4 m b c d) := by
  have e0 : Host.clampedStart ⟨4, ![129, B, C, D]⟩ ⟨4, ![1, B, C, D]⟩ hs.1 start 0 = n.val :=
    Host.clampedStart_of_le hs.1 start 0 n.val h0 (show n.val + 1 ≤ 129 by omega)
  have e1 : Host.clampedStart ⟨4, ![129, B, C, D]⟩ ⟨4, ![1, B, C, D]⟩ hs.1 start 1 = 0 :=
    Host.clampedStart_of_le hs.1 start 1 0 h1 (show 0 + B ≤ B by omega)
  have e2 : Host.clampedStart ⟨4, ![129, B, C, D]⟩ ⟨4, ![1, B, C, D]⟩ hs.1 start 2 = 0 :=
    Host.clampedStart_of_le hs.1 start 2 0 h2 (show 0 + C ≤ C by omega)
  have e3 : Host.clampedStart ⟨4, ![129, B, C, D]⟩ ⟨4, ![1, B, C, D]⟩ hs.1 start 3 = 0 :=
    Host.clampedStart_of_le hs.1 start 3 0 h3 (show 0 + D ≤ D by omega)
  rw [Host.dynamicUpdateSlice_apply]
  by_cases hm : m = n
  · subst hm
    rw [if_pos rfl, dif_pos]
    · congr 1
      funext q
      refine Fin.ext ?_
      match q with
      | ⟨0, _⟩ => exact (congrArg (m.val - ·) e0).trans (Nat.sub_self _)
      | ⟨1, _⟩ => exact (congrArg (b.val - ·) e1).trans (Nat.sub_zero _)
      | ⟨2, _⟩ => exact (congrArg (c.val - ·) e2).trans (Nat.sub_zero _)
      | ⟨3, _⟩ => exact (congrArg (d.val - ·) e3).trans (Nat.sub_zero _)
    · intro q
      match q with
      | ⟨0, _⟩ => exact ⟨le_of_eq e0, by show m.val < Host.clampedStart _ _ hs.1 start 0 + 1; rw [e0]; omega⟩
      | ⟨1, _⟩ => exact ⟨(le_of_eq e1).trans (Nat.zero_le _), by show b.val < Host.clampedStart _ _ hs.1 start 1 + B; rw [e1]; omega⟩
      | ⟨2, _⟩ => exact ⟨(le_of_eq e2).trans (Nat.zero_le _), by show c.val < Host.clampedStart _ _ hs.1 start 2 + C; rw [e2]; omega⟩
      | ⟨3, _⟩ => exact ⟨(le_of_eq e3).trans (Nat.zero_le _), by show d.val < Host.clampedStart _ _ hs.1 start 3 + D; rw [e3]; omega⟩
  · rw [if_neg hm, dif_neg]
    intro hh
    have a0 : Host.clampedStart ⟨4, ![129, B, C, D]⟩ ⟨4, ![1, B, C, D]⟩ hs.1 start 0 ≤ m.val := (hh (0 : Fin 4)).1
    have a1 : m.val < Host.clampedStart ⟨4, ![129, B, C, D]⟩ ⟨4, ![1, B, C, D]⟩ hs.1 start 0 + 1 := (hh (0 : Fin 4)).2
    rw [e0] at a0 a1
    exact hm (Fin.ext (by omega))

variable (s : State Ideal) (j : ℕ) (hj : j < 129) (h : Fin 8) (i r : Fin 64) (d e : Fin 128)

theorem b3_word : (b3 j s) (Shape.Idx.first h_S_) = BitVec.ofNat 32 (slot j hj).val := by
  show (129#32 - BitVec.ofNat 32 j) - 1#32 = BitVec.ofNat 32 (128 - j)
  apply BitVec.eq_of_toNat_eq
  simp only [BitVec.toNat_sub, BitVec.toNat_ofNat]
  omega

theorem b3_int : ((b3 j s) (Shape.Idx.first h_S_)).toInt = ((slot j hj).val : Int) := by
  rw [b3_word s j hj, BitVec.toInt_eq_toNat_cond, BitVec.toNat_ofNat]
  have := (slot j hj).isLt
  split <;> omega

/-! The rows of the loop's constants a trip reads. -/

theorem b8_at : b8 j s (ix3 h i e) = s.main_v121_0 (ix4 (slot j hj) h i e) := by
  have hc : b8 j s (ix3 h i e) = b7 j s (ix4 (0 : Fin 1) h i e) := by
    pointwise [b8]
  exact hc.trans (row_at _ _ _ (slot j hj) (b3_int s j hj) rfl rfl rfl h i e)

theorem b13_at (z : Fin 1) (z' : Fin 1) : b13 j s (ix3 h z z') = s.main_v121_1 (ix4 (slot j hj) h z z') := by
  obtain rfl : z = 0 := Subsingleton.elim _ _
  obtain rfl : z' = 0 := Subsingleton.elim _ _
  have hc : b13 j s (ix3 h 0 0) = b12 j s (ix4 (0 : Fin 1) h 0 0) := by
    pointwise [b13]
  exact hc.trans (row_at _ _ _ (slot j hj) (b3_int s j hj) rfl rfl rfl h 0 0)

theorem b18_at : b18 j s (ix3 h i d) = s.main_v121_2 (ix4 (slot j hj) h i d) := by
  have hc : b18 j s (ix3 h i d) = b17 j s (ix4 (0 : Fin 1) h i d) := by
    pointwise [b18]
  exact hc.trans (row_at _ _ _ (slot j hj) (b3_int s j hj) rfl rfl rfl h i d)

theorem b23_at : b23 j s (ix3 h i r) = s.main_v121_3 (ix4 (slot j hj) h i r) := by
  have hc : b23 j s (ix3 h i r) = b22 j s (ix4 (0 : Fin 1) h i r) := by
    pointwise [b23]
  exact hc.trans (row_at _ _ _ (slot j hj) (b3_int s j hj) rfl rfl rfl h i r)

theorem b28_at (z : Fin 1) : b28 j s (ix3 h i z) = s.main_v121_4 (ix4 (slot j hj) h i z) := by
  obtain rfl : z = 0 := Subsingleton.elim _ _
  have hc : b28 j s (ix3 h i 0) = b27 j s (ix4 (0 : Fin 1) h i 0) := by
    pointwise [b28]
  exact hc.trans (row_at _ _ _ (slot j hj) (b3_int s j hj) rfl rfl rfl h i 0)

theorem b33_at : b33 j s (ix3 h i d) = s.main_v121_5 (ix4 (slot j hj) h i d) := by
  have hc : b33 j s (ix3 h i d) = b32 j s (ix4 (0 : Fin 1) h i d) := by
    pointwise [b33]
  exact hc.trans (row_at _ _ _ (slot j hj) (b3_int s j hj) rfl rfl rfl h i d)

theorem b38_at : b38 j s (ix3 h i d) = s.main_v121_6 (ix4 (slot j hj) h i d) := by
  have hc : b38 j s (ix3 h i d) = b37 j s (ix4 (0 : Fin 1) h i d) := by
    pointwise [b38]
  exact hc.trans (row_at _ _ _ (slot j hj) (b3_int s j hj) rfl rfl rfl h i d)

theorem b43_at : b43 j s (ix3 h i r) = s.main_v121_7 (ix4 (slot j hj) h i r) := by
  have hc : b43 j s (ix3 h i r) = b42 j s (ix4 (0 : Fin 1) h i r) := by
    pointwise [b43]
  exact hc.trans (row_at _ _ _ (slot j hj) (b3_int s j hj) rfl rfl rfl h i r)

/-! One trip, where the carried state holds a chunk's values. -/

/-- The loop's constants, row `n` of head `h` being the chunk `C`'s values. -/
structure Rows (s : State Ideal) (h : Fin 8) (n : Fin 129) (C : Chunk) : Prop where
  ct : ∀ i e, s.main_v121_0 (ix4 n h i e) = C.ct i e
  gl : ∀ z z' : Fin 1, s.main_v121_1 (ix4 n h z z') = Ideal.exp (C.gc 63)
  kd : ∀ i d, s.main_v121_2 (ix4 n h i d) = C.kd i d
  p : ∀ i r, s.main_v121_3 (ix4 n h i r) = C.p i r
  b : ∀ i (z : Fin 1), s.main_v121_4 (ix4 n h i z) = C.b i
  w : ∀ i d, s.main_v121_5 (ix4 n h i d) = C.w i d
  qd : ∀ i d, s.main_v121_6 (ix4 n h i d) = C.qd i d
  qk : ∀ i r, s.main_v121_7 (ix4 n h i r) = C.qk i r

variable {s j h} {C : Chunk} (hR : Rows s h (slot j hj) C) {S : Fin 128 → Fin 128 → EReal} (hS : ∀ d e, s.main_v121_9 (ix3 h d e) = S d e)
include hR hS

theorem dvn_at : b50 j s (ix3 h i e) = C.dvn S i e := by
  pointwise [b50, b49, b48, b45, b44]
  simp only [b18_at s j hj, b8_at s j hj, b43_at s j hj, hR.ct, hR.kd, hR.qk, hS]
  rfl

theorem dS_at : b57 j s (ix3 h d e) = C.dS S d e := by
  pointwise [b57, b56, b55, b54, b53, b52, b51, b47, b46]
  simp only [b13_at s j hj, b8_at s j hj, b38_at s j hj, b33_at s j hj, hR.ct, hR.gl, hR.qd, hR.w, hS, dvn_at hj _ _ hR hS]
  rfl

theorem dv_at : b61 j s (ix3 h i e) = C.dv S i e := by
  pointwise [b61, b60, b59, b58]
  simp only [b28_at s j hj, b23_at s j hj, hR.p, hR.b, dvn_at hj _ _ hR hS]
  rfl

omit hR hS in
theorem put_row (m : Fin 129) : b66 j s (ix4 m h i e) = if m = slot j hj then b61 j s (ix3 h i e) else s.main_v121_10 (ix4 m h i e) := by
  have hc : b62 j s (ix4 (0 : Fin 1) h i e) = b61 j s (ix3 h i e) := by
    pointwise [b62]
  rw [← hc]
  exact put_at _ _ _ _ (slot j hj) (b3_int s j hj) rfl rfl rfl m h i e

end Cert.ReferenceIdeal.Trip

end
-- ==== Proof.RefValue.lean ====
/- What the reference returns: each head's gradient of v, chunk by chunk. -/
module

public import proofs.«01_k».proof.Proof.RefLoop

@[expose] public section

set_option maxRecDepth 16384

noncomputable section

namespace Cert.ReferenceIdeal.Result

open Idealize.ShloMosaic Idealize.ShloMosaic.TcCoe Cert.ReferenceIdeal Cert.ReferenceIdeal.Gen Cert.ReferenceIdeal.Step Cert.Spec
open Cert.ReferenceIdeal.Loop Cert.ReferenceIdeal.Trip

variable (m : (ℓ : Loc nD τ sig) → Buf (Elt Ideal) ℓ) (c : Dev nD)

/-- Chunk `n` of head `h` of the arguments. -/
abbrev chunkOf (h : Fin 8) (n : Fin 129) : Chunk :=
  Stage.chunk (m ((c : Thread nD τ).loc main_arg0)) (m ((c : Thread nD τ).loc main_arg1)) (m ((c : Thread nD τ).loc main_arg3)) h n

/-- The chunks of head `h` in the order the loop takes them. -/
def chunks (h : Fin 8) (q : ℕ) : Chunk := chunkOf m c h ⟨128 - q, by omega⟩

theorem rows_start (h : Fin 8) (n : Fin 129) : Rows (start m c) h n (chunkOf m c h n) where
  ct i e := Stage.ct_row _ _ _ h n i e
  gl z z' := Stage.gl_row _ _ _ h n z z'
  kd i d := Stage.kd_row _ _ _ h n i d
  p i r := Stage.p_row _ _ _ h n i r
  b i z := Stage.b_row _ _ _ h n i z
  w i d := Stage.w_row _ _ _ h n i d
  qd i d := Stage.qd_row _ _ _ h n i d
  qk i r := Stage.qk_row _ _ _ h n i r

theorem rows_iter (h : Fin 8) (n : Fin 129) : ∀ k, Rows (iter m c k) h n (chunkOf m c h n)
  | 0 => by exact rows_start m c h n
  | k + 1 => by
    have ih := rows_iter h n k
    exact ⟨ih.ct, ih.gl, ih.kd, ih.p, ih.b, ih.w, ih.qd, ih.qk⟩

theorem state_iter (h : Fin 8) : ∀ k, k ≤ 129 → ∀ d e, (iter m c k).main_v121_9 (ix3 h d e) = state (chunks m c h) k d e
  | 0, _, d, e => by
    show K_main_v119 (F := Ideal) (ix3 h d e) = 0
    pointwise [K_main_v119, K_main_cst_9]
  | k + 1, hk, d, e => by
    show (step k (iter m c k)).main_v121_9 (ix3 h d e) = _
    rw [step_main_v121_9]
    exact dS_at (by omega) d e (rows_iter m c h _ k) (state_iter h k (by omega))

theorem result_iter (h : Fin 8) (n : Fin 129) (i : Fin 64) (e : Fin 128) : ∀ k, k ≤ 129 → 129 - k ≤ n.val →
    (iter m c k).main_v121_10 (ix4 n h i e) = (chunkOf m c h n).dv (state (chunks m c h) (128 - n.val)) i e
  | 0, _, hn => absurd n.isLt (by omega)
  | k + 1, hk, hn => by
    show (step k (iter m c k)).main_v121_10 (ix4 n h i e) = _
    rw [step_main_v121_10, put_row (by omega) i e n]
    by_cases hs : n = slot k (by omega)
    · rw [if_pos hs, dv_at (by omega) i e (rows_iter m c h _ k) (state_iter m c h k (by omega))]
      have : 128 - n.val = k := by rw [hs]; show 128 - (128 - k) = k; omega
      rw [this, hs]
    · rw [if_neg hs]
      refine result_iter h n i e k (by omega) ?_
      have : n.val ≠ 128 - k := fun hh => hs (Fin.ext hh)
      omega

/-- The reference's result at a row and a column of v's part. -/
theorem value (h : Fin 8) (n : Fin 129) (i : Fin 64) (e : Fin 128) :
    R_main_v125 (iter m c 129) (ix2 (Stage.rowOf n i) (⟨2048 + (h.val * 128 + e.val), by omega⟩ : Fin 3072))
      = (chunkOf m c h n).dv (state (chunks m c h) (128 - n.val)) i e := by
  rw [← result_iter m c h n i e 129 le_rfl (by omega)]
  pointwise [R_main_v125]
  rw [dif_pos ⟨by omega, by omega⟩]

end Cert.ReferenceIdeal.Result

end
-- ==== Proof.FfnSpec.lean ====
/- The feed-forward layer and its gradients over the extended reals, as sums: what the kernel's five calls and the reference are
   both shown to compute. -/
module

public import Idealize.ShloMosaic.PureOps.Ideal
public import Idealize.ShloMosaic.PureOps.IdealRules
public import Idealize.ShloMosaic.Lib.Pointwise

@[expose] public section

noncomputable section

namespace Cert.Ffn

open Idealize.ShloMosaic

/-- A matrix of extended reals. -/
abbrev Mat (m n : ℕ) := Fin m → Fin n → EReal

/-- Two indices of a matrix with the same row and column are one. -/
theorem idx2 {m n : ℕ} (x y : (⟨2, ![m, n]⟩ : Shape).Idx) (h0 : (x 0).val = (y 0).val) (h1 : (x 1).val = (y 1).val) : x = y := by
  funext a
  match a with
  | ⟨0, _⟩ => exact Fin.ext h0
  | ⟨1, _⟩ => exact Fin.ext h1

/-- An index of a matrix is its row and column. -/
theorem eq_ix2 {m n : ℕ} (x : (⟨2, ![m, n]⟩ : Shape).Idx) : ∃ (i : Fin m) (j : Fin n), x = ix2 i j := ⟨x 0, x 1, idx2 _ _ rfl rfl⟩

/-- An array of two axes as a matrix. -/
def mat {m n : ℕ} (x : (⟨2, ![m, n]⟩ : Shape).Idx → EReal) : Mat m n := fun i j => x (ix2 i j)

/-- A matrix as an array of two axes. -/
abbrev of {m n : ℕ} (f : Mat m n) : (⟨2, ![m, n]⟩ : Shape).Idx → EReal := fun x => f (x 0) (x 1)

theorem zero2 : (![0, 0] : Fin 2 → Nat) = fun _ => 0 := by funext a; fin_cases a <;> rfl

/-- The product of `a` and `b`. -/
def mul {m k n : ℕ} (a : Mat m k) (b : Mat k n) : Mat m n := fun i j => ∑ l, a i l * b l j
/-- The product of `a` and the transpose of `b`. -/
def mulT {m k n : ℕ} (a : Mat m k) (b : Mat n k) : Mat m n := fun i j => ∑ l, a i l * b j l
/-- The product of the transpose of `a` and `b`. -/
def tmul {m k n : ℕ} (a : Mat k m) (b : Mat k n) : Mat m n := fun i j => ∑ l, a l i * b l j

/-- `g` times its logistic. -/
def silu (g : EReal) : EReal := g * Ideal.logistic g

/-- The derivative of `silu` at `g`, times `u`: the factor the forward call stores. -/
def dsilu (u g : EReal) : EReal := u * (Ideal.logistic g + silu g * (1 - Ideal.logistic g))

/-- A number that is neither infinity. -/
def IsReal (x : EReal) : Prop := ∃ r : ℝ, x = r

theorem real_mul {x y : EReal} (hx : IsReal x) (hy : IsReal y) : IsReal (x * y) := by
  obtain ⟨a, rfl⟩ := hx
  obtain ⟨b, rfl⟩ := hy
  exact ⟨a * b, (EReal.coe_mul a b).symm⟩

theorem real_sum {k : ℕ} {f : Fin k → EReal} (hf : ∀ l, IsReal (f l)) : IsReal (∑ l, f l) :=
  Finset.sum_induction f IsReal (fun x y ⟨a, ha⟩ ⟨b, hb⟩ => ⟨a + b, by rw [ha, hb, EReal.coe_add]⟩) ⟨0, EReal.coe_zero.symm⟩
    fun l _ => hf l

/-- The gradient of the gate as differentiation gives it is the stored factor times the gradient of the activation, where the
    gradient of the activation and the up projection are real. (At an infinite product the two may differ.) -/
theorem dsilu_eq {a u : EReal} (ha : IsReal a) (hu : IsReal u) (g : EReal) :
    a * u * Ideal.logistic g + g * (a * u) * (Ideal.logistic g * (1 - Ideal.logistic g)) = a * dsilu u g := by
  obtain ⟨a, rfl⟩ := ha
  obtain ⟨u, rfl⟩ := hu
  unfold dsilu silu
  induction g with
  | bot => simp
  | coe r =>
    rw [Ideal.logistic_coe]
    norm_cast
    ring
  | top =>
    rw [Ideal.logistic_top, show (1 : EReal) - 1 = 0 by rw [← EReal.coe_one, ← EReal.coe_sub, sub_self, EReal.coe_zero]]
    simp

/-- What the layer takes: its input, its three matrices, and the gradient of its output. -/
structure Args where
  x : Mat 8256 2048
  wg : Mat 2048 5632
  wu : Mat 2048 5632
  wd : Mat 5632 2048
  d : Mat 8256 2048

namespace Args

variable (A : Args)

def gate : Mat 8256 5632 := mul A.x A.wg
def up : Mat 8256 5632 := mul A.x A.wu
def act : Mat 8256 5632 := fun i j => silu (A.gate i j) * A.up i j
/-- The layer's output. -/
def out : Mat 8256 2048 := mul A.act A.wd
/-- The gradient of the last matrix. -/
def gdown : Mat 5632 2048 := tmul A.act A.d
/-- The gradient of the activation. -/
def da : Mat 8256 5632 := mulT A.d A.wd
def dgate : Mat 8256 5632 := fun i j => A.da i j * dsilu (A.up i j) (A.gate i j)
def dup : Mat 8256 5632 := fun i j => A.da i j * silu (A.gate i j)
/-- The gradient of the input. -/
def dx : Mat 8256 2048 := fun i j => mulT A.dgate A.wg i j + mulT A.dup A.wu i j

end Args

end Cert.Ffn

end
-- ==== Proof.FfnBlocks.lean ====
/- What each of the five calls of the feed-forward layer leaves in its output arrays, from the arrays it is given: a call's grid
   point computes one block of the output from whole rows of one array and whole columns (or rows) of another, so every entry is the
   sum over the whole contracted axis. `V` is what the arrays hold when the call starts. -/
module

public import proofs.«01_k».proof.Proof.FfnSpec
public import proofs.«01_k».proof.Proof.Gen.Kernel2Ideal.Frame
public import Idealize.ShloMosaic.Lib.Pipeline.Value
public import Idealize.ShloMosaic.Lib.Pointwise

@[expose] public section

set_option maxRecDepth 16384

noncomputable section

namespace Cert.Kernel2Ideal.Ffn

open Idealize.ShloMosaic Idealize.ShloMosaic.TcCoe Idealize.ShloMosaic.Tactic Cert.Kernel2Ideal Cert.Kernel2Ideal.Gen Cert.Ffn

variable (V : (c : Dev nD) → (b : Ref sig .tc) → Buf (Elt Ideal) ((c : Thread nD τ).loc b)) (c : Dev nD)

/-- An array every block of which is written, each with what `G` holds there, ends as `G`. -/
theorem whole {cfg : Pipeline.Cfg sig Λ₀} (dat : Pipeline.Dat τ (Elt Ideal) Unit ℕ (UR sig nD τ) ℕ cfg c) (w : Fin cfg.W)
    (G : Buf (Elt Ideal) ((cfg.win w).arr.view.loc (c.tc : Thread nD τ))) (hf : ∀ t, (cfg.win w).flush t = true)
    (h : ∀ t y, dat.flushed w t y = ((cfg.win w).blk t).view.read (Elt Ideal) G y)
    (hc : ∀ x : ((cfg.win w).arr.view.loc (c.tc : Thread nD τ)).2.ty.Idx, ∃ t, x ∈ ((cfg.win w).blk t).view.set) : dat.arrAt w cfg.N = G :=
  dat.arrAt_eq_of_cover w G (fun t _ => funext (h t)) fun x => (hc x).elim fun t ht => ⟨t, hf t, ht⟩

/-! ## The first call: the activation and its two factors -/

section First

theorem at0_0 : ∀ t : Fin grid0.N, win0_0.index t (0 : Fin 2) = t.val / 11 ∧ win0_0.index t (1 : Fin 2) = 0 := by decide +kernel
theorem at0_1 : ∀ t : Fin grid0.N, win0_1.index t (0 : Fin 2) = 0 ∧ win0_1.index t (1 : Fin 2) = t.val % 11 := by decide +kernel
theorem at0_2 : ∀ t : Fin grid0.N, win0_2.index t (0 : Fin 2) = 0 ∧ win0_2.index t (1 : Fin 2) = t.val % 11 := by decide +kernel
theorem at0_3 : ∀ t : Fin grid0.N, win0_3.index t (0 : Fin 2) = t.val / 11 ∧ win0_3.index t (1 : Fin 2) = t.val % 11 := by decide +kernel
theorem at0_4 : ∀ t : Fin grid0.N, win0_4.index t (0 : Fin 2) = t.val / 11 ∧ win0_4.index t (1 : Fin 2) = t.val % 11 := by decide +kernel
theorem at0_5 : ∀ t : Fin grid0.N, win0_5.index t (0 : Fin 2) = t.val / 11 ∧ win0_5.index t (1 : Fin 2) = t.val % 11 := by decide +kernel

theorem block0_0 (t : Fin cfg0.N) (r : Fin 8256) (i : Fin 1376) (hr : r.val = t.val / 11 * 1376 + i.val) (k : Fin 2048) :
    iblk0 V c 0 t (ix2 i k : S1376x2048.Idx) = V c main_arg0 (ix2 r k : S8256x2048.Idx) :=
  congrArg (V c main_arg0) (idx2 _ _
    (by have := at0_0 t; show win0_0.index t (0 : Fin 2) * 1376 + 1 * i.val = r.val; omega)
    (by have := at0_0 t; show win0_0.index t (1 : Fin 2) * 2048 + 1 * k.val = k.val; omega))

theorem block0_1 (t : Fin cfg0.N) (q : Fin 5632) (j : Fin 512) (hq : q.val = t.val % 11 * 512 + j.val) (k : Fin 2048) :
    iblk0 V c 1 t (ix2 k j : S2048x512.Idx) = V c main_arg1 (ix2 k q : S2048x5632.Idx) :=
  congrArg (V c main_arg1) (idx2 _ _
    (by have := at0_1 t; show win0_1.index t (0 : Fin 2) * 2048 + 1 * k.val = k.val; omega)
    (by have := at0_1 t; show win0_1.index t (1 : Fin 2) * 512 + 1 * j.val = q.val; omega))

theorem block0_2 (t : Fin cfg0.N) (q : Fin 5632) (j : Fin 512) (hq : q.val = t.val % 11 * 512 + j.val) (k : Fin 2048) :
    iblk0 V c 2 t (ix2 k j : S2048x512.Idx) = V c main_arg2 (ix2 k q : S2048x5632.Idx) :=
  congrArg (V c main_arg2) (idx2 _ _
    (by have := at0_2 t; show win0_2.index t (0 : Fin 2) * 2048 + 1 * k.val = k.val; omega)
    (by have := at0_2 t; show win0_2.index t (1 : Fin 2) * 512 + 1 * j.val = q.val; omega))

/-- The gate and the up projection. -/
abbrev gateOf : Mat 8256 5632 := mul (mat (m := 8256) (n := 2048) (V c main_arg0)) (mat (m := 2048) (n := 5632) (V c main_arg1))
abbrev upOf : Mat 8256 5632 := mul (mat (m := 8256) (n := 2048) (V c main_arg0)) (mat (m := 2048) (n := 5632) (V c main_arg2))

section At

variable (t : Fin cfg0.N) (r : Fin 8256) (q : Fin 5632) (i : Fin 1376) (j : Fin 512) (hr : r.val = t.val / 11 * 1376 + i.val)
  (hq : q.val = t.val % 11 * 512 + j.val)
include hr hq

theorem flushed0_3 : (dat0 V c).flushed 3 t (ix2 i j : S1376x512.Idx) = silu (gateOf V c r q) * upOf V c r q := by
  show (dat0 V c).after 3 t (ix2 i j) = _
  rw [after0_3]
  unfold out0_3
  rw [View.canon_unit_zero zero2, View.ld_unit_zero zero2, View.ld_unit_zero zero2, View.ld_unit_zero zero2]
  pointwise [k0_pay5, k0_pay4, k0_pay3, k0_pay2, k0_pay1]
  simp only [block0_0 V c t r i hr, block0_1 V c t q j hq, block0_2 V c t q j hq]
  rfl

theorem flushed0_4 : (dat0 V c).flushed 4 t (ix2 i j : S1376x512.Idx) = dsilu (upOf V c r q) (gateOf V c r q) := by
  show (dat0 V c).after 4 t (ix2 i j) = _
  rw [after0_4]
  unfold out0_4
  rw [View.canon_unit_zero zero2, View.ld_unit_zero zero2, View.ld_unit_zero zero2, View.ld_unit_zero zero2]
  pointwise [k0_pay6, k0_pay4, k0_pay3, k0_pay2, k0_pay1]
  simp only [block0_0 V c t r i hr, block0_1 V c t q j hq, block0_2 V c t q j hq]
  rfl

theorem flushed0_5 : (dat0 V c).flushed 5 t (ix2 i j : S1376x512.Idx) = silu (gateOf V c r q) := by
  show (dat0 V c).after 5 t (ix2 i j) = _
  rw [after0_5]
  unfold out0_5
  rw [View.canon_unit_zero zero2, View.ld_unit_zero zero2, View.ld_unit_zero zero2]
  pointwise [k0_pay7, k0_pay4, k0_pay3, k0_pay1]
  simp only [block0_0 V c t r i hr, block0_1 V c t q j hq]
  rfl

theorem emb0_3 : (ix2 r q : S8256x5632.Idx) = ((cfg0.win 3).blk t).view.emb (ix2 i j : S1376x512.Idx) :=
  idx2 (m := 8256) (n := 5632) _ _
    (by have := at0_3 t; show r.val = win0_3.index t (0 : Fin 2) * 1376 + 1 * i.val; omega)
    (by have := at0_3 t; show q.val = win0_3.index t (1 : Fin 2) * 512 + 1 * j.val; omega)

theorem emb0_4 : (ix2 r q : S8256x5632.Idx) = ((cfg0.win 4).blk t).view.emb (ix2 i j : S1376x512.Idx) :=
  idx2 (m := 8256) (n := 5632) _ _
    (by have := at0_4 t; show r.val = win0_4.index t (0 : Fin 2) * 1376 + 1 * i.val; omega)
    (by have := at0_4 t; show q.val = win0_4.index t (1 : Fin 2) * 512 + 1 * j.val; omega)

theorem emb0_5 : (ix2 r q : S8256x5632.Idx) = ((cfg0.win 5).blk t).view.emb (ix2 i j : S1376x512.Idx) :=
  idx2 (m := 8256) (n := 5632) _ _
    (by have := at0_5 t; show r.val = win0_5.index t (0 : Fin 2) * 1376 + 1 * i.val; omega)
    (by have := at0_5 t; show q.val = win0_5.index t (1 : Fin 2) * 512 + 1 * j.val; omega)

end At

/-- A point of the grid and an entry of its block, for a row and a column of the output. -/
theorem cell0 (r : Fin 8256) (q : Fin 5632) : ∃ (t : Fin cfg0.N) (i : Fin 1376) (j : Fin 512), r.val = t.val / 11 * 1376 + i.val ∧ q.val = t.val % 11 * 512 + j.val := by
  have hN : cfg0.N = 66 := N_0
  refine ⟨⟨r.val / 1376 * 11 + q.val / 512, by omega⟩, ⟨r.val % 1376, by omega⟩, ⟨q.val % 512, by omega⟩, ?_, ?_⟩
  · show r.val = (r.val / 1376 * 11 + q.val / 512) / 11 * 1376 + r.val % 1376; omega
  · show q.val = (r.val / 1376 * 11 + q.val / 512) % 11 * 512 + q.val % 512; omega

theorem row0 (t : Fin cfg0.N) (i : Fin 1376) : t.val / 11 * 1376 + i.val < 8256 := by have hN : cfg0.N = 66 := N_0; omega
theorem col0 (t : Fin cfg0.N) (j : Fin 512) : t.val % 11 * 512 + j.val < 5632 := by omega

theorem arr0_3 : (dat0 V c).arrAt 3 cfg0.N = of (fun r q => silu (gateOf V c r q) * upOf V c r q) := by
  refine whole c (dat0 V c) 3 _ flush0_3 (fun t y => ?_) (fun x => ?_)
  · obtain ⟨i, j, rfl⟩ := eq_ix2 (m := 1376) (n := 512) y
    exact (flushed0_3 V c t ⟨_, row0 t i⟩ ⟨_, col0 t j⟩ i j rfl rfl).trans
      (congrArg (of fun r q => silu (gateOf V c r q) * upOf V c r q) (emb0_3 t ⟨_, row0 t i⟩ ⟨_, col0 t j⟩ i j rfl rfl))
  · obtain ⟨r, q, rfl⟩ := eq_ix2 (m := 8256) (n := 5632) x
    obtain ⟨t, i, j, hr, hq⟩ := cell0 r q
    exact ⟨t, by rw [emb0_3 t r q i j hr hq]; exact View.emb_mem_set _ _⟩

theorem arr0_4 : (dat0 V c).arrAt 4 cfg0.N = of (fun r q => dsilu (upOf V c r q) (gateOf V c r q)) := by
  refine whole c (dat0 V c) 4 _ flush0_4 (fun t y => ?_) (fun x => ?_)
  · obtain ⟨i, j, rfl⟩ := eq_ix2 (m := 1376) (n := 512) y
    exact (flushed0_4 V c t ⟨_, row0 t i⟩ ⟨_, col0 t j⟩ i j rfl rfl).trans
      (congrArg (of fun r q => dsilu (upOf V c r q) (gateOf V c r q)) (emb0_4 t ⟨_, row0 t i⟩ ⟨_, col0 t j⟩ i j rfl rfl))
  · obtain ⟨r, q, rfl⟩ := eq_ix2 (m := 8256) (n := 5632) x
    obtain ⟨t, i, j, hr, hq⟩ := cell0 r q
    exact ⟨t, by rw [emb0_4 t r q i j hr hq]; exact View.emb_mem_set _ _⟩

theorem arr0_5 : (dat0 V c).arrAt 5 cfg0.N = of (fun r q => silu (gateOf V c r q)) := by
  refine whole c (dat0 V c) 5 _ flush0_5 (fun t y => ?_) (fun x => ?_)
  · obtain ⟨i, j, rfl⟩ := eq_ix2 (m := 1376) (n := 512) y
    exact (flushed0_5 V c t ⟨_, row0 t i⟩ ⟨_, col0 t j⟩ i j rfl rfl).trans
      (congrArg (of fun r q => silu (gateOf V c r q)) (emb0_5 t ⟨_, row0 t i⟩ ⟨_, col0 t j⟩ i j rfl rfl))
  · obtain ⟨r, q, rfl⟩ := eq_ix2 (m := 8256) (n := 5632) x
    obtain ⟨t, i, j, hr, hq⟩ := cell0 r q
    exact ⟨t, by rw [emb0_5 t r q i j hr hq]; exact View.emb_mem_set _ _⟩

end First

/-! ## The second call: the layer's output -/

section Second

theorem at1_0 : ∀ t : Fin grid1.N, win1_0.index t (0 : Fin 2) = t.val / 4 ∧ win1_0.index t (1 : Fin 2) = 0 := by decide +kernel
theorem at1_1 : ∀ t : Fin grid1.N, win1_1.index t (0 : Fin 2) = 0 ∧ win1_1.index t (1 : Fin 2) = t.val % 4 := by decide +kernel
theorem at1_2 : ∀ t : Fin grid1.N, win1_2.index t (0 : Fin 2) = t.val / 4 ∧ win1_2.index t (1 : Fin 2) = t.val % 4 := by decide +kernel

variable (t : Fin cfg1.N) (r : Fin 8256) (q : Fin 2048) (i : Fin 688) (j : Fin 512)

theorem block1_0 (hr : r.val = t.val / 4 * 688 + i.val) (k : Fin 5632) :
    iblk1 V c 0 t (ix2 i k : S688x5632.Idx) = V c main_v0_0 (ix2 r k : S8256x5632.Idx) :=
  congrArg (V c main_v0_0) (idx2 _ _
    (by have := at1_0 t; show win1_0.index t (0 : Fin 2) * 688 + 1 * i.val = r.val; omega)
    (by have := at1_0 t; show win1_0.index t (1 : Fin 2) * 5632 + 1 * k.val = k.val; omega))

theorem block1_1 (hq : q.val = t.val % 4 * 512 + j.val) (k : Fin 5632) :
    iblk1 V c 1 t (ix2 k j : S5632x512.Idx) = V c main_arg3 (ix2 k q : S5632x2048.Idx) :=
  congrArg (V c main_arg3) (idx2 _ _
    (by have := at1_1 t; show win1_1.index t (0 : Fin 2) * 5632 + 1 * k.val = k.val; omega)
    (by have := at1_1 t; show win1_1.index t (1 : Fin 2) * 512 + 1 * j.val = q.val; omega))

abbrev downOf : Mat 8256 2048 := mul (mat (m := 8256) (n := 5632) (V c main_v0_0)) (mat (m := 5632) (n := 2048) (V c main_arg3))

theorem flushed1_2 (hr : r.val = t.val / 4 * 688 + i.val) (hq : q.val = t.val % 4 * 512 + j.val) :
    (dat1 V c).flushed 2 t (ix2 i j : S688x512.Idx) = downOf V c r q := by
  show (dat1 V c).after 2 t (ix2 i j) = _
  rw [after1_2]
  unfold out1_2
  rw [View.canon_unit_zero zero2, View.ld_unit_zero zero2, View.ld_unit_zero zero2]
  pointwise [k1_pay1]
  simp only [block1_0 V c t r i hr, block1_1 V c t q j hq]
  rfl

theorem emb1_2 (hr : r.val = t.val / 4 * 688 + i.val) (hq : q.val = t.val % 4 * 512 + j.val) :
    (ix2 r q : S8256x2048.Idx) = ((cfg1.win 2).blk t).view.emb (ix2 i j : S688x512.Idx) :=
  idx2 (m := 8256) (n := 2048) _ _
    (by have := at1_2 t; show r.val = win1_2.index t (0 : Fin 2) * 688 + 1 * i.val; omega)
    (by have := at1_2 t; show q.val = win1_2.index t (1 : Fin 2) * 512 + 1 * j.val; omega)

omit t i j in
theorem cell1 : ∃ (t : Fin cfg1.N) (i : Fin 688) (j : Fin 512), r.val = t.val / 4 * 688 + i.val ∧ q.val = t.val % 4 * 512 + j.val := by
  have hN : cfg1.N = 48 := N_1
  refine ⟨⟨r.val / 688 * 4 + q.val / 512, by omega⟩, ⟨r.val % 688, by omega⟩, ⟨q.val % 512, by omega⟩, ?_, ?_⟩
  · show r.val = (r.val / 688 * 4 + q.val / 512) / 4 * 688 + r.val % 688; omega
  · show q.val = (r.val / 688 * 4 + q.val / 512) % 4 * 512 + q.val % 512; omega

theorem row1 : t.val / 4 * 688 + i.val < 8256 := by have hN : cfg1.N = 48 := N_1; omega
theorem col1 : t.val % 4 * 512 + j.val < 2048 := by omega

omit t r q i j in
theorem arr1_2 : (dat1 V c).arrAt 2 cfg1.N = of (downOf V c) := by
  refine whole c (dat1 V c) 2 _ flush1_2 (fun t y => ?_) (fun x => ?_)
  · obtain ⟨i, j, rfl⟩ := eq_ix2 (m := 688) (n := 512) y
    exact (flushed1_2 V c t ⟨_, row1 t i⟩ ⟨_, col1 t j⟩ i j rfl rfl).trans
      (congrArg (of (downOf V c)) (emb1_2 t ⟨_, row1 t i⟩ ⟨_, col1 t j⟩ i j rfl rfl))
  · obtain ⟨r, q, rfl⟩ := eq_ix2 (m := 8256) (n := 2048) x
    obtain ⟨t, i, j, hr, hq⟩ := cell1 r q
    exact ⟨t, by rw [emb1_2 t r q i j hr hq]; exact View.emb_mem_set _ _⟩

end Second

/-! ## The third call: the gradient of the last matrix -/

section Third

theorem at2_0 : ∀ t : Fin grid2.N, win2_0.index t (0 : Fin 2) = 0 ∧ win2_0.index t (1 : Fin 2) = t.val / 4 := by decide +kernel
theorem at2_1 : ∀ t : Fin grid2.N, win2_1.index t (0 : Fin 2) = 0 ∧ win2_1.index t (1 : Fin 2) = t.val % 4 := by decide +kernel
theorem at2_2 : ∀ t : Fin grid2.N, win2_2.index t (0 : Fin 2) = t.val / 4 ∧ win2_2.index t (1 : Fin 2) = t.val % 4 := by decide +kernel

variable (t : Fin cfg2.N) (r : Fin 5632) (q : Fin 2048) (i j : Fin 512)

theorem block2_0 (hr : r.val = t.val / 4 * 512 + i.val) (k : Fin 8256) :
    iblk2 V c 0 t (ix2 k i : S8256x512.Idx) = V c main_v0_0 (ix2 k r : S8256x5632.Idx) :=
  congrArg (V c main_v0_0) (idx2 _ _
    (by have := at2_0 t; show win2_0.index t (0 : Fin 2) * 8256 + 1 * k.val = k.val; omega)
    (by have := at2_0 t; show win2_0.index t (1 : Fin 2) * 512 + 1 * i.val = r.val; omega))

theorem block2_1 (hq : q.val = t.val % 4 * 512 + j.val) (k : Fin 8256) :
    iblk2 V c 1 t (ix2 k j : S8256x512.Idx) = V c main_arg4 (ix2 k q : S8256x2048.Idx) :=
  congrArg (V c main_arg4) (idx2 _ _
    (by have := at2_1 t; show win2_1.index t (0 : Fin 2) * 8256 + 1 * k.val = k.val; omega)
    (by have := at2_1 t; show win2_1.index t (1 : Fin 2) * 512 + 1 * j.val = q.val; omega))

abbrev gdownOf : Mat 5632 2048 := tmul (mat (m := 8256) (n := 5632) (V c main_v0_0)) (mat (m := 8256) (n := 2048) (V c main_arg4))

theorem flushed2_2 (hr : r.val = t.val / 4 * 512 + i.val) (hq : q.val = t.val % 4 * 512 + j.val) :
    (dat2 V c).flushed 2 t (ix2 i j : S512x512.Idx) = gdownOf V c r q := by
  show (dat2 V c).after 2 t (ix2 i j) = _
  rw [after2_2]
  unfold out2_2
  rw [View.canon_unit_zero zero2, View.ld_unit_zero zero2, View.ld_unit_zero zero2]
  pointwise [k2_pay1]
  simp only [block2_0 V c t r i hr, block2_1 V c t q j hq]
  rfl

theorem emb2_2 (hr : r.val = t.val / 4 * 512 + i.val) (hq : q.val = t.val % 4 * 512 + j.val) :
    (ix2 r q : S5632x2048.Idx) = ((cfg2.win 2).blk t).view.emb (ix2 i j : S512x512.Idx) :=
  idx2 (m := 5632) (n := 2048) _ _
    (by have := at2_2 t; show r.val = win2_2.index t (0 : Fin 2) * 512 + 1 * i.val; omega)
    (by have := at2_2 t; show q.val = win2_2.index t (1 : Fin 2) * 512 + 1 * j.val; omega)

omit t i j in
theorem cell2 : ∃ (t : Fin cfg2.N) (i j : Fin 512), r.val = t.val / 4 * 512 + i.val ∧ q.val = t.val % 4 * 512 + j.val := by
  have hN : cfg2.N = 44 := N_2
  refine ⟨⟨r.val / 512 * 4 + q.val / 512, by omega⟩, ⟨r.val % 512, by omega⟩, ⟨q.val % 512, by omega⟩, ?_, ?_⟩
  · show r.val = (r.val / 512 * 4 + q.val / 512) / 4 * 512 + r.val % 512; omega
  · show q.val = (r.val / 512 * 4 + q.val / 512) % 4 * 512 + q.val % 512; omega

theorem row2 : t.val / 4 * 512 + i.val < 5632 := by have hN : cfg2.N = 44 := N_2; omega
theorem col2 : t.val % 4 * 512 + j.val < 2048 := by omega

omit t r q i j in
theorem arr2_2 : (dat2 V c).arrAt 2 cfg2.N = of (gdownOf V c) := by
  refine whole c (dat2 V c) 2 _ flush2_2 (fun t y => ?_) (fun x => ?_)
  · obtain ⟨i, j, rfl⟩ := eq_ix2 (m := 512) (n := 512) y
    exact (flushed2_2 V c t ⟨_, row2 t i⟩ ⟨_, col2 t j⟩ i j rfl rfl).trans
      (congrArg (of (gdownOf V c)) (emb2_2 t ⟨_, row2 t i⟩ ⟨_, col2 t j⟩ i j rfl rfl))
  · obtain ⟨r, q, rfl⟩ := eq_ix2 (m := 5632) (n := 2048) x
    obtain ⟨t, i, j, hr, hq⟩ := cell2 r q
    exact ⟨t, by rw [emb2_2 t r q i j hr hq]; exact View.emb_mem_set _ _⟩

end Third

/-! ## The fourth call: the gradients of the gate and of the up projection -/

section Fourth

theorem at3_0 : ∀ t : Fin grid3.N, win3_0.index t (0 : Fin 2) = t.val / 11 ∧ win3_0.index t (1 : Fin 2) = 0 := by decide +kernel
theorem at3_1 : ∀ t : Fin grid3.N, win3_1.index t (0 : Fin 2) = t.val % 11 ∧ win3_1.index t (1 : Fin 2) = 0 := by decide +kernel
theorem at3_2 : ∀ t : Fin grid3.N, win3_2.index t (0 : Fin 2) = t.val / 11 ∧ win3_2.index t (1 : Fin 2) = t.val % 11 := by decide +kernel
theorem at3_3 : ∀ t : Fin grid3.N, win3_3.index t (0 : Fin 2) = t.val / 11 ∧ win3_3.index t (1 : Fin 2) = t.val % 11 := by decide +kernel
theorem at3_4 : ∀ t : Fin grid3.N, win3_4.index t (0 : Fin 2) = t.val / 11 ∧ win3_4.index t (1 : Fin 2) = t.val % 11 := by decide +kernel
theorem at3_5 : ∀ t : Fin grid3.N, win3_5.index t (0 : Fin 2) = t.val / 11 ∧ win3_5.index t (1 : Fin 2) = t.val % 11 := by decide +kernel

variable (t : Fin cfg3.N) (r : Fin 8256) (q : Fin 5632) (i : Fin 1376) (j : Fin 512)

theorem block3_0 (hr : r.val = t.val / 11 * 1376 + i.val) (k : Fin 2048) :
    iblk3 V c 0 t (ix2 i k : S1376x2048.Idx) = V c main_arg4 (ix2 r k : S8256x2048.Idx) :=
  congrArg (V c main_arg4) (idx2 _ _
    (by have := at3_0 t; show win3_0.index t (0 : Fin 2) * 1376 + 1 * i.val = r.val; omega)
    (by have := at3_0 t; show win3_0.index t (1 : Fin 2) * 2048 + 1 * k.val = k.val; omega))

theorem block3_1 (hq : q.val = t.val % 11 * 512 + j.val) (k : Fin 2048) :
    iblk3 V c 1 t (ix2 j k : S512x2048.Idx) = V c main_arg3 (ix2 q k : S5632x2048.Idx) :=
  congrArg (V c main_arg3) (idx2 _ _
    (by have := at3_1 t; show win3_1.index t (0 : Fin 2) * 512 + 1 * j.val = q.val; omega)
    (by have := at3_1 t; show win3_1.index t (1 : Fin 2) * 2048 + 1 * k.val = k.val; omega))

theorem block3_2 (hr : r.val = t.val / 11 * 1376 + i.val) (hq : q.val = t.val % 11 * 512 + j.val) :
    iblk3 V c 2 t (ix2 i j : S1376x512.Idx) = V c main_v0_1 (ix2 r q : S8256x5632.Idx) :=
  congrArg (V c main_v0_1) (idx2 _ _
    (by have := at3_2 t; show win3_2.index t (0 : Fin 2) * 1376 + 1 * i.val = r.val; omega)
    (by have := at3_2 t; show win3_2.index t (1 : Fin 2) * 512 + 1 * j.val = q.val; omega))

theorem block3_3 (hr : r.val = t.val / 11 * 1376 + i.val) (hq : q.val = t.val % 11 * 512 + j.val) :
    iblk3 V c 3 t (ix2 i j : S1376x512.Idx) = V c main_v0_2 (ix2 r q : S8256x5632.Idx) :=
  congrArg (V c main_v0_2) (idx2 _ _
    (by have := at3_3 t; show win3_3.index t (0 : Fin 2) * 1376 + 1 * i.val = r.val; omega)
    (by have := at3_3 t; show win3_3.index t (1 : Fin 2) * 512 + 1 * j.val = q.val; omega))

abbrev daOf : Mat 8256 5632 := mulT (mat (m := 8256) (n := 2048) (V c main_arg4)) (mat (m := 5632) (n := 2048) (V c main_arg3))
abbrev dgateOf : Mat 8256 5632 := fun r q => daOf V c r q * mat (m := 8256) (n := 5632) (V c main_v0_1) r q
abbrev dupOf : Mat 8256 5632 := fun r q => daOf V c r q * mat (m := 8256) (n := 5632) (V c main_v0_2) r q

theorem flushed3_4 (hr : r.val = t.val / 11 * 1376 + i.val) (hq : q.val = t.val % 11 * 512 + j.val) :
    (dat3 V c).flushed 4 t (ix2 i j : S1376x512.Idx) = dgateOf V c r q := by
  show (dat3 V c).after 4 t (ix2 i j) = _
  rw [after3_4]
  unfold out3_4
  rw [View.canon_unit_zero zero2, View.ld_unit_zero zero2, View.ld_unit_zero zero2, View.ld_unit_zero zero2]
  pointwise [k3_pay2, k3_pay1]
  simp only [block3_0 V c t r i hr, block3_1 V c t q j hq, block3_2 V c t r q i j hr hq]
  rfl

theorem flushed3_5 (hr : r.val = t.val / 11 * 1376 + i.val) (hq : q.val = t.val % 11 * 512 + j.val) :
    (dat3 V c).flushed 5 t (ix2 i j : S1376x512.Idx) = dupOf V c r q := by
  show (dat3 V c).after 5 t (ix2 i j) = _
  rw [after3_5]
  unfold out3_5
  rw [View.canon_unit_zero zero2, View.ld_unit_zero zero2, View.ld_unit_zero zero2, View.ld_unit_zero zero2]
  pointwise [k3_pay3, k3_pay1]
  simp only [block3_0 V c t r i hr, block3_1 V c t q j hq, block3_3 V c t r q i j hr hq]
  rfl

theorem emb3_4 (hr : r.val = t.val / 11 * 1376 + i.val) (hq : q.val = t.val % 11 * 512 + j.val) :
    (ix2 r q : S8256x5632.Idx) = ((cfg3.win 4).blk t).view.emb (ix2 i j : S1376x512.Idx) :=
  idx2 (m := 8256) (n := 5632) _ _
    (by have := at3_4 t; show r.val = win3_4.index t (0 : Fin 2) * 1376 + 1 * i.val; omega)
    (by have := at3_4 t; show q.val = win3_4.index t (1 : Fin 2) * 512 + 1 * j.val; omega)

theorem emb3_5 (hr : r.val = t.val / 11 * 1376 + i.val) (hq : q.val = t.val % 11 * 512 + j.val) :
    (ix2 r q : S8256x5632.Idx) = ((cfg3.win 5).blk t).view.emb (ix2 i j : S1376x512.Idx) :=
  idx2 (m := 8256) (n := 5632) _ _
    (by have := at3_5 t; show r.val = win3_5.index t (0 : Fin 2) * 1376 + 1 * i.val; omega)
    (by have := at3_5 t; show q.val = win3_5.index t (1 : Fin 2) * 512 + 1 * j.val; omega)

omit t r q i j in
theorem arr3_4 : (dat3 V c).arrAt 4 cfg3.N = of (dgateOf V c) := by
  refine whole c (dat3 V c) 4 _ flush3_4 (fun t y => ?_) (fun x => ?_)
  · obtain ⟨i, j, rfl⟩ := eq_ix2 (m := 1376) (n := 512) y
    exact (flushed3_4 V c t ⟨_, row0 t i⟩ ⟨_, col0 t j⟩ i j rfl rfl).trans
      (congrArg (of (dgateOf V c)) (emb3_4 t ⟨_, row0 t i⟩ ⟨_, col0 t j⟩ i j rfl rfl))
  · obtain ⟨r, q, rfl⟩ := eq_ix2 (m := 8256) (n := 5632) x
    obtain ⟨t, i, j, hr, hq⟩ := cell0 r q
    exact ⟨t, by rw [emb3_4 t r q i j hr hq]; exact View.emb_mem_set _ _⟩

omit t r q i j in
theorem arr3_5 : (dat3 V c).arrAt 5 cfg3.N = of (dupOf V c) := by
  refine whole c (dat3 V c) 5 _ flush3_5 (fun t y => ?_) (fun x => ?_)
  · obtain ⟨i, j, rfl⟩ := eq_ix2 (m := 1376) (n := 512) y
    exact (flushed3_5 V c t ⟨_, row0 t i⟩ ⟨_, col0 t j⟩ i j rfl rfl).trans
      (congrArg (of (dupOf V c)) (emb3_5 t ⟨_, row0 t i⟩ ⟨_, col0 t j⟩ i j rfl rfl))
  · obtain ⟨r, q, rfl⟩ := eq_ix2 (m := 8256) (n := 5632) x
    obtain ⟨t, i, j, hr, hq⟩ := cell0 r q
    exact ⟨t, by rw [emb3_5 t r q i j hr hq]; exact View.emb_mem_set _ _⟩

end Fourth

/-! ## The fifth call: the gradient of the input -/

section Fifth

theorem at4_0 : ∀ t : Fin grid4.N, win4_0.index t (0 : Fin 2) = t.val / 8 ∧ win4_0.index t (1 : Fin 2) = 0 := by decide +kernel
theorem at4_1 : ∀ t : Fin grid4.N, win4_1.index t (0 : Fin 2) = t.val / 8 ∧ win4_1.index t (1 : Fin 2) = 0 := by decide +kernel
theorem at4_2 : ∀ t : Fin grid4.N, win4_2.index t (0 : Fin 2) = t.val % 8 ∧ win4_2.index t (1 : Fin 2) = 0 := by decide +kernel
theorem at4_3 : ∀ t : Fin grid4.N, win4_3.index t (0 : Fin 2) = t.val % 8 ∧ win4_3.index t (1 : Fin 2) = 0 := by decide +kernel
theorem at4_4 : ∀ t : Fin grid4.N, win4_4.index t (0 : Fin 2) = t.val / 8 ∧ win4_4.index t (1 : Fin 2) = t.val % 8 := by decide +kernel

variable (t : Fin cfg4.N) (r : Fin 8256) (q : Fin 2048) (i : Fin 688) (j : Fin 256)

theorem block4_0 (hr : r.val = t.val / 8 * 688 + i.val) (k : Fin 5632) :
    iblk4 V c 0 t (ix2 i k : S688x5632.Idx) = V c main_v3_0 (ix2 r k : S8256x5632.Idx) :=
  congrArg (V c main_v3_0) (idx2 _ _
    (by have := at4_0 t; show win4_0.index t (0 : Fin 2) * 688 + 1 * i.val = r.val; omega)
    (by have := at4_0 t; show win4_0.index t (1 : Fin 2) * 5632 + 1 * k.val = k.val; omega))

theorem block4_1 (hr : r.val = t.val / 8 * 688 + i.val) (k : Fin 5632) :
    iblk4 V c 1 t (ix2 i k : S688x5632.Idx) = V c main_v3_1 (ix2 r k : S8256x5632.Idx) :=
  congrArg (V c main_v3_1) (idx2 _ _
    (by have := at4_1 t; show win4_1.index t (0 : Fin 2) * 688 + 1 * i.val = r.val; omega)
    (by have := at4_1 t; show win4_1.index t (1 : Fin 2) * 5632 + 1 * k.val = k.val; omega))

theorem block4_2 (hq : q.val = t.val % 8 * 256 + j.val) (k : Fin 5632) :
    iblk4 V c 2 t (ix2 j k : S256x5632.Idx) = V c main_arg1 (ix2 q k : S2048x5632.Idx) :=
  congrArg (V c main_arg1) (idx2 _ _
    (by have := at4_2 t; show win4_2.index t (0 : Fin 2) * 256 + 1 * j.val = q.val; omega)
    (by have := at4_2 t; show win4_2.index t (1 : Fin 2) * 5632 + 1 * k.val = k.val; omega))

theorem block4_3 (hq : q.val = t.val % 8 * 256 + j.val) (k : Fin 5632) :
    iblk4 V c 3 t (ix2 j k : S256x5632.Idx) = V c main_arg2 (ix2 q k : S2048x5632.Idx) :=
  congrArg (V c main_arg2) (idx2 _ _
    (by have := at4_3 t; show win4_3.index t (0 : Fin 2) * 256 + 1 * j.val = q.val; omega)
    (by have := at4_3 t; show win4_3.index t (1 : Fin 2) * 5632 + 1 * k.val = k.val; omega))

abbrev dxOf : Mat 8256 2048 := fun r q =>
  mulT (mat (m := 8256) (n := 5632) (V c main_v3_0)) (mat (m := 2048) (n := 5632) (V c main_arg1)) r q
    + mulT (mat (m := 8256) (n := 5632) (V c main_v3_1)) (mat (m := 2048) (n := 5632) (V c main_arg2)) r q

theorem flushed4_4 (hr : r.val = t.val / 8 * 688 + i.val) (hq : q.val = t.val % 8 * 256 + j.val) :
    (dat4 V c).flushed 4 t (ix2 i j : S688x256.Idx) = dxOf V c r q := by
  show (dat4 V c).after 4 t (ix2 i j) = _
  rw [after4_4]
  unfold out4_4
  rw [View.canon_unit_zero zero2, View.ld_unit_zero zero2, View.ld_unit_zero zero2, View.ld_unit_zero zero2, View.ld_unit_zero zero2]
  pointwise [k4_pay1]
  simp only [block4_0 V c t r i hr, block4_1 V c t r i hr, block4_2 V c t q j hq, block4_3 V c t q j hq]
  rfl

theorem emb4_4 (hr : r.val = t.val / 8 * 688 + i.val) (hq : q.val = t.val % 8 * 256 + j.val) :
    (ix2 r q : S8256x2048.Idx) = ((cfg4.win 4).blk t).view.emb (ix2 i j : S688x256.Idx) :=
  idx2 (m := 8256) (n := 2048) _ _
    (by have := at4_4 t; show r.val = win4_4.index t (0 : Fin 2) * 688 + 1 * i.val; omega)
    (by have := at4_4 t; show q.val = win4_4.index t (1 : Fin 2) * 256 + 1 * j.val; omega)

omit t i j in
theorem cell4 : ∃ (t : Fin cfg4.N) (i : Fin 688) (j : Fin 256), r.val = t.val / 8 * 688 + i.val ∧ q.val = t.val % 8 * 256 + j.val := by
  have hN : cfg4.N = 96 := N_4
  refine ⟨⟨r.val / 688 * 8 + q.val / 256, by omega⟩, ⟨r.val % 688, by omega⟩, ⟨q.val % 256, by omega⟩, ?_, ?_⟩
  · show r.val = (r.val / 688 * 8 + q.val / 256) / 8 * 688 + r.val % 688; omega
  · show q.val = (r.val / 688 * 8 + q.val / 256) % 8 * 256 + q.val % 256; omega

theorem row4 : t.val / 8 * 688 + i.val < 8256 := by have hN : cfg4.N = 96 := N_4; omega
theorem col4 : t.val % 8 * 256 + j.val < 2048 := by omega

omit t r q i j in
theorem arr4_4 : (dat4 V c).arrAt 4 cfg4.N = of (dxOf V c) := by
  refine whole c (dat4 V c) 4 _ flush4_4 (fun t y => ?_) (fun x => ?_)
  · obtain ⟨i, j, rfl⟩ := eq_ix2 (m := 688) (n := 256) y
    exact (flushed4_4 V c t ⟨_, row4 t i⟩ ⟨_, col4 t j⟩ i j rfl rfl).trans
      (congrArg (of (dxOf V c)) (emb4_4 t ⟨_, row4 t i⟩ ⟨_, col4 t j⟩ i j rfl rfl))
  · obtain ⟨r, q, rfl⟩ := eq_ix2 (m := 8256) (n := 2048) x
    obtain ⟨t, i, j, hr, hq⟩ := cell4 r q
    exact ⟨t, by rw [emb4_4 t r q i j hr hq]; exact View.emb_mem_set _ _⟩

end Fifth

end Cert.Kernel2Ideal.Ffn

end
-- ==== Proof.FfnRun.lean ====
/- The run of the five calls, with what its three results hold: the launch of the generated frame once more, its last line keeping
   the results besides the arguments; then the results, the arrays of each call read through the calls before it. -/
module

public import proofs.«01_k».proof.Proof.FfnBlocks

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with each result at what the last boundary holds, the arguments as they were, and every semaphore at zero. -/
theorem run : θ_run defs (onTc (τ := τ) (main (F := F))) ⟨m, fun _ => 0, ρ⟩ (fun r => (∀ c : Dev nD,
      r.2.mem ((c.tc : Thread nD τ).loc main_v1) = W5 m ρ c (Proc.devRef .tc main_v1)
      ∧ r.2.mem ((c.tc : Thread nD τ).loc main_v2) = W5 m ρ c (Proc.devRef .tc main_v2)
      ∧ r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v1 (by decide)), h c _ (mem_uc main_v2 (by decide)), h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Launch

section Values

open Cert.Ffn

variable (m : (ℓ : Loc nD τ sig) → Buf (Elt Ideal) ℓ) (ρ : Dev nD → PrngReg) (c : Dev nD)

/-- The arguments as matrices. -/
def args : Args where
  x := mat (m := 8256) (n := 2048) (m ((c : Thread nD τ).loc main_arg0))
  wg := mat (m := 2048) (n := 5632) (m ((c : Thread nD τ).loc main_arg1))
  wu := mat (m := 2048) (n := 5632) (m ((c : Thread nD τ).loc main_arg2))
  wd := mat (m := 5632) (n := 2048) (m ((c : Thread nD τ).loc main_arg3))
  d := mat (m := 8256) (n := 2048) (m ((c : Thread nD τ).loc main_arg4))

/-! What the arrays between the calls hold. -/

theorem v0_0_at1 : V1 m ρ c main_v0_0 = of (args m c).act :=
  (W1_arr m ρ c 3).trans (arr0_3 (V0 m ρ) c)
theorem v0_1_at1 : V1 m ρ c main_v0_1 = of (fun r q => dsilu ((args m c).up r q) ((args m c).gate r q)) :=
  (W1_arr m ρ c 4).trans (arr0_4 (V0 m ρ) c)
theorem v0_2_at1 : V1 m ρ c main_v0_2 = of (fun r q => silu ((args m c).gate r q)) :=
  (W1_arr m ρ c 5).trans (arr0_5 (V0 m ρ) c)

theorem arg3_at1 : V1 m ρ c main_arg3 = m ((c : Thread nD τ).loc main_arg3) := W1_args m ρ c main_arg3 (by decide)

theorem v1_at2 : V2 m ρ c main_v1 = of (args m c).out := by
  refine (W2_arr m ρ c 2).trans ((arr1_2 (V1 m ρ) c).trans ?_)
  show of (mul (mat (m := 8256) (n := 5632) (V1 m ρ c main_v0_0)) (mat (m := 5632) (n := 2048) (V1 m ρ c main_arg3))) = _
  rw [v0_0_at1, arg3_at1]
  rfl

theorem v0_0_at2 : V2 m ρ c main_v0_0 = of (args m c).act := (W2_of m ρ c main_v0_0 (by decide +kernel)).trans (v0_0_at1 m ρ c)
theorem arg4_at2 : V2 m ρ c main_arg4 = m ((c : Thread nD τ).loc main_arg4) := W2_args m ρ c main_arg4 (by decide)

theorem v2_at3 : V3 m ρ c main_v2 = of (args m c).gdown := by
  refine (W3_arr m ρ c 2).trans ((arr2_2 (V2 m ρ) c).trans ?_)
  show of (tmul (mat (m := 8256) (n := 5632) (V2 m ρ c main_v0_0)) (mat (m := 8256) (n := 2048) (V2 m ρ c main_arg4))) = _
  rw [v0_0_at2, arg4_at2]
  rfl

theorem v0_1_at3 : V3 m ρ c main_v0_1 = of (fun r q => dsilu ((args m c).up r q) ((args m c).gate r q)) :=
  (W3_of m ρ c main_v0_1 (by decide +kernel)).trans ((W2_of m ρ c main_v0_1 (by decide +kernel)).trans (v0_1_at1 m ρ c))
theorem v0_2_at3 : V3 m ρ c main_v0_2 = of (fun r q => silu ((args m c).gate r q)) :=
  (W3_of m ρ c main_v0_2 (by decide +kernel)).trans ((W2_of m ρ c main_v0_2 (by decide +kernel)).trans (v0_2_at1 m ρ c))
theorem arg3_at3 : V3 m ρ c main_arg3 = m ((c : Thread nD τ).loc main_arg3) := W3_args m ρ c main_arg3 (by decide)
theorem arg4_at3 : V3 m ρ c main_arg4 = m ((c : Thread nD τ).loc main_arg4) := W3_args m ρ c main_arg4 (by decide)

theorem daOf_at3 : daOf (V3 m ρ) c = (args m c).da := by
  show mulT (mat (m := 8256) (n := 2048) (V3 m ρ c main_arg4)) (mat (m := 5632) (n := 2048) (V3 m ρ c main_arg3)) = _
  rw [arg3_at3, arg4_at3]
  rfl

theorem v3_0_at4 : V4 m ρ c main_v3_0 = of (args m c).dgate := by
  refine (W4_arr m ρ c 4).trans ((arr3_4 (V3 m ρ) c).trans ?_)
  show of (fun r q => daOf (V3 m ρ) c r q * mat (m := 8256) (n := 5632) (V3 m ρ c main_v0_1) r q) = _
  rw [daOf_at3, v0_1_at3]
  rfl

theorem v3_1_at4 : V4 m ρ c main_v3_1 = of (args m c).dup := by
  refine (W4_arr m ρ c 5).trans ((arr3_5 (V3 m ρ) c).trans ?_)
  show of (fun r q => daOf (V3 m ρ) c r q * mat (m := 8256) (n := 5632) (V3 m ρ c main_v0_2) r q) = _
  rw [daOf_at3, v0_2_at3]
  rfl

theorem arg1_at4 : V4 m ρ c main_arg1 = m ((c : Thread nD τ).loc main_arg1) := W4_args m ρ c main_arg1 (by decide)
theorem arg2_at4 : V4 m ρ c main_arg2 = m ((c : Thread nD τ).loc main_arg2) := W4_args m ρ c main_arg2 (by decide)

/-! The results. -/

theorem result_out : W5 m ρ c (Proc.devRef .tc main_v1) = of (args m c).out :=
  (W5_of m ρ c main_v1 (by decide +kernel)).trans ((W4_of m ρ c main_v1 (by decide +kernel)).trans
    ((W3_of m ρ c main_v1 (by decide +kernel)).trans (v1_at2 m ρ c)))

theorem result_gdown : W5 m ρ c (Proc.devRef .tc main_v2) = of (args m c).gdown :=
  (W5_of m ρ c main_v2 (by decide +kernel)).trans ((W4_of m ρ c main_v2 (by decide +kernel)).trans (v2_at3 m ρ c))

theorem result_dx : W5 m ρ c (Proc.devRef .tc main_v4) = of (args m c).dx := by
  refine (W5_arr m ρ c 4).trans ((arr4_4 (V4 m ρ) c).trans ?_)
  show of (fun r q => mulT (mat (m := 8256) (n := 5632) (V4 m ρ c main_v3_0)) (mat (m := 2048) (n := 5632) (V4 m ρ c main_arg1)) r q
    + mulT (mat (m := 8256) (n := 5632) (V4 m ρ c main_v3_1)) (mat (m := 2048) (n := 5632) (V4 m ρ c main_arg2)) r q) = _
  rw [v3_0_at4, v3_1_at4, arg1_at4, arg2_at4]
  rfl

end Values

end Cert.Kernel2Ideal.Ffn

end
-- ==== Proof.FfnRef.lean ====
/- The reference's three results: the terms its run ends with, named, and read at an index as the sums of Proof/FfnSpec.lean, the
   gate's gradient in the form differentiation gives it. -/
module

public import proofs.«01_k».proof.Proof.FfnSpec
public import proofs.«01_k».proof.Proof.Gen.Reference2Ideal.Run

@[expose] public section

noncomputable section

namespace Cert.Reference2Ideal.Ffn

open Idealize.ShloMosaic Idealize.ShloMosaic.TcCoe Idealize.ShloMosaic.Tactic Idealize.SL.Sem Cert.Reference2Ideal Cert.Reference2Ideal.Gen Cert.Ffn

/-! ## The reference's stages -/

section Stages

variable {F : FTy → Type} [FloatOps F]

def gateT (x : FVec F S8256x2048 .bf16) (w : FVec F S2048x5632 .bf16) : FVec F S8256x5632 .f32 :=
  Host.dotGeneral dot_S8256x2048_S2048x5632_S8256x5632_1_0_0_1_n_n none (extf .f32 x bitsLt_bf16_f32) (extf .f32 w bitsLt_bf16_f32)

def oneT : FVec F S8256x5632 .f32 := broadcastInDim S8256x5632 ![] bcast_S_S8256x5632 (constant S_ .f32 0x3F800000#32)

def sigT (g : FVec F S8256x5632 .f32) : FVec F S8256x5632 .f32 := Host.divf oneT (addf oneT (Host.exp (Host.negf g)))

def siluT (g : FVec F S8256x5632 .f32) : FVec F S8256x5632 .f32 := mulf g (sigT g)

def actT (g u : FVec F S8256x5632 .f32) : FVec F S8256x5632 .f32 := mulf (siluT g) u

def outT (a : FVec F S8256x5632 .f32) (wd : FVec F S5632x2048 .bf16) : FVec F S8256x2048 .f32 :=
  Host.dotGeneral dot_S8256x5632_S5632x2048_S8256x2048_1_0_0_1_n_n none a (extf .f32 wd bitsLt_bf16_f32)

def gdownT (a : FVec F S8256x5632 .f32) (d : FVec F S8256x2048 .bf16) : FVec F S5632x2048 .bf16 :=
  truncf .bf16 (transpose S5632x2048 [1, 0] (Host.dotGeneral dot_S8256x2048_S8256x5632_S2048x5632_0_0_1_1_n_n none
    (extf .f32 d bitsLt_bf16_f32) a) transposes_S2048x5632_S5632x2048_1_0) bitsLt_bf16_f32

def daT (d : FVec F S8256x2048 .bf16) (wd : FVec F S5632x2048 .bf16) : FVec F S8256x5632 .f32 :=
  Host.dotGeneral dot_S8256x2048_S5632x2048_S8256x5632_1_1_0_0_n_n none (extf .f32 d bitsLt_bf16_f32) (extf .f32 wd bitsLt_bf16_f32)

def dupT (g da : FVec F S8256x5632 .f32) : FVec F S8256x5632 .f32 := mulf (siluT g) da

def dgateT (g u da : FVec F S8256x5632 .f32) : FVec F S8256x5632 .f32 :=
  addf (mulf (mulf da u) (sigT g)) (mulf (mulf g (mulf da u)) (mulf (sigT g) (subf oneT (sigT g))))

def dxT (dg du : FVec F S8256x5632 .f32) (wg wu : FVec F S2048x5632 .bf16) : FVec F S8256x2048 .f32 :=
  addf (Host.dotGeneral dot_S8256x5632_S2048x5632_S8256x2048_1_1_0_0_n_n none du (extf .f32 wu bitsLt_bf16_f32))
    (Host.dotGeneral dot_S8256x5632_S2048x5632_S8256x2048_1_1_0_0_n_n none dg (extf .f32 wg bitsLt_bf16_f32))

variable (m : (ℓ : Loc nD τ sig) → Buf (Elt F) ℓ) (ρ : Dev nD → PrngReg) (c : Dev nD)

abbrev gateM : FVec F S8256x5632 .f32 := gateT (m ((c : Thread nD τ).loc main_arg0)) (m ((c : Thread nD τ).loc main_arg1))
abbrev upM : FVec F S8256x5632 .f32 := gateT (m ((c : Thread nD τ).loc main_arg0)) (m ((c : Thread nD τ).loc main_arg2))
abbrev daM : FVec F S8256x5632 .f32 := daT (m ((c : Thread nD τ).loc main_arg4)) (m ((c : Thread nD τ).loc main_arg3))

/-- The reference's run, its results by the stages' names. -/
theorem run : θ_run defs (onTc (τ := τ) (main (F := F))) ⟨m, fun _ => 0, ρ⟩ fun r => ∀ c : Dev nD,
      r.2.mem ((c.tc : Thread nD τ).loc main_v8) = outT (actT (gateM m c) (upM m c)) (m ((c : Thread nD τ).loc main_arg3))
      ∧ r.2.mem ((c.tc : Thread nD τ).loc main_v23) = gdownT (actT (gateM m c) (upM m c)) (m ((c : Thread nD τ).loc main_arg4))
      ∧ r.2.mem ((c.tc : Thread nD τ).loc main_v22) = dxT (dgateT (gateM m c) (upM m c) (daM m c)) (dupT (gateM m c) (daM m c))
          (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Stages

/-! ## The stages at an index -/

section At

variable (r : Fin 8256) (q : Fin 5632) (p : Fin 2048)

theorem gateT_at (x : FVec Ideal S8256x2048 .bf16) (w : FVec Ideal S2048x5632 .bf16) :
    gateT x w (ix2 r q) = mul (mat (m := 8256) (n := 2048) x) (mat (m := 2048) (n := 5632) w) r q := by
  pointwise [gateT]
  rfl

theorem sigT_at (g : FVec Ideal S8256x5632 .f32) : sigT g (ix2 r q) = Ideal.logistic (g (ix2 r q)) := by
  pointwise [sigT, oneT]
  rfl

theorem siluT_at (g : FVec Ideal S8256x5632 .f32) : siluT g (ix2 r q) = silu (g (ix2 r q)) := by
  pointwise [siluT]
  rw [sigT_at]
  rfl

theorem actT_at (g u : FVec Ideal S8256x5632 .f32) : actT g u (ix2 r q) = silu (g (ix2 r q)) * u (ix2 r q) := by
  pointwise [actT]
  rw [siluT_at]

theorem daT_at (d : FVec Ideal S8256x2048 .bf16) (wd : FVec Ideal S5632x2048 .bf16) :
    daT d wd (ix2 r q) = mulT (mat (m := 8256) (n := 2048) d) (mat (m := 5632) (n := 2048) wd) r q := by
  pointwise [daT]
  rfl

theorem dupT_at (g da : FVec Ideal S8256x5632 .f32) : dupT g da (ix2 r q) = da (ix2 r q) * silu (g (ix2 r q)) := by
  pointwise [dupT]
  rw [siluT_at, mul_comm]

theorem dgateT_at (g u da : FVec Ideal S8256x5632 .f32) : dgateT g u da (ix2 r q)
    = da (ix2 r q) * u (ix2 r q) * Ideal.logistic (g (ix2 r q))
      + g (ix2 r q) * (da (ix2 r q) * u (ix2 r q)) * (Ideal.logistic (g (ix2 r q)) * (1 - Ideal.logistic (g (ix2 r q)))) := by
  pointwise [dgateT, oneT]
  simp only [sigT_at]

theorem outT_at (a : FVec Ideal S8256x5632 .f32) (wd : FVec Ideal S5632x2048 .bf16) :
    outT a wd (ix2 r p) = mul (mat (m := 8256) (n := 5632) a) (mat (m := 5632) (n := 2048) wd) r p := by
  pointwise [outT]
  rfl

theorem gdownT_at (a : FVec Ideal S8256x5632 .f32) (d : FVec Ideal S8256x2048 .bf16) :
    gdownT a d (ix2 q p) = tmul (mat (m := 8256) (n := 5632) a) (mat (m := 8256) (n := 2048) d) q p := by
  pointwise [gdownT]
  exact Finset.sum_congr rfl fun l _ => mul_comm _ _

theorem dxT_at (dg du : FVec Ideal S8256x5632 .f32) (wg wu : FVec Ideal S2048x5632 .bf16) :
    dxT dg du wg wu (ix2 r p) = mulT (mat (m := 8256) (n := 5632) dg) (mat (m := 2048) (n := 5632) wg) r p
      + mulT (mat (m := 8256) (n := 5632) du) (mat (m := 2048) (n := 5632) wu) r p := by
  pointwise [dxT]
  exact add_comm _ _

end At

/-! ## The results -/

section Results

variable (m : (ℓ : Loc nD τ sig) → Buf (Elt Ideal) ℓ) (c : Dev nD)

/-- The arguments as matrices. -/
def args : Args where
  x := mat (m := 8256) (n := 2048) (m ((c : Thread nD τ).loc main_arg0))
  wg := mat (m := 2048) (n := 5632) (m ((c : Thread nD τ).loc main_arg1))
  wu := mat (m := 2048) (n := 5632) (m ((c : Thread nD τ).loc main_arg2))
  wd := mat (m := 5632) (n := 2048) (m ((c : Thread nD τ).loc main_arg3))
  d := mat (m := 8256) (n := 2048) (m ((c : Thread nD τ).loc main_arg4))

theorem gate_at (r : Fin 8256) (q : Fin 5632) : gateM m c (ix2 r q) = (args m c).gate r q := gateT_at r q _ _
theorem up_at (r : Fin 8256) (q : Fin 5632) : upM m c (ix2 r q) = (args m c).up r q := gateT_at r q _ _
theorem da_at (r : Fin 8256) (q : Fin 5632) : daM m c (ix2 r q) = (args m c).da r q := daT_at r q _ _

theorem act_at (r : Fin 8256) (q : Fin 5632) : actT (gateM m c) (upM m c) (ix2 r q) = (args m c).act r q := by
  rw [actT_at, gate_at, up_at]; rfl

theorem mat_act : mat (m := 8256) (n := 5632) (actT (gateM m c) (upM m c)) = (args m c).act :=
  funext fun r => funext fun q => act_at m c r q

theorem mat_dup : mat (m := 8256) (n := 5632) (dupT (gateM m c) (daM m c)) = (args m c).dup :=
  funext fun r => funext fun q => (dupT_at r q _ _).trans (by rw [gate_at, da_at]; rfl)

/-- The arguments the gate's gradient asks to be real. -/
structure Finite (A : Args) : Prop where
  x : ∀ i j, IsReal (A.x i j)
  wu : ∀ i j, IsReal (A.wu i j)
  wd : ∀ i j, IsReal (A.wd i j)
  d : ∀ i j, IsReal (A.d i j)

theorem mat_dgate (h : Finite (args m c)) : mat (m := 8256) (n := 5632) (dgateT (gateM m c) (upM m c) (daM m c)) = (args m c).dgate :=
  funext fun r => funext fun q => (dgateT_at r q _ _ _).trans (by
    rw [gate_at, up_at, da_at]
    exact dsilu_eq (real_sum fun l => real_mul (h.d _ _) (h.wd _ _)) (real_sum fun l => real_mul (h.x _ _) (h.wu _ _)) _)

theorem result_out : outT (actT (gateM m c) (upM m c)) (m ((c : Thread nD τ).loc main_arg3)) = of (args m c).out := by
  funext i
  obtain ⟨r, p, rfl⟩ := eq_ix2 (m := 8256) (n := 2048) i
  exact (outT_at r p _ _).trans (by rw [mat_act]; rfl)

theorem result_gdown : gdownT (actT (gateM m c) (upM m c)) (m ((c : Thread nD τ).loc main_arg4)) = of (args m c).gdown := by
  funext i
  obtain ⟨q, p, rfl⟩ := eq_ix2 (m := 5632) (n := 2048) i
  exact (gdownT_at q p _ _).trans (by rw [mat_act]; rfl)

theorem result_dx (h : Finite (args m c)) : dxT (dgateT (gateM m c) (upM m c) (daM m c)) (dupT (gateM m c) (daM m c))
    (m ((c : Thread nD τ).loc main_arg1)) (m ((c : Thread nD τ).loc main_arg2)) = of (args m c).dx := by
  funext i
  obtain ⟨r, p, rfl⟩ := eq_ix2 (m := 8256) (n := 2048) i
  exact (dxT_at r p _ _ _ _).trans (by rw [mat_dgate m c h, mat_dup]; rfl)

end Results

end Cert.Reference2Ideal.Ffn

end
-- ==== Proof.FfnValue.lean ====
/- The value claim of the feed-forward layer and its backward: the precondition read at an entry, and the three results of the two
   programs, the same sums of the same arguments. -/
module

public import proofs.«01_k».proof.Defs
public import proofs.«01_k».proof.Proof.FfnRun
public import proofs.«01_k».proof.Proof.FfnRef
public import Idealize.ShloMosaic.Lib.ReduceAll
public import Idealize.ShloMosaic.Adequacy
public import Idealize.ShloMosaic.Init

@[expose] public section

noncomputable section

namespace Cert.Ffn

open Idealize.ShloMosaic Idealize.ShloMosaic.TcCoe Idealize.ShloMosaic.Tactic Idealize.SL.Sem

/-- The shape facts of the precondition. -/
theorem facts_pre : Cert.Pre_finite_ffn.Facts where
  bitsLt_bf16_f32 := by decide
  bcast_S_S8256x2048 := by decide
  reducesTo_S8256x2048_S_d0_1 := by decide
  h_S_ := by decide
  bcast_S_S2048x5632 := by decide
  reducesTo_S2048x5632_S_d0_1 := by decide
  bcast_S_S5632x2048 := by decide
  reducesTo_S5632x2048_S_d0_1 := by decide

theorem and_one {a b : BitVec 1} (h : a &&& b = 1#1) : a = 1#1 ∧ b = 1#1 := by
  revert h
  revert a b
  decide

/-- A number whose magnitude is below the largest is neither infinity. -/
theorem real_of_abs (x : EReal) (h : BitVec.ofBool (decide (@FloatOps.absf Ideal _ .f32 x < Ideal.ofBits FTy.f32 2139095040#32)) = 1#1) : IsReal x := by
  rw [Ideal.absf_def] at h
  induction x with
  | bot => simp at h
  | coe r => exact ⟨r, rfl⟩
  | top => simp at h

/-- What the precondition says of the four arrays it names. -/
theorem finite [Cert.Pre_finite_ffn.Facts] (x : FVec Ideal Cert.Pre_finite_ffn.S8256x2048 .bf16) (wg wu : FVec Ideal Cert.Pre_finite_ffn.S2048x5632 .bf16)
    (wd : FVec Ideal Cert.Pre_finite_ffn.S5632x2048 .bf16) (d : FVec Ideal Cert.Pre_finite_ffn.S8256x2048 .bf16)
    (h : Cert.Pre_finite_ffn.fn (F := Ideal) x wg wu wd d = fun _ => 1#1) :
    (∀ i j, IsReal (mat (m := 8256) (n := 2048) x i j)) ∧ (∀ i j, IsReal (mat (m := 2048) (n := 5632) wu i j))
      ∧ (∀ i j, IsReal (mat (m := 5632) (n := 2048) wd i j)) ∧ ∀ i j, IsReal (mat (m := 8256) (n := 2048) d i j) := by
  have e := congrFun h (fun a => a.elim0)
  unfold Cert.Pre_finite_ffn.fn Cert.Pre_finite_ffn.fn_part1 at e
  dsimp only at e
  haveI : Subsingleton Cert.Pre_finite_ffn.S_.Idx := ⟨fun a b => funext fun x => x.elim0⟩
  obtain ⟨e, e4⟩ := and_one e
  obtain ⟨e, e3⟩ := and_one e
  obtain ⟨e1, e2⟩ := and_one e
  refine ⟨fun i j => ?_, fun i j => ?_, fun i j => ?_, fun i j => ?_⟩
  · have t := Host.reduce_andi_all _ _ _ _ _ e1 (ix2 i j : Cert.Pre_finite_ffn.S8256x2048.Idx)
    pointwise at t
    exact real_of_abs _ t
  · have t := Host.reduce_andi_all _ _ _ _ _ e2 (ix2 i j : Cert.Pre_finite_ffn.S2048x5632.Idx)
    pointwise at t
    exact real_of_abs _ t
  · have t := Host.reduce_andi_all _ _ _ _ _ e3 (ix2 i j : Cert.Pre_finite_ffn.S5632x2048.Idx)
    pointwise at t
    exact real_of_abs _ t
  · have t := Host.reduce_andi_all _ _ _ _ _ e4 (ix2 i j : Cert.Pre_finite_ffn.S8256x2048.Idx)
    pointwise at t
    exact real_of_abs _ t

theorem frame_ri : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The three results agree. -/
theorem algebraic [Cert.Pre_finite_ffn.Facts] : Cert.algebraic_Kernel2Ideal_Reference2Ideal_pre_finite_ffn := by
  intro m ρ m' ρ' hpre hag
  have hargs : ∀ c : Dev Cert.Kernel2Ideal.nD, Cert.Reference2Ideal.Ffn.args m' c = Cert.Kernel2Ideal.Ffn.args m c := by
    intro c
    obtain ⟨a0, a1, a2, a3, a4⟩ := hag c
    show Args.mk _ _ _ _ _ = Args.mk _ _ _ _ _
    rw [a0, a1, a2, a3, a4]
  have hfin : ∀ c : Dev Cert.Kernel2Ideal.nD, Cert.Reference2Ideal.Ffn.Finite (Cert.Reference2Ideal.Ffn.args m' c) := by
    intro c
    rw [hargs]
    obtain ⟨h0, h2, h3, h4⟩ := finite _ _ _ _ _ (hpre c)
    exact ⟨h0, h2, h3, h4⟩
  refine ⟨fun c => of (Cert.Kernel2Ideal.Ffn.args m c).out, fun c => of (Cert.Kernel2Ideal.Ffn.args m c).gdown,
    fun c => of (Cert.Kernel2Ideal.Ffn.args m c).dx, ?_, ?_⟩
  · refine (θ_run Cert.Kernel2Ideal.defs _ _).mono (fun r h c => ?_) (Cert.Kernel2Ideal.Ffn.run m ρ)
    obtain ⟨h1, h2, h3, hk⟩ := h c
    exact ⟨h1.trans (Cert.Kernel2Ideal.Ffn.result_out m ρ c), h2.trans (Cert.Kernel2Ideal.Ffn.result_gdown m ρ c),
      h3.trans (Cert.Kernel2Ideal.Ffn.result_dx m ρ c), hk⟩
  · refine (θ_run Cert.Reference2Ideal.defs _ _).mono (fun r h c => ?_) (Cert.Reference2Ideal.Ffn.run (F := Ideal) m' ρ')
    obtain ⟨h1, h2, h3, hk⟩ := h c
    show _ = of (Cert.Kernel2Ideal.Ffn.args m c).out ∧ _ = of (Cert.Kernel2Ideal.Ffn.args m c).gdown ∧ _ = of (Cert.Kernel2Ideal.Ffn.args m c).dx ∧ _
    rw [← hargs]
    exact ⟨h1.trans (Cert.Reference2Ideal.Ffn.result_out m' c), h2.trans (Cert.Reference2Ideal.Ffn.result_gdown m' c),
      h3.trans (Cert.Reference2Ideal.Ffn.result_dx m' c (hfin c)), hk⟩

end Cert.Ffn

end
-- ==== Proof.GateValue.lean ====
/- The value claim of the gradient of the gate matrix: the kernel sums the 8256 rows in three blocks, into the scratch it carries from
   one block to the next, and writes an eighth of the matrix per slab; the reference sums all rows at once and cuts the slabs. -/
module

public import proofs.«01_k».proof.Defs
public import proofs.«01_k».proof.Proof.FfnSpec
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Pipeline.Value
public import Idealize.ShloMosaic.Adequacy
public import Idealize.ShloMosaic.Init

@[expose] public section

noncomputable section

namespace Cert.Gate

open Idealize.ShloMosaic Idealize.ShloMosaic.TcCoe Idealize.ShloMosaic.Tactic Idealize.SL.Sem Cert.Ffn

/-- The gradient of the gate matrix, its entry for a slab, a row of it and a column of it. -/
def slabs (n : Mat 8256 2048) (g : Mat 8256 5632) (s : Fin 8) (p : Fin 1024) (q : Fin 1408) : EReal :=
  tmul n g ⟨s.val % 2 * 1024 + p.val, by omega⟩ ⟨s.val / 2 * 1408 + q.val, by omega⟩

/-- All of it, as an array. -/
def slabsOf (n : Mat 8256 2048) (g : Mat 8256 5632) : FVec Ideal ⟨3, ![8, 1024, 1408]⟩ .bf16 := fun x => slabs n g (x 0) (x 1) (x 2)

theorem slabsOf_at (n : Mat 8256 2048) (g : Mat 8256 5632) (s : Fin 8) (p : Fin 1024) (q : Fin 1408) : slabsOf n g (ix3 s p q) = slabs n g s p q := rfl

/-- A sum over the rows is the sum of the three blocks' sums. -/
theorem sum_blocks {N n : ℕ} (hN : N = 3 * n) (f : Fin N → EReal) : ∑ l, f l
    = (∑ b : Fin n, f ⟨b.val, by omega⟩ + ∑ b : Fin n, f ⟨n + b.val, by omega⟩) + ∑ b : Fin n, f ⟨2 * n + b.val, by omega⟩ := by
  subst hN
  rw [← Fintype.sum_equiv (finProdFinEquiv (m := 3) (n := n)) (fun ab => f (finProdFinEquiv ab)) f (fun _ => rfl), Fintype.sum_prod_type,
    Fin.sum_univ_three]
  refine congrArg₂ (· + ·) (congrArg₂ (· + ·) ?_ ?_) ?_
  · exact Finset.sum_congr rfl fun b _ => congrArg f (Fin.ext (by show b.val + n * 0 = b.val; omega))
  · exact Finset.sum_congr rfl fun b _ => congrArg f (Fin.ext (by show b.val + n * 1 = n + b.val; omega))
  · exact Finset.sum_congr rfl fun b _ => congrArg f (Fin.ext (by show b.val + n * 2 = 2 * n + b.val; omega))

end Cert.Gate

namespace Cert.Kernel3Ideal.Gate

open Idealize.ShloMosaic Idealize.ShloMosaic.TcCoe Idealize.ShloMosaic.Tactic Idealize.SL.Sem Cert.Ffn Cert.Gate Cert.Kernel3Ideal Cert.Kernel3Ideal.Gen

section Body

variable {F : FTy → Type} [FloatOps F]
variable (c : Dev nD) (i : grid0.Coords) (arg3 : Memref sig .tc .vmem S2752x512 .bf16) (harg3 : arg3.IsWhole)
  (arg4 : Memref sig .tc .vmem S2752x1408 .bf16) (harg4 : arg4.IsWhole) (arg5 : Memref sig .tc .vmem S1x512x1408 .bf16) (harg5 : arg5.IsWhole)
  (arg6 : Memref sig .tc .vmem S512x1408 .f32) (harg6 : arg6.IsWhole) (x0 : Vec F S2752x512 .bf16) (x1 : Vec F S2752x1408 .bf16)
  (xs0 : Vec F S512x1408 .f32)

theorem zero3 : (![0, 0, 0] : Fin 3 → ℕ) = fun _ => 0 := by
  funext a; match a with | ⟨0, _⟩ => rfl | ⟨1, _⟩ => rfl | ⟨2, _⟩ => rfl

/-- The first block's sum replaces what the scratch held. -/
theorem scratch_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  funext y
  unfold sout0_A_0
  rw [View.read_writes_junk_eq_canon]
  unfold kernelRun0_A
  dsimp only
  rw [View.canon_unit_zero zero2]
  simp only [View.readAt_eq_ld, Memref.IsWhole.read_unread]
  repeat rw [View.ld_unit_zero zero2]

/-- A later block's sum is added to it. -/
theorem scratch_B (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  funext y
  unfold sout0_B_0
  rw [View.read_writes_junk_eq_canon]
  unfold kernelRun0_B
  dsimp only
  rw [View.canon_unit_zero zero2]
  simp only [View.readAt_eq_ld, Memref.IsWhole.read_unread]
  repeat rw [View.ld_unit_zero zero2]

/-- The last block's sum is added, and the whole is written out. -/
theorem out_C (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  funext y
  unfold out0_C_2
  rw [View.read_writes_junk_eq_canon]
  unfold kernelRun0_C
  dsimp only
  rw [View.canon_unit_zero zero3]
  have e : kernelRun0_C.sl.v12 c arg3 harg3 arg4 harg4 arg6 harg6 x0 x1 xs0 = k0_pay3 x0 x1 xs0 := by
    unfold kernelRun0_C.sl.v12 kernelRun0_C.sl.HS0_1
    rw [View.readCov_eq_canon']
    funext z
    rw [View.canon_unit_zero zero2]
    simp only [View.readAt_eq_ld, Memref.IsWhole.read_unread]
    repeat rw [View.ld_unit_zero zero2]
    exact congrFun (View.ld_unit_zero (Val := Elt F) (e := .f32) zero2 _ (k0_pay3 x0 x1 xs0)) z
  rw [e]

end Body

theorem pay_at (a b d : Vec Ideal S2752x512 .bf16) (a' b' d' : Vec Ideal S2752x1408 .bf16) (y : Fin 512) (q : Fin 1408) :
    k0_pay4 (k0_pay3 d d' (k0_pay3 b b' (k0_pay2 a a'))) (ix3 (0 : Fin 1) y q)
      = (tmul (mat (m := 2752) (n := 512) a) (mat (m := 2752) (n := 1408) a') y q + tmul (mat (m := 2752) (n := 512) b) (mat (m := 2752) (n := 1408) b') y q)
        + tmul (mat (m := 2752) (n := 512) d) (mat (m := 2752) (n := 1408) d') y q := by
  pointwise [k0_pay4, k0_pay3, k0_pay2, k0_pay1]
  rfl

/-! ## The points of the grid -/

section Points

variable (m : (ℓ : Loc nD τ sig) → Buf (Elt Ideal) ℓ) (c : Dev nD)

theorem at_0 : ∀ t : Fin grid0.N, win0_0.index t (0 : Fin 2) = t.val % 3 ∧ win0_0.index t (1 : Fin 2) = t.val / 12 := by decide +kernel
theorem at_1 : ∀ t : Fin grid0.N, win0_1.index t (0 : Fin 2) = t.val % 3 ∧ win0_1.index t (1 : Fin 2) = t.val / 3 % 4 := by decide +kernel
theorem at_2 : ∀ t : Fin grid0.N, win0_2.index t (0 : Fin 3) = 2 * (t.val / 3 % 4) + t.val / 24 ∧ win0_2.index t (1 : Fin 3) = t.val / 12 % 2
    ∧ win0_2.index t (2 : Fin 3) = 0 := by decide +kernel

theorem flush : ∀ t : Fin grid0.N, (cfg0.win 2).flush t = true ↔ t.val % 3 = 2 := by decide +kernel

abbrev xOf : Mat 8256 2048 := mat (m := 8256) (n := 2048) (m ((c : Thread nD τ).loc main_arg0))
abbrev gOf : Mat 8256 5632 := mat (m := 8256) (n := 5632) (m ((c : Thread nD τ).loc main_arg1))

theorem block_0 (t : Fin cfg0.N) (l : Fin 2752) (y : Fin 512) (r : Fin 8256) (hr : r.val = t.val % 3 * 2752 + l.val)
    (k : Fin 2048) (hk : k.val = t.val / 12 * 512 + y.val) :
    iblk m c 0 t (ix2 l y : S2752x512.Idx) = m ((c : Thread nD τ).loc main_arg0) (ix2 r k : S8256x2048.Idx) :=
  congrArg (m ((c : Thread nD τ).loc main_arg0)) (idx2 _ _
    (by have := at_0 t; show win0_0.index t (0 : Fin 2) * 2752 + 1 * l.val = r.val; omega)
    (by have := at_0 t; show win0_0.index t (1 : Fin 2) * 512 + 1 * y.val = k.val; omega))

theorem block_1 (t : Fin cfg0.N) (l : Fin 2752) (q : Fin 1408) (r : Fin 8256) (hr : r.val = t.val % 3 * 2752 + l.val)
    (k : Fin 5632) (hk : k.val = t.val / 3 % 4 * 1408 + q.val) :
    iblk m c 1 t (ix2 l q : S2752x1408.Idx) = m ((c : Thread nD τ).loc main_arg1) (ix2 r k : S8256x5632.Idx) :=
  congrArg (m ((c : Thread nD τ).loc main_arg1)) (idx2 _ _
    (by have := at_1 t; show win0_1.index t (0 : Fin 2) * 2752 + 1 * l.val = r.val; omega)
    (by have := at_1 t; show win0_1.index t (1 : Fin 2) * 1408 + 1 * q.val = k.val; omega))

/-- What the first point of a run leaves in the scratch. -/
theorem first (n : ℕ) (hn : n < cfg0.N) (h : n % 3 = 0) : (outsAt0 m c n hn).2 = k0_pay2 (iblk m c 0 ⟨n, hn⟩) (iblk m c 1 ⟨n, hn⟩) := by
  have h0 : (⟨n, hn⟩ : Fin cfg0.N).val % 3 = 0 := h
  have h1 : ¬1 ≤ (⟨n, hn⟩ : Fin cfg0.N).val % 3 := by rw [h0]; decide
  have h2 : ¬(⟨n, hn⟩ : Fin cfg0.N).val % 3 = 2 := by rw [h0]; decide
  have e := congrArg Prod.snd (outsAt0_A m c ⟨n, hn⟩ h0 h1 h2)
  dsimp only at e
  exact e.trans (scratch_A c _ _ _ _ _ _ _ _ _ _ _ _ _ _)

/-- What the second leaves. -/
theorem second (n : ℕ) (hn : n + 1 < cfg0.N) (hn' : n < cfg0.N) (h : (n + 1) % 3 = 1) :
    (outsAt0 m c (n + 1) hn).2 = k0_pay3 (iblk m c 0 ⟨n + 1, hn⟩) (iblk m c 1 ⟨n + 1, hn⟩) (outsAt0 m c n hn').2 := by
  have e : (⟨n + 1, hn⟩ : Fin cfg0.N).val % 3 = 1 := h
  have h0 : ¬(⟨n + 1, hn⟩ : Fin cfg0.N).val % 3 = 0 := by rw [e]; decide
  have h1 : 1 ≤ (⟨n + 1, hn⟩ : Fin cfg0.N).val % 3 := by rw [e]
  have h2 : ¬(⟨n + 1, hn⟩ : Fin cfg0.N).val % 3 = 2 := by rw [e]; decide
  have e := congrArg Prod.snd (outsAt0_B m c ⟨n + 1, hn⟩ h0 h1 h2)
  dsimp only at e
  exact e.trans (scratch_B c _ _ _ _ _ _ _ _ _ _ _ _ _ _ _)

/-- What the last point of a run writes back. -/
theorem third (n : ℕ) (hn : n + 2 < cfg0.N) (h : (n + 2) % 3 = 2) (z : S1x512x1408.Idx) (l1 : n + 1 < cfg0.N) (l2 : n < cfg0.N) :
    (dats m 0 c).flushed 2 ⟨n + 2, hn⟩ z = k0_pay4 (k0_pay3 (iblk m c 0 ⟨n + 2, hn⟩) (iblk m c 1 ⟨n + 2, hn⟩)
      (k0_pay3 (iblk m c 0 ⟨n + 1, l1⟩) (iblk m c 1 ⟨n + 1, l1⟩) (k0_pay2 (iblk m c 0 ⟨n, l2⟩) (iblk m c 1 ⟨n, l2⟩)))) z := by
  have e : (⟨n + 2, hn⟩ : Fin cfg0.N).val % 3 = 2 := h
  have h0 : ¬(⟨n + 2, hn⟩ : Fin cfg0.N).val % 3 = 0 := by rw [e]; decide
  have h1 : 1 ≤ (⟨n + 2, hn⟩ : Fin cfg0.N).val % 3 := by rw [e]; decide
  rw [← first m c n l2 (by omega), ← second m c n l1 l2 (by omega)]
  exact (congrFun (Value.flushed2_C m c ⟨n + 2, hn⟩ h0 h1 e) z).trans (congrFun (out_C c _ _ _ _ _ _ _ _ _ _ _ _ _ _ _) z)

/-- That is the three blocks' sums together. -/
theorem flushed_at (n : ℕ) (hn : n + 2 < cfg0.N) (h : (n + 2) % 3 = 2) (y : Fin 512) (q : Fin 1408) (s : Fin 8)
    (hs : s.val = 2 * (n / 3 % 4) + n / 24) (p : Fin 1024) (hp : p.val = n / 12 % 2 * 512 + y.val) :
    (dats m 0 c).flushed 2 ⟨n + 2, hn⟩ (ix3 (0 : Fin 1) y q : S1x512x1408.Idx) = slabs (xOf m c) (gOf m c) s p q := by
  have hN : n + 2 < 48 := lt_of_lt_of_eq hn N_0
  have l1 : n + 1 < cfg0.N := by omega
  have l2 : n < cfg0.N := by omega
  have g1 : (n + 1) / 12 = n / 12 ∧ (n + 2) / 12 = n / 12 ∧ (n + 1) / 3 = n / 3 ∧ (n + 2) / 3 = n / 3 ∧ n % 3 = 0 ∧ (n + 1) % 3 = 1 := by omega
  have g2 : s.val / 2 = n / 3 % 4 ∧ s.val % 2 * 1024 + p.val = n / 12 * 512 + y.val := by
    have : n / 24 < 2 := by omega
    have : s.val % 2 = n / 24 := by omega
    have : n / 12 = 2 * (n / 24) + n / 12 % 2 := by omega
    omega
  refine (third m c n hn h _ l1 l2).trans ((pay_at (iblk m c 0 ⟨n, l2⟩) (iblk m c 0 ⟨n + 1, l1⟩) (iblk m c 0 ⟨n + 2, hn⟩) (iblk m c 1 ⟨n, l2⟩)
    (iblk m c 1 ⟨n + 1, l1⟩) (iblk m c 1 ⟨n + 2, hn⟩) y q).trans ?_)
  unfold slabs
  refine Eq.trans ?_ (sum_blocks (n := 2752) (by norm_num) _).symm
  refine congrArg₂ (· + ·) (congrArg₂ (· + ·) ?_ ?_) ?_
  · refine Finset.sum_congr rfl fun l _ => congrArg₂ (· * ·) (block_0 m c _ l y _ ?_ _ ?_) (block_1 m c _ l q _ ?_ _ ?_)
    all_goals dsimp only; omega
  · refine Finset.sum_congr rfl fun l _ => congrArg₂ (· * ·) (block_0 m c _ l y _ ?_ _ ?_) (block_1 m c _ l q _ ?_ _ ?_)
    all_goals dsimp only; omega
  · refine Finset.sum_congr rfl fun l _ => congrArg₂ (· * ·) (block_0 m c _ l y _ ?_ _ ?_) (block_1 m c _ l q _ ?_ _ ?_)
    all_goals dsimp only; omega

theorem emb_at (t : Fin cfg0.N) (y : Fin 512) (q : Fin 1408) (s : Fin 8) (hs : s.val = 2 * (t.val / 3 % 4) + t.val / 24)
    (p : Fin 1024) (hp : p.val = t.val / 12 % 2 * 512 + y.val) :
    (ix3 s p q : S8x1024x1408.Idx) = ((cfg0.win 2).blk t).view.emb (ix3 (0 : Fin 1) y q : S1x512x1408.Idx) := by
  have := at_2 t
  funext a
  match a with
  | ⟨0, _⟩ => exact Fin.ext (by show s.val = win0_2.index t (0 : Fin 3) * 1 + 1 * 0; omega)
  | ⟨1, _⟩ => exact Fin.ext (by show p.val = win0_2.index t (1 : Fin 3) * 512 + 1 * y.val; omega)
  | ⟨2, _⟩ => exact Fin.ext (by show q.val = win0_2.index t (2 : Fin 3) * 1408 + 1 * q.val; omega)

theorem eq_ix3 {a b d : ℕ} (x : Shape.Idx ⟨3, ![a, b, d]⟩) : ∃ i j k, x = ix3 i j k := ⟨x 0, x 1, x 2, funext fun r => match r with
  | ⟨0, _⟩ => rfl
  | ⟨1, _⟩ => rfl
  | ⟨2, _⟩ => rfl⟩

theorem cell (s : Fin 8) (p : Fin 1024) : ∃ (t : Fin cfg0.N) (y : Fin 512), t.val % 3 = 2 ∧ s.val = 2 * (t.val / 3 % 4) + t.val / 24
    ∧ p.val = t.val / 12 % 2 * 512 + y.val := by
  have hN : cfg0.N = 48 := N_0
  obtain ⟨u, v, w, hu, hv, hw, hs, hp⟩ : ∃ u v w, u < 4 ∧ v < 2 ∧ w < 2 ∧ s.val = 2 * u + v ∧ p.val = w * 512 + p.val % 512 :=
    ⟨s.val / 2, s.val % 2, p.val / 512, by omega, by omega, by omega, by omega, by omega⟩
  refine ⟨⟨24 * v + 12 * w + 3 * u + 2, by omega⟩, ⟨p.val % 512, by omega⟩, ?_, ?_, ?_⟩
  all_goals dsimp only
  · omega
  · have : (24 * v + 12 * w + 3 * u + 2) / 3 = 4 * (2 * v + w) + u := by omega
    have : (24 * v + 12 * w + 3 * u + 2) / 24 = v := by omega
    omega
  · have : (24 * v + 12 * w + 3 * u + 2) / 12 = 2 * v + w := by omega
    omega

/-- The result: every slab of the gradient. -/
theorem result : (dats m 0 c).arrAt 2 cfg0.N = slabsOf (xOf m c) (gOf m c) := by
  refine (dats m 0 c).arrAt_eq_of_cover 2 (slabsOf (xOf m c) (gOf m c)) (fun t ht => funext fun z => ?_) fun x => ?_
  · obtain ⟨a, y, q, rfl⟩ := eq_ix3 (a := 1) (b := 512) (d := 1408) z
    obtain rfl : a = 0 := Subsingleton.elim _ _
    have h := (flush t).mp ht
    obtain ⟨t, hN⟩ := t
    dsimp only at h
    have hN' : t < 48 := lt_of_lt_of_eq hN N_0
    obtain ⟨n, rfl⟩ : ∃ n, t = n + 2 := ⟨t - 2, by omega⟩
    have h0 : 2 * (n / 3 % 4) + n / 24 < 8 := by omega
    have h1 : n / 12 % 2 * 512 + y.val < 1024 := by omega
    have e := emb_at ⟨n + 2, hN⟩ y q ⟨_, h0⟩ (by dsimp only; omega) ⟨_, h1⟩ (by dsimp only; omega)
    rw [flushed_at m c n hN h y q ⟨_, h0⟩ rfl ⟨_, h1⟩ rfl, ← slabsOf_at, e]
    generalize slabsOf (xOf m c) (gOf m c) = G
    rfl
  · obtain ⟨s, p, q, rfl⟩ := eq_ix3 (a := 8) (b := 1024) (d := 1408) x
    obtain ⟨t, y, h, hs, hp⟩ := cell s p
    exact ⟨t, (flush t).mpr h, by rw [emb_at t y q s hs p hp]; exact View.emb_mem_set _ _⟩

end Points

end Cert.Kernel3Ideal.Gate

namespace Cert.Reference3Ideal.Gate
open Idealize.ShloMosaic Idealize.ShloMosaic.TcCoe Idealize.ShloMosaic.Tactic Idealize.SL.Sem Cert.Ffn Cert.Gate Cert.Reference3Ideal Cert.Reference3Ideal.Gen

theorem result_at (x : FVec Ideal S8256x2048 .bf16) (g : FVec Ideal S8256x5632 .bf16) (s : Fin 8) (p : Fin 1024) (q : Fin 1408) :
    (truncf .bf16 (shapeCast S8x1024x1408 (transpose S4x2x1024x1408 [2, 0, 1, 3] (shapeCast S2x1024x4x1408 (transpose S2048x5632 [1, 0] (Host.dotGeneral dot_S8256x5632_S8256x2048_S5632x2048_0_0_1_1_n_n none (extf .f32 g bitsLt_bf16_f32) (extf .f32 x bitsLt_bf16_f32)) transposes_S5632x2048_S2048x5632_1_0) shapeCasts_S2048x5632_S2x1024x4x1408) transposes_S2x1024x4x1408_S4x2x1024x1408_2_0_1_3) shapeCasts_S4x2x1024x1408_S8x1024x1408) bitsLt_bf16_f32 : FVec Ideal S8x1024x1408 .bf16) (ix3 s p q)
      = slabs (mat (m := 8256) (n := 2048) x) (mat (m := 8256) (n := 5632) g) s p q := by
  unfold slabs tmul mat
  pointwise
  exact Finset.sum_congr rfl fun l _ => mul_comm _ _

end Cert.Reference3Ideal.Gate

namespace Cert.Gate

open Idealize.ShloMosaic Idealize.ShloMosaic.TcCoe Idealize.ShloMosaic.Tactic Idealize.SL.Sem Cert.Ffn

theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The two results agree. -/
theorem algebraic : Cert.algebraic_Kernel3Ideal_Reference3Ideal := by
  intro m ρ m' ρ' _ hag
  refine ⟨fun c => (Cert.Kernel3Ideal.Gen.dats m 0 c).arrAt 2 Cert.Kernel3Ideal.cfg0.N, ?_, ?_⟩
  · exact (θ_run Cert.Kernel3Ideal.defs _ _).mono (fun r h c => h c) (Cert.Kernel3Ideal.Value.run_blocks (F := Ideal) m ρ)
  · refine (θ_run Cert.Reference3Ideal.defs _ _).mono (fun r h c => ⟨(h c).1.trans ?_, (h c).2⟩) (Cert.Reference3Ideal.Value.run (F := Ideal) m' ρ')
    obtain ⟨a0, a1⟩ := hag c
    refine Eq.trans ?_ (Cert.Kernel3Ideal.Gate.result m c).symm
    funext x
    obtain ⟨s, p, q, rfl⟩ := Cert.Kernel3Ideal.Gate.eq_ix3 (a := 8) (b := 1024) (d := 1408) x
    refine (Cert.Reference3Ideal.Gate.result_at _ _ s p q).trans ?_
    rw [a0, a1]
    rfl

end Cert.Gate

end
-- ==== Proof.Blocks.lean ====
/- An output that a grid of points writes block by block: point `t` of a grid with `b` columns writes the block in row `t / b` and
   column `t % b`. -/
module

public import proofs.«01_k».proof.Proof.FfnSpec
public import Idealize.ShloMosaic.Lib.Pipeline.Value
public import Idealize.ShloMosaic.Lib.Pointwise

@[expose] public section

noncomputable section

namespace Cert.Blocks

open Idealize.ShloMosaic Idealize.ShloMosaic.TcCoe

theorem succ_block {x a s i : ℕ} (hx : x < a) (hi : i < s) : x * s + i < a * s :=
  calc x * s + i < x * s + s := by omega
    _ = (x + 1) * s := by ring
    _ ≤ a * s := Nat.mul_le_mul_right _ hx

variable {M N tm tn a b n : ℕ}

theorem row_lt (hM : M = a * tm) (hn : n = a * b) {t i : ℕ} (ht : t < n) (hi : i < tm) : t / b * tm + i < M := by
  subst hM hn
  exact succ_block (Nat.div_lt_of_lt_mul (by rwa [Nat.mul_comm])) hi

theorem col_lt (hN : N = b * tn) (hn : n = a * b) {t j : ℕ} (ht : t < n) (hj : j < tn) : t % b * tn + j < N := by
  subst hN hn
  exact succ_block (Nat.mod_lt t (Nat.pos_of_ne_zero (by rintro rfl; simp at ht))) hj

/-- A point of the grid and an entry of its block, for a row and a column of the output. -/
theorem point (hM : M = a * tm) (hN : N = b * tn) (hn : n = a * b) (r : Fin M) (q : Fin N) :
    ∃ (t : Fin n) (i : Fin tm) (j : Fin tn), r.val = t.val / b * tm + i.val ∧ q.val = t.val % b * tn + j.val := by
  subst hM hN hn
  have htm : 0 < tm := Nat.pos_of_ne_zero (by rintro rfl; exact absurd r.2 (by simp))
  have htn : 0 < tn := Nat.pos_of_ne_zero (by rintro rfl; exact absurd q.2 (by simp))
  have hr : r.val / tm < a := Nat.div_lt_of_lt_mul (lt_of_lt_of_eq r.2 (Nat.mul_comm a tm))
  have hq : q.val / tn < b := Nat.div_lt_of_lt_mul (lt_of_lt_of_eq q.2 (Nat.mul_comm b tn))
  have hb : 0 < b := lt_of_le_of_lt (Nat.zero_le _) hq
  refine ⟨⟨r.val / tm * b + q.val / tn, succ_block hr hq⟩, ⟨r.val % tm, Nat.mod_lt _ htm⟩, ⟨q.val % tn, Nat.mod_lt _ htn⟩, ?_, ?_⟩
  · show r.val = (r.val / tm * b + q.val / tn) / b * tm + r.val % tm
    rw [Nat.mul_comm (r.val / tm) b, Nat.mul_add_div hb, Nat.div_eq_of_lt hq, Nat.add_zero, Nat.div_add_mod']
  · show q.val = (r.val / tm * b + q.val / tn) % b * tn + q.val % tn
    rw [Nat.mul_comm (r.val / tm) b, Nat.mul_add_mod, Nat.mod_eq_of_lt hq, Nat.div_add_mod']

/-- An output every point of the grid writes its block of, with what `G` holds there, ends as `G`. `cell` and `entry` are the indices
    of the output and of a block, from a row and a column. -/
theorem whole {nD : ℕ} {τ : Topo} {sig : RefSig} {Val : EltTy → Type} {Ix : Type} [DecidableEq Ix] {Name : Type} [DecidableEq Name]
    {U : Type} [Idealize.SL.RA.URA U] {Lvl : Type} {Λ₀ : Idealize.SL.Sem.Labels} {cfg : Pipeline.Cfg sig Λ₀} {c : Dev nD}
    (dat : Pipeline.Dat τ Val Ix Name U Lvl cfg c)
    (hM : M = a * tm) (hN : N = b * tn) (hn : cfg.N = a * b) (w : Fin cfg.W)
    (G : Buf Val ((cfg.win w).arr.view.loc (c.tc : Thread nD τ))) (hf : ∀ t, (cfg.win w).flush t = true)
    (cell : Fin M → Fin N → ((cfg.win w).arr.view.loc (c.tc : Thread nD τ)).2.ty.Idx) (hcell : ∀ x, ∃ r q, x = cell r q)
    (entry : ∀ t : Fin cfg.N, Fin tm → Fin tn → ((cfg.win w).xblock (cfg.grid.coords t)).Idx) (hentry : ∀ t y, ∃ i j, y = entry t i j)
    (hemb : ∀ (t : Fin cfg.N) (r : Fin M) (q : Fin N) (i : Fin tm) (j : Fin tn), r.val = t.val / b * tm + i.val → q.val = t.val % b * tn + j.val →
      cell r q = ((cfg.win w).blk t).view.emb (entry t i j))
    (hflushed : ∀ (t : Fin cfg.N) (r : Fin M) (q : Fin N) (i : Fin tm) (j : Fin tn), r.val = t.val / b * tm + i.val → q.val = t.val % b * tn + j.val →
      dat.flushed w t (entry t i j) = ((cfg.win w).blk t).view.read Val G (entry t i j)) : dat.arrAt w cfg.N = G := by
  refine dat.arrAt_eq_of_cover w G (fun t _ => funext fun y => ?_) fun x => ?_
  · obtain ⟨i, j, rfl⟩ := hentry t y
    exact hflushed t ⟨_, row_lt hM hn t.2 i.2⟩ ⟨_, col_lt hN hn t.2 j.2⟩ i j rfl rfl
  · obtain ⟨r, q, rfl⟩ := hcell x
    obtain ⟨t, i, j, hr, hq⟩ := point hM hN hn r q
    exact ⟨t, hf t, by rw [hemb t r q i j hr hq]; exact View.emb_mem_set _ _⟩

end Cert.Blocks

end
-- ==== Proof.OutValue.lean ====
/- The output projection and its gradients. What each of its three calls leaves in its output array: a point of the grid computes one
   block from whole rows or columns of two arguments, so every entry is the sum over the whole contracted axis, as it is in the
   reference. No call reads another's output. -/
module

public import proofs.«01_k».proof.Defs
public import proofs.«01_k».proof.Proof.Blocks
public import proofs.«01_k».proof.Proof.Gen.Kernel4Ideal.Frame
public import proofs.«01_k».proof.Proof.Gen.Reference4Ideal.Run
public import Idealize.ShloMosaic.Adequacy
public import Idealize.ShloMosaic.Init

@[expose] public section

set_option maxRecDepth 16384

noncomputable section

namespace Cert.Kernel4Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen Cert.Ffn Cert.Blocks

section Calls

variable (V : (c : Dev nD) → (b : Ref sig .tc) → Buf (Elt Ideal) ((c : Thread nD τ).loc b)) (c : Dev nD)

/-- The input, the matrix and the gradient of the output. -/
abbrev xOf : Mat 8256 2048 := mat (m := 8256) (n := 2048) (V c main_arg0)
abbrev wOf : Mat 2048 2048 := mat (m := 2048) (n := 2048) (V c main_arg1)
abbrev dOf : Mat 8256 2048 := mat (m := 8256) (n := 2048) (V c main_arg2)

/-! ## The output -/

section First

theorem at0_0 : ∀ t : Fin grid0.N, win0_0.index t (0 : Fin 2) = t.val / 2 ∧ win0_0.index t (1 : Fin 2) = 0 := by decide +kernel
theorem at0_1 : ∀ t : Fin grid0.N, win0_1.index t (0 : Fin 2) = 0 ∧ win0_1.index t (1 : Fin 2) = t.val % 2 := by decide +kernel
theorem at0_2 : ∀ t : Fin grid0.N, win0_2.index t (0 : Fin 2) = t.val / 2 ∧ win0_2.index t (1 : Fin 2) = t.val % 2 := by decide +kernel

variable (t : Fin cfg0.N) (r : Fin 8256) (q : Fin 2048) (i : Fin 1376) (j : Fin 1024)

theorem block0_0 (hr : r.val = t.val / 2 * 1376 + i.val) (k : Fin 2048) : iblk0 V c 0 t (ix2 i k : S1376x2048.Idx) = xOf V c r k :=
  congrArg (V c main_arg0) (idx2 _ _
    (by have := at0_0 t; show win0_0.index t (0 : Fin 2) * 1376 + 1 * i.val = r.val; omega)
    (by have := at0_0 t; show win0_0.index t (1 : Fin 2) * 2048 + 1 * k.val = k.val; omega))

theorem block0_1 (hq : q.val = t.val % 2 * 1024 + j.val) (k : Fin 2048) : iblk0 V c 1 t (ix2 k j : S2048x1024.Idx) = wOf V c k q :=
  congrArg (V c main_arg1) (idx2 _ _
    (by have := at0_1 t; show win0_1.index t (0 : Fin 2) * 2048 + 1 * k.val = k.val; omega)
    (by have := at0_1 t; show win0_1.index t (1 : Fin 2) * 1024 + 1 * j.val = q.val; omega))

theorem flushed0_2 (hr : r.val = t.val / 2 * 1376 + i.val) (hq : q.val = t.val % 2 * 1024 + j.val) :
    (dat0 V c).flushed 2 t (ix2 i j : S1376x1024.Idx) = mul (xOf V c) (wOf V c) r q := by
  show (dat0 V c).after 2 t (ix2 i j) = _
  rw [after0_2]
  unfold out0_2
  rw [View.canon_unit_zero zero2, View.ld_unit_zero zero2, View.ld_unit_zero zero2]
  pointwise [k0_pay1]
  simp only [block0_0 V c t r i hr, block0_1 V c t q j hq]
  rfl

theorem emb0_2 (hr : r.val = t.val / 2 * 1376 + i.val) (hq : q.val = t.val % 2 * 1024 + j.val) :
    (ix2 r q : S8256x2048.Idx) = ((cfg0.win 2).blk t).view.emb (ix2 i j : S1376x1024.Idx) :=
  idx2 (m := 8256) (n := 2048) _ _
    (by have := at0_2 t; show r.val = win0_2.index t (0 : Fin 2) * 1376 + 1 * i.val; omega)
    (by have := at0_2 t; show q.val = win0_2.index t (1 : Fin 2) * 1024 + 1 * j.val; omega)

omit t r q i j in
theorem arr0_2 : (dat0 V c).arrAt 2 cfg0.N = of (mul (xOf V c) (wOf V c)) :=
  whole (a := 6) (b := 2) (dat0 V c) rfl rfl N_0 2 _ flush0_2 (fun r q => (ix2 r q : S8256x2048.Idx)) (eq_ix2 (m := 8256) (n := 2048))
    (fun _ i j => (ix2 i j : S1376x1024.Idx)) (fun _ => eq_ix2 (m := 1376) (n := 1024)) emb0_2
    fun t r q i j hr hq => (flushed0_2 V c t r q i j hr hq).trans (congrArg (of (mul (xOf V c) (wOf V c))) (emb0_2 t r q i j hr hq))

end First

/-! ## The gradient of the input -/

section Second

theorem at1_0 : ∀ t : Fin grid1.N, win1_0.index t (0 : Fin 2) = t.val / 2 ∧ win1_0.index t (1 : Fin 2) = 0 := by decide +kernel
theorem at1_1 : ∀ t : Fin grid1.N, win1_1.index t (0 : Fin 2) = t.val % 2 ∧ win1_1.index t (1 : Fin 2) = 0 := by decide +kernel
theorem at1_2 : ∀ t : Fin grid1.N, win1_2.index t (0 : Fin 2) = t.val / 2 ∧ win1_2.index t (1 : Fin 2) = t.val % 2 := by decide +kernel

variable (t : Fin cfg1.N) (r : Fin 8256) (q : Fin 2048) (i : Fin 1376) (j : Fin 1024)

theorem block1_0 (hr : r.val = t.val / 2 * 1376 + i.val) (k : Fin 2048) : iblk1 V c 0 t (ix2 i k : S1376x2048.Idx) = dOf V c r k :=
  congrArg (V c main_arg2) (idx2 _ _
    (by have := at1_0 t; show win1_0.index t (0 : Fin 2) * 1376 + 1 * i.val = r.val; omega)
    (by have := at1_0 t; show win1_0.index t (1 : Fin 2) * 2048 + 1 * k.val = k.val; omega))

theorem block1_1 (hq : q.val = t.val % 2 * 1024 + j.val) (k : Fin 2048) : iblk1 V c 1 t (ix2 j k : S1024x2048.Idx) = wOf V c q k :=
  congrArg (V c main_arg1) (idx2 _ _
    (by have := at1_1 t; show win1_1.index t (0 : Fin 2) * 1024 + 1 * j.val = q.val; omega)
    (by have := at1_1 t; show win1_1.index t (1 : Fin 2) * 2048 + 1 * k.val = k.val; omega))

theorem flushed1_2 (hr : r.val = t.val / 2 * 1376 + i.val) (hq : q.val = t.val % 2 * 1024 + j.val) :
    (dat1 V c).flushed 2 t (ix2 i j : S1376x1024.Idx) = mulT (dOf V c) (wOf V c) r q := by
  show (dat1 V c).after 2 t (ix2 i j) = _
  rw [after1_2]
  unfold out1_2
  rw [View.canon_unit_zero zero2, View.ld_unit_zero zero2, View.ld_unit_zero zero2]
  pointwise [k1_pay1]
  simp only [block1_0 V c t r i hr, block1_1 V c t q j hq]
  rfl

theorem emb1_2 (hr : r.val = t.val / 2 * 1376 + i.val) (hq : q.val = t.val % 2 * 1024 + j.val) :
    (ix2 r q : S8256x2048.Idx) = ((cfg1.win 2).blk t).view.emb (ix2 i j : S1376x1024.Idx) :=
  idx2 (m := 8256) (n := 2048) _ _
    (by have := at1_2 t; show r.val = win1_2.index t (0 : Fin 2) * 1376 + 1 * i.val; omega)
    (by have := at1_2 t; show q.val = win1_2.index t (1 : Fin 2) * 1024 + 1 * j.val; omega)

omit t r q i j in
theorem arr1_2 : (dat1 V c).arrAt 2 cfg1.N = of (mulT (dOf V c) (wOf V c)) :=
  whole (a := 6) (b := 2) (dat1 V c) rfl rfl N_1 2 _ flush1_2 (fun r q => (ix2 r q : S8256x2048.Idx)) (eq_ix2 (m := 8256) (n := 2048))
    (fun _ i j => (ix2 i j : S1376x1024.Idx)) (fun _ => eq_ix2 (m := 1376) (n := 1024)) emb1_2
    fun t r q i j hr hq => (flushed1_2 V c t r q i j hr hq).trans (congrArg (of (mulT (dOf V c) (wOf V c))) (emb1_2 t r q i j hr hq))

end Second

/-! ## The gradient of the matrix -/

section Third

theorem at2_0 : ∀ t : Fin grid2.N, win2_0.index t (0 : Fin 2) = 0 ∧ win2_0.index t (1 : Fin 2) = t.val / 4 := by decide +kernel
theorem at2_1 : ∀ t : Fin grid2.N, win2_1.index t (0 : Fin 2) = 0 ∧ win2_1.index t (1 : Fin 2) = t.val % 4 := by decide +kernel
theorem at2_2 : ∀ t : Fin grid2.N, win2_2.index t (0 : Fin 2) = t.val / 4 ∧ win2_2.index t (1 : Fin 2) = t.val % 4 := by decide +kernel

variable (t : Fin cfg2.N) (r : Fin 2048) (q : Fin 2048) (i : Fin 512) (j : Fin 512)

theorem block2_0 (hr : r.val = t.val / 4 * 512 + i.val) (k : Fin 8256) : iblk2 V c 0 t (ix2 k i : S8256x512.Idx) = xOf V c k r :=
  congrArg (V c main_arg0) (idx2 _ _
    (by have := at2_0 t; show win2_0.index t (0 : Fin 2) * 8256 + 1 * k.val = k.val; omega)
    (by have := at2_0 t; show win2_0.index t (1 : Fin 2) * 512 + 1 * i.val = r.val; omega))

theorem block2_1 (hq : q.val = t.val % 4 * 512 + j.val) (k : Fin 8256) : iblk2 V c 1 t (ix2 k j : S8256x512.Idx) = dOf V c k q :=
  congrArg (V c main_arg2) (idx2 _ _
    (by have := at2_1 t; show win2_1.index t (0 : Fin 2) * 8256 + 1 * k.val = k.val; omega)
    (by have := at2_1 t; show win2_1.index t (1 : Fin 2) * 512 + 1 * j.val = q.val; omega))

theorem flushed2_2 (hr : r.val = t.val / 4 * 512 + i.val) (hq : q.val = t.val % 4 * 512 + j.val) :
    (dat2 V c).flushed 2 t (ix2 i j : S512x512.Idx) = tmul (xOf V c) (dOf V c) r q := by
  show (dat2 V c).after 2 t (ix2 i j) = _
  rw [after2_2]
  unfold out2_2
  rw [View.canon_unit_zero zero2, View.ld_unit_zero zero2, View.ld_unit_zero zero2]
  pointwise [k2_pay1]
  simp only [block2_0 V c t r i hr, block2_1 V c t q j hq]
  rfl

theorem emb2_2 (hr : r.val = t.val / 4 * 512 + i.val) (hq : q.val = t.val % 4 * 512 + j.val) :
    (ix2 r q : S2048x2048.Idx) = ((cfg2.win 2).blk t).view.emb (ix2 i j : S512x512.Idx) :=
  idx2 (m := 2048) (n := 2048) _ _
    (by have := at2_2 t; show r.val = win2_2.index t (0 : Fin 2) * 512 + 1 * i.val; omega)
    (by have := at2_2 t; show q.val = win2_2.index t (1 : Fin 2) * 512 + 1 * j.val; omega)

omit t r q i j in
theorem arr2_2 : (dat2 V c).arrAt 2 cfg2.N = of (tmul (xOf V c) (dOf V c)) :=
  whole (a := 4) (b := 4) (dat2 V c) rfl rfl N_2 2 _ flush2_2 (fun r q => (ix2 r q : S2048x2048.Idx)) (eq_ix2 (m := 2048) (n := 2048))
    (fun _ i j => (ix2 i j : S512x512.Idx)) (fun _ => eq_ix2 (m := 512) (n := 512)) emb2_2
    fun t r q i j hr hq => (flushed2_2 V c t r q i j hr hq).trans (congrArg (of (tmul (xOf V c) (dOf V c))) (emb2_2 t r q i j hr hq))

end Third

end Calls

/-! ## The run -/

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with each result at what the last boundary holds and the arguments as they were: the launch of the generated frame
    once more, its last line keeping the results. -/
theorem run : θ_run defs (onTc (τ := τ) (main (F := F))) ⟨m, fun _ => 0, ρ⟩ (fun r => (∀ c : Dev nD,
      r.2.mem ((c.tc : Thread nD τ).loc main_v0) = W3 m ρ c (Proc.devRef .tc main_v0)
      ∧ r.2.mem ((c.tc : Thread nD τ).loc main_v1) = W3 m ρ c (Proc.devRef .tc main_v1)
      ∧ r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v0 (by decide)), h c _ (mem_uc main_v1 (by decide)), h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Launch

section Values

variable (m : (ℓ : Loc nD τ sig) → Buf (Elt Ideal) ℓ) (ρ : Dev nD → PrngReg) (c : Dev nD)

/-- The arguments as matrices. -/
abbrev xM : Mat 8256 2048 := mat (m := 8256) (n := 2048) (m ((c : Thread nD τ).loc main_arg0))
abbrev wM : Mat 2048 2048 := mat (m := 2048) (n := 2048) (m ((c : Thread nD τ).loc main_arg1))
abbrev dM : Mat 8256 2048 := mat (m := 8256) (n := 2048) (m ((c : Thread nD τ).loc main_arg2))

theorem result_out : W3 m ρ c (Proc.devRef .tc main_v0) = of (mul (xM m c) (wM m c)) :=
  (W3_of m ρ c main_v0 (by decide +kernel)).trans ((W2_of m ρ c main_v0 (by decide +kernel)).trans
    ((W1_arr m ρ c 2).trans (arr0_2 (V0 m ρ) c)))

theorem result_dx : W3 m ρ c (Proc.devRef .tc main_v1) = of (mulT (dM m c) (wM m c)) := by
  refine (W3_of m ρ c main_v1 (by decide +kernel)).trans ((W2_arr m ρ c 2).trans ((arr1_2 (V1 m ρ) c).trans ?_))
  rw [show dOf (V1 m ρ) c = dM m c from congrArg (mat (m := 8256) (n := 2048)) (W1_args m ρ c main_arg2 (by decide)),
    show wOf (V1 m ρ) c = wM m c from congrArg (mat (m := 2048) (n := 2048)) (W1_args m ρ c main_arg1 (by decide))]

theorem result_dw : W3 m ρ c (Proc.devRef .tc main_v2) = of (tmul (xM m c) (dM m c)) := by
  refine (W3_arr m ρ c 2).trans ((arr2_2 (V2 m ρ) c).trans ?_)
  rw [show xOf (V2 m ρ) c = xM m c from congrArg (mat (m := 8256) (n := 2048)) (W2_args m ρ c main_arg0 (by decide)),
    show dOf (V2 m ρ) c = dM m c from congrArg (mat (m := 8256) (n := 2048)) (W2_args m ρ c main_arg2 (by decide))]

end Values

end Cert.Kernel4Ideal.Out

namespace Cert.Reference4Ideal.Out

open Idealize.ShloMosaic Idealize.ShloMosaic.TcCoe Idealize.ShloMosaic.Tactic Cert.Reference4Ideal Cert.Reference4Ideal.Gen Cert.Ffn

variable (x : FVec Ideal S8256x2048 .bf16) (w : FVec Ideal S2048x2048 .bf16) (d : FVec Ideal S8256x2048 .bf16)

theorem out_eq : (Host.dotGeneral dot_S8256x2048_S2048x2048_S8256x2048_1_0_0_1_n_n none (extf .f32 x bitsLt_bf16_f32) (extf .f32 w bitsLt_bf16_f32)
    : FVec Ideal S8256x2048 .f32) = of (mul (mat (m := 8256) (n := 2048) x) (mat (m := 2048) (n := 2048) w)) := by
  funext z
  obtain ⟨r, q, rfl⟩ := eq_ix2 (m := 8256) (n := 2048) z
  pointwise
  rfl

theorem dx_eq : (Host.dotGeneral dot_S8256x2048_S2048x2048_S8256x2048_1_1_0_0_n_n none (extf .f32 d bitsLt_bf16_f32) (extf .f32 w bitsLt_bf16_f32)
    : FVec Ideal S8256x2048 .f32) = of (mulT (mat (m := 8256) (n := 2048) d) (mat (m := 2048) (n := 2048) w)) := by
  funext z
  obtain ⟨r, q, rfl⟩ := eq_ix2 (m := 8256) (n := 2048) z
  pointwise
  rfl

theorem dw_eq : (truncf .bf16 (transpose S2048x2048 [1, 0] (Host.dotGeneral dot_S8256x2048_S8256x2048_S2048x2048_0_0_1_1_n_n none
    (extf .f32 d bitsLt_bf16_f32) (extf .f32 x bitsLt_bf16_f32)) transposes_S2048x2048_S2048x2048_1_0) bitsLt_bf16_f32
    : FVec Ideal S2048x2048 .bf16) = of (tmul (mat (m := 8256) (n := 2048) x) (mat (m := 8256) (n := 2048) d)) := by
  funext z
  obtain ⟨r, q, rfl⟩ := eq_ix2 (m := 2048) (n := 2048) z
  pointwise
  exact Finset.sum_congr rfl fun l _ => mul_comm _ _

end Cert.Reference4Ideal.Out

namespace Cert.Out

open Idealize.ShloMosaic Idealize.ShloMosaic.TcCoe Idealize.ShloMosaic.Tactic Idealize.SL.Sem Cert.Ffn Cert.Kernel4Ideal.Out Cert.Reference4Ideal.Out

theorem frame_ri : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The three results agree. -/
theorem algebraic : Cert.algebraic_Kernel4Ideal_Reference4Ideal := by
  intro m ρ m' ρ' _ hag
  refine ⟨fun c => of (mul (xM m c) (wM m c)), fun c => of (mulT (dM m c) (wM m c)), fun c => of (tmul (xM m c) (dM m c)), ?_, ?_⟩
  · refine (θ_run Cert.Kernel4Ideal.defs _ _).mono (fun r h c => ?_) (Cert.Kernel4Ideal.Out.run m ρ)
    obtain ⟨h0, h1, h2, hk⟩ := h c
    exact ⟨h0.trans (result_out m ρ c), h1.trans (result_dx m ρ c), h2.trans (result_dw m ρ c), hk⟩
  · refine (θ_run Cert.Reference4Ideal.defs _ _).mono (fun r h c => ?_) (Cert.Reference4Ideal.Value.run (F := Ideal) m' ρ')
    obtain ⟨h0, h1, h2, hk⟩ := h c
    obtain ⟨a0, a1, a2⟩ := hag c
    refine ⟨h0.trans ((out_eq _ _).trans ?_), h1.trans ((dx_eq _ _).trans ?_), h2.trans ((dw_eq _ _).trans ?_), hk⟩
    · rw [a0, a1]
    · rw [a1, a2]
    · rw [a0, a2]

end Cert.Out

end
-- ==== Proof.InBlocks.lean ====
/- What each of the six calls of the input projection leaves in its output array, from its arguments: a point of the grid computes one
   block from whole rows or columns of two arguments (the last call: of two pairs), so every entry is the sum over the whole contracted
   axis. No call reads another's output. -/
module

public import proofs.«01_k».proof.Proof.Blocks
public import proofs.«01_k».proof.Proof.Gen.Kernel5Ideal.Frame

@[expose] public section

set_option maxRecDepth 16384

noncomputable section

namespace Cert.In

open Cert.Ffn

/-- The columns before 3072 and those from 3072 on: the two calls' shares of the gradient of the large matrix. -/
def before {m : ℕ} (a : Mat m 7168) : Mat m 3072 := fun r q => a r ⟨q.val, by omega⟩
def after {m : ℕ} (a : Mat m 7168) : Mat m 4096 := fun r q => a r ⟨3072 + q.val, by omega⟩

end Cert.In

namespace Cert.Kernel5Ideal.In

open Idealize.ShloMosaic Idealize.ShloMosaic.TcCoe Idealize.ShloMosaic.Tactic Cert.Kernel5Ideal Cert.Kernel5Ideal.Gen Cert.Ffn Cert.Blocks Cert.In

variable (V : (c : Dev nD) → (b : Ref sig .tc) → Buf (Elt Ideal) ((c : Thread nD τ).loc b)) (c : Dev nD)

/-- The input, the large and the small matrix, and the gradients of the two outputs. -/
abbrev xOf : Mat 8256 2048 := mat (m := 8256) (n := 2048) (V c main_arg0)
abbrev wOf : Mat 2048 7168 := mat (m := 2048) (n := 7168) (V c main_arg1)
abbrev sOf : Mat 2048 128 := mat (m := 2048) (n := 128) (V c main_arg2)
abbrev dwOf : Mat 8256 7168 := mat (m := 8256) (n := 7168) (V c main_arg3)
abbrev dsOf : Mat 8256 128 := mat (m := 8256) (n := 128) (V c main_arg4)

/-! ## The large output -/

section First

theorem at0_0 : ∀ t : Fin grid0.N, win0_0.index t (0 : Fin 2) = t.val / 7 ∧ win0_0.index t (1 : Fin 2) = 0 := by decide +kernel
theorem at0_1 : ∀ t : Fin grid0.N, win0_1.index t (0 : Fin 2) = 0 ∧ win0_1.index t (1 : Fin 2) = t.val % 7 := by decide +kernel
theorem at0_2 : ∀ t : Fin grid0.N, win0_2.index t (0 : Fin 2) = t.val / 7 ∧ win0_2.index t (1 : Fin 2) = t.val % 7 := by decide +kernel

variable (t : Fin cfg0.N) (r : Fin 8256) (q : Fin 7168) (i : Fin 1376) (j : Fin 1024)

theorem block0_0 (hr : r.val = t.val / 7 * 1376 + i.val) (k : Fin 2048) : iblk0 V c 0 t (ix2 i k : S1376x2048.Idx) = xOf V c r k :=
  congrArg (V c main_arg0) (idx2 _ _
    (by have := at0_0 t; show win0_0.index t (0 : Fin 2) * 1376 + 1 * i.val = r.val; omega)
    (by have := at0_0 t; show win0_0.index t (1 : Fin 2) * 2048 + 1 * k.val = k.val; omega))

theorem block0_1 (hq : q.val = t.val % 7 * 1024 + j.val) (k : Fin 2048) : iblk0 V c 1 t (ix2 k j : S2048x1024.Idx) = wOf V c k q :=
  congrArg (V c main_arg1) (idx2 _ _
    (by have := at0_1 t; show win0_1.index t (0 : Fin 2) * 2048 + 1 * k.val = k.val; omega)
    (by have := at0_1 t; show win0_1.index t (1 : Fin 2) * 1024 + 1 * j.val = q.val; omega))

theorem flushed0_2 (hr : r.val = t.val / 7 * 1376 + i.val) (hq : q.val = t.val % 7 * 1024 + j.val) :
    (dat0 V c).flushed 2 t (ix2 i j : S1376x1024.Idx) = mul (xOf V c) (wOf V c) r q := by
  show (dat0 V c).after 2 t (ix2 i j) = _
  rw [after0_2]
  unfold out0_2
  rw [View.canon_unit_zero zero2, View.ld_unit_zero zero2, View.ld_unit_zero zero2]
  pointwise [k0_pay1]
  simp only [block0_0 V c t r i hr, block0_1 V c t q j hq]
  rfl

theorem emb0_2 (hr : r.val = t.val / 7 * 1376 + i.val) (hq : q.val = t.val % 7 * 1024 + j.val) :
    (ix2 r q : S8256x7168.Idx) = ((cfg0.win 2).blk t).view.emb (ix2 i j : S1376x1024.Idx) :=
  idx2 (m := 8256) (n := 7168) _ _
    (by have := at0_2 t; show r.val = win0_2.index t (0 : Fin 2) * 1376 + 1 * i.val; omega)
    (by have := at0_2 t; show q.val = win0_2.index t (1 : Fin 2) * 1024 + 1 * j.val; omega)

omit t r q i j in
theorem arr0_2 : (dat0 V c).arrAt 2 cfg0.N = of (mul (xOf V c) (wOf V c)) :=
  whole (a := 6) (b := 7) (dat0 V c) rfl rfl N_0 2 _ flush0_2 (fun r q => (ix2 r q : S8256x7168.Idx)) (eq_ix2 (m := 8256) (n := 7168))
    (fun _ i j => (ix2 i j : S1376x1024.Idx)) (fun _ => eq_ix2 (m := 1376) (n := 1024)) emb0_2
    fun t r q i j hr hq => (flushed0_2 V c t r q i j hr hq).trans (congrArg (of (mul (xOf V c) (wOf V c))) (emb0_2 t r q i j hr hq))

end First

/-! ## The small output -/

section Second

theorem at1_0 : ∀ t : Fin grid1.N, win1_0.index t (0 : Fin 2) = t.val / 1 ∧ win1_0.index t (1 : Fin 2) = 0 := by decide +kernel
theorem at1_1 : ∀ t : Fin grid1.N, win1_1.index t (0 : Fin 2) = 0 ∧ win1_1.index t (1 : Fin 2) = t.val % 1 := by decide +kernel
theorem at1_2 : ∀ t : Fin grid1.N, win1_2.index t (0 : Fin 2) = t.val / 1 ∧ win1_2.index t (1 : Fin 2) = t.val % 1 := by decide +kernel

variable (t : Fin cfg1.N) (r : Fin 8256) (q : Fin 128) (i : Fin 1376) (j : Fin 128)

theorem block1_0 (hr : r.val = t.val / 1 * 1376 + i.val) (k : Fin 2048) : iblk1 V c 0 t (ix2 i k : S1376x2048.Idx) = xOf V c r k :=
  congrArg (V c main_arg0) (idx2 _ _
    (by have := at1_0 t; show win1_0.index t (0 : Fin 2) * 1376 + 1 * i.val = r.val; omega)
    (by have := at1_0 t; show win1_0.index t (1 : Fin 2) * 2048 + 1 * k.val = k.val; omega))

theorem block1_1 (hq : q.val = t.val % 1 * 128 + j.val) (k : Fin 2048) : iblk1 V c 1 t (ix2 k j : S2048x128.Idx) = sOf V c k q :=
  congrArg (V c main_arg2) (idx2 _ _
    (by have := at1_1 t; show win1_1.index t (0 : Fin 2) * 2048 + 1 * k.val = k.val; omega)
    (by have := at1_1 t; show win1_1.index t (1 : Fin 2) * 128 + 1 * j.val = q.val; omega))

theorem flushed1_2 (hr : r.val = t.val / 1 * 1376 + i.val) (hq : q.val = t.val % 1 * 128 + j.val) :
    (dat1 V c).flushed 2 t (ix2 i j : S1376x128.Idx) = mul (xOf V c) (sOf V c) r q := by
  show (dat1 V c).after 2 t (ix2 i j) = _
  rw [after1_2]
  unfold out1_2
  rw [View.canon_unit_zero zero2, View.ld_unit_zero zero2, View.ld_unit_zero zero2]
  pointwise [k1_pay1]
  simp only [block1_0 V c t r i hr, block1_1 V c t q j hq]
  rfl

theorem emb1_2 (hr : r.val = t.val / 1 * 1376 + i.val) (hq : q.val = t.val % 1 * 128 + j.val) :
    (ix2 r q : S8256x128.Idx) = ((cfg1.win 2).blk t).view.emb (ix2 i j : S1376x128.Idx) :=
  idx2 (m := 8256) (n := 128) _ _
    (by have := at1_2 t; show r.val = win1_2.index t (0 : Fin 2) * 1376 + 1 * i.val; omega)
    (by have := at1_2 t; show q.val = win1_2.index t (1 : Fin 2) * 128 + 1 * j.val; omega)

omit t r q i j in
theorem arr1_2 : (dat1 V c).arrAt 2 cfg1.N = of (mul (xOf V c) (sOf V c)) :=
  whole (a := 6) (b := 1) (dat1 V c) rfl rfl N_1 2 _ flush1_2 (fun r q => (ix2 r q : S8256x128.Idx)) (eq_ix2 (m := 8256) (n := 128))
    (fun _ i j => (ix2 i j : S1376x128.Idx)) (fun _ => eq_ix2 (m := 1376) (n := 128)) emb1_2
    fun t r q i j hr hq => (flushed1_2 V c t r q i j hr hq).trans (congrArg (of (mul (xOf V c) (sOf V c))) (emb1_2 t r q i j hr hq))

end Second

/-! ## The gradient of the small matrix -/

section Third

theorem at2_0 : ∀ t : Fin grid2.N, win2_0.index t (0 : Fin 2) = 0 ∧ win2_0.index t (1 : Fin 2) = t.val / 1 := by decide +kernel
theorem at2_1 : ∀ t : Fin grid2.N, win2_1.index t (0 : Fin 2) = 0 ∧ win2_1.index t (1 : Fin 2) = t.val % 1 := by decide +kernel
theorem at2_2 : ∀ t : Fin grid2.N, win2_2.index t (0 : Fin 2) = t.val / 1 ∧ win2_2.index t (1 : Fin 2) = t.val % 1 := by decide +kernel

variable (t : Fin cfg2.N) (r : Fin 2048) (q : Fin 128) (i : Fin 512) (j : Fin 128)

theorem block2_0 (hr : r.val = t.val / 1 * 512 + i.val) (k : Fin 8256) : iblk2 V c 0 t (ix2 k i : S8256x512.Idx) = xOf V c k r :=
  congrArg (V c main_arg0) (idx2 _ _
    (by have := at2_0 t; show win2_0.index t (0 : Fin 2) * 8256 + 1 * k.val = k.val; omega)
    (by have := at2_0 t; show win2_0.index t (1 : Fin 2) * 512 + 1 * i.val = r.val; omega))

theorem block2_1 (hq : q.val = t.val % 1 * 128 + j.val) (k : Fin 8256) : iblk2 V c 1 t (ix2 k j : S8256x128.Idx) = dsOf V c k q :=
  congrArg (V c main_arg4) (idx2 _ _
    (by have := at2_1 t; show win2_1.index t (0 : Fin 2) * 8256 + 1 * k.val = k.val; omega)
    (by have := at2_1 t; show win2_1.index t (1 : Fin 2) * 128 + 1 * j.val = q.val; omega))

theorem flushed2_2 (hr : r.val = t.val / 1 * 512 + i.val) (hq : q.val = t.val % 1 * 128 + j.val) :
    (dat2 V c).flushed 2 t (ix2 i j : S512x128.Idx) = tmul (xOf V c) (dsOf V c) r q := by
  show (dat2 V c).after 2 t (ix2 i j) = _
  rw [after2_2]
  unfold out2_2
  rw [View.canon_unit_zero zero2, View.ld_unit_zero zero2, View.ld_unit_zero zero2]
  pointwise [k2_pay1]
  simp only [block2_0 V c t r i hr, block2_1 V c t q j hq]
  rfl

theorem emb2_2 (hr : r.val = t.val / 1 * 512 + i.val) (hq : q.val = t.val % 1 * 128 + j.val) :
    (ix2 r q : S2048x128.Idx) = ((cfg2.win 2).blk t).view.emb (ix2 i j : S512x128.Idx) :=
  idx2 (m := 2048) (n := 128) _ _
    (by have := at2_2 t; show r.val = win2_2.index t (0 : Fin 2) * 512 + 1 * i.val; omega)
    (by have := at2_2 t; show q.val = win2_2.index t (1 : Fin 2) * 128 + 1 * j.val; omega)

omit t r q i j in
theorem arr2_2 : (dat2 V c).arrAt 2 cfg2.N = of (tmul (xOf V c) (dsOf V c)) :=
  whole (a := 4) (b := 1) (dat2 V c) rfl rfl N_2 2 _ flush2_2 (fun r q => (ix2 r q : S2048x128.Idx)) (eq_ix2 (m := 2048) (n := 128))
    (fun _ i j => (ix2 i j : S512x128.Idx)) (fun _ => eq_ix2 (m := 512) (n := 128)) emb2_2
    fun t r q i j hr hq => (flushed2_2 V c t r q i j hr hq).trans (congrArg (of (tmul (xOf V c) (dsOf V c))) (emb2_2 t r q i j hr hq))

end Third

/-! ## The gradient of the large matrix, its columns before 3072 -/

section Fourth

theorem at3_0 : ∀ t : Fin grid3.N, win3_0.index t (0 : Fin 2) = 0 ∧ win3_0.index t (1 : Fin 2) = t.val / 6 := by decide +kernel
theorem at3_1 : ∀ t : Fin grid3.N, win3_1.index t (0 : Fin 2) = 0 ∧ win3_1.index t (1 : Fin 2) = t.val % 6 := by decide +kernel
theorem at3_2 : ∀ t : Fin grid3.N, win3_2.index t (0 : Fin 2) = t.val / 6 ∧ win3_2.index t (1 : Fin 2) = t.val % 6 := by decide +kernel

variable (t : Fin cfg3.N) (r : Fin 2048) (q : Fin 3072) (i : Fin 512) (j : Fin 512)

theorem block3_0 (hr : r.val = t.val / 6 * 512 + i.val) (k : Fin 8256) : iblk3 V c 0 t (ix2 k i : S8256x512.Idx) = xOf V c k r :=
  congrArg (V c main_arg0) (idx2 _ _
    (by have := at3_0 t; show win3_0.index t (0 : Fin 2) * 8256 + 1 * k.val = k.val; omega)
    (by have := at3_0 t; show win3_0.index t (1 : Fin 2) * 512 + 1 * i.val = r.val; omega))

theorem block3_1 (hq : q.val = t.val % 6 * 512 + j.val) (k : Fin 8256) :
    iblk3 V c 1 t (ix2 k j : S8256x512.Idx) = dwOf V c k ⟨q.val, by omega⟩ :=
  congrArg (V c main_arg3) (idx2 _ _
    (by have := at3_1 t; show win3_1.index t (0 : Fin 2) * 8256 + 1 * k.val = k.val; omega)
    (by have := at3_1 t; show win3_1.index t (1 : Fin 2) * 512 + 1 * j.val = q.val; omega))

theorem flushed3_2 (hr : r.val = t.val / 6 * 512 + i.val) (hq : q.val = t.val % 6 * 512 + j.val) :
    (dat3 V c).flushed 2 t (ix2 i j : S512x512.Idx) = before (tmul (xOf V c) (dwOf V c)) r q := by
  show (dat3 V c).after 2 t (ix2 i j) = _
  rw [after3_2]
  unfold out3_2
  rw [View.canon_unit_zero zero2, View.ld_unit_zero zero2, View.ld_unit_zero zero2]
  pointwise [k3_pay1]
  simp only [block3_0 V c t r i hr, block3_1 V c t q j hq]
  rfl

theorem emb3_2 (hr : r.val = t.val / 6 * 512 + i.val) (hq : q.val = t.val % 6 * 512 + j.val) :
    (ix2 r q : S2048x3072.Idx) = ((cfg3.win 2).blk t).view.emb (ix2 i j : S512x512.Idx) :=
  idx2 (m := 2048) (n := 3072) _ _
    (by have := at3_2 t; show r.val = win3_2.index t (0 : Fin 2) * 512 + 1 * i.val; omega)
    (by have := at3_2 t; show q.val = win3_2.index t (1 : Fin 2) * 512 + 1 * j.val; omega)

omit t r q i j in
theorem arr3_2 : (dat3 V c).arrAt 2 cfg3.N = of (before (tmul (xOf V c) (dwOf V c))) :=
  whole (a := 4) (b := 6) (dat3 V c) rfl rfl N_3 2 _ flush3_2 (fun r q => (ix2 r q : S2048x3072.Idx)) (eq_ix2 (m := 2048) (n := 3072))
    (fun _ i j => (ix2 i j : S512x512.Idx)) (fun _ => eq_ix2 (m := 512) (n := 512)) emb3_2
    fun t r q i j hr hq => (flushed3_2 V c t r q i j hr hq).trans
      (congrArg (of (before (tmul (xOf V c) (dwOf V c)))) (emb3_2 t r q i j hr hq))

end Fourth

/-! ## Its columns from 3072 on -/

section Fifth

theorem at4_0 : ∀ t : Fin grid4.N, win4_0.index t (0 : Fin 2) = 0 ∧ win4_0.index t (1 : Fin 2) = t.val / 8 := by decide +kernel
theorem at4_1 : ∀ t : Fin grid4.N, win4_1.index t (0 : Fin 2) = 0 ∧ win4_1.index t (1 : Fin 2) = t.val % 8 + 6 := by decide +kernel
theorem at4_2 : ∀ t : Fin grid4.N, win4_2.index t (0 : Fin 2) = t.val / 8 ∧ win4_2.index t (1 : Fin 2) = t.val % 8 := by decide +kernel

variable (t : Fin cfg4.N) (r : Fin 2048) (q : Fin 4096) (i : Fin 512) (j : Fin 512)

theorem block4_0 (hr : r.val = t.val / 8 * 512 + i.val) (k : Fin 8256) : iblk4 V c 0 t (ix2 k i : S8256x512.Idx) = xOf V c k r :=
  congrArg (V c main_arg0) (idx2 _ _
    (by have := at4_0 t; show win4_0.index t (0 : Fin 2) * 8256 + 1 * k.val = k.val; omega)
    (by have := at4_0 t; show win4_0.index t (1 : Fin 2) * 512 + 1 * i.val = r.val; omega))

theorem block4_1 (hq : q.val = t.val % 8 * 512 + j.val) (k : Fin 8256) :
    iblk4 V c 1 t (ix2 k j : S8256x512.Idx) = dwOf V c k ⟨3072 + q.val, by omega⟩ :=
  congrArg (V c main_arg3) (idx2 _ _
    (by have := at4_1 t; show win4_1.index t (0 : Fin 2) * 8256 + 1 * k.val = k.val; omega)
    (by have := at4_1 t; show win4_1.index t (1 : Fin 2) * 512 + 1 * j.val = 3072 + q.val; omega))

theorem flushed4_2 (hr : r.val = t.val / 8 * 512 + i.val) (hq : q.val = t.val % 8 * 512 + j.val) :
    (dat4 V c).flushed 2 t (ix2 i j : S512x512.Idx) = after (tmul (xOf V c) (dwOf V c)) r q := by
  show (dat4 V c).after 2 t (ix2 i j) = _
  rw [after4_2]
  unfold out4_2
  rw [View.canon_unit_zero zero2, View.ld_unit_zero zero2, View.ld_unit_zero zero2]
  pointwise [k4_pay1]
  simp only [block4_0 V c t r i hr, block4_1 V c t q j hq]
  rfl

theorem emb4_2 (hr : r.val = t.val / 8 * 512 + i.val) (hq : q.val = t.val % 8 * 512 + j.val) :
    (ix2 r q : S2048x4096.Idx) = ((cfg4.win 2).blk t).view.emb (ix2 i j : S512x512.Idx) :=
  idx2 (m := 2048) (n := 4096) _ _
    (by have := at4_2 t; show r.val = win4_2.index t (0 : Fin 2) * 512 + 1 * i.val; omega)
    (by have := at4_2 t; show q.val = win4_2.index t (1 : Fin 2) * 512 + 1 * j.val; omega)

omit t r q i j in
theorem arr4_2 : (dat4 V c).arrAt 2 cfg4.N = of (after (tmul (xOf V c) (dwOf V c))) :=
  whole (a := 4) (b := 8) (dat4 V c) rfl rfl N_4 2 _ flush4_2 (fun r q => (ix2 r q : S2048x4096.Idx)) (eq_ix2 (m := 2048) (n := 4096))
    (fun _ i j => (ix2 i j : S512x512.Idx)) (fun _ => eq_ix2 (m := 512) (n := 512)) emb4_2
    fun t r q i j hr hq => (flushed4_2 V c t r q i j hr hq).trans
      (congrArg (of (after (tmul (xOf V c) (dwOf V c)))) (emb4_2 t r q i j hr hq))

end Fifth

/-! ## The gradient of the input -/

section Sixth

theorem at5_0 : ∀ t : Fin grid5.N, win5_0.index t (0 : Fin 2) = t.val / 4 ∧ win5_0.index t (1 : Fin 2) = 0 := by decide +kernel
theorem at5_1 : ∀ t : Fin grid5.N, win5_1.index t (0 : Fin 2) = t.val % 4 ∧ win5_1.index t (1 : Fin 2) = 0 := by decide +kernel
theorem at5_2 : ∀ t : Fin grid5.N, win5_2.index t (0 : Fin 2) = t.val / 4 ∧ win5_2.index t (1 : Fin 2) = 0 := by decide +kernel
theorem at5_3 : ∀ t : Fin grid5.N, win5_3.index t (0 : Fin 2) = t.val % 4 ∧ win5_3.index t (1 : Fin 2) = 0 := by decide +kernel
theorem at5_4 : ∀ t : Fin grid5.N, win5_4.index t (0 : Fin 2) = t.val / 4 ∧ win5_4.index t (1 : Fin 2) = t.val % 4 := by decide +kernel

variable (t : Fin cfg5.N) (r : Fin 8256) (q : Fin 2048) (i : Fin 688) (j : Fin 512)

theorem block5_0 (hr : r.val = t.val / 4 * 688 + i.val) (k : Fin 7168) : iblk5 V c 0 t (ix2 i k : S688x7168.Idx) = dwOf V c r k :=
  congrArg (V c main_arg3) (idx2 _ _
    (by have := at5_0 t; show win5_0.index t (0 : Fin 2) * 688 + 1 * i.val = r.val; omega)
    (by have := at5_0 t; show win5_0.index t (1 : Fin 2) * 7168 + 1 * k.val = k.val; omega))

theorem block5_1 (hq : q.val = t.val % 4 * 512 + j.val) (k : Fin 7168) : iblk5 V c 1 t (ix2 j k : S512x7168.Idx) = wOf V c q k :=
  congrArg (V c main_arg1) (idx2 _ _
    (by have := at5_1 t; show win5_1.index t (0 : Fin 2) * 512 + 1 * j.val = q.val; omega)
    (by have := at5_1 t; show win5_1.index t (1 : Fin 2) * 7168 + 1 * k.val = k.val; omega))

theorem block5_2 (hr : r.val = t.val / 4 * 688 + i.val) (k : Fin 128) : iblk5 V c 2 t (ix2 i k : S688x128.Idx) = dsOf V c r k :=
  congrArg (V c main_arg4) (idx2 _ _
    (by have := at5_2 t; show win5_2.index t (0 : Fin 2) * 688 + 1 * i.val = r.val; omega)
    (by have := at5_2 t; show win5_2.index t (1 : Fin 2) * 128 + 1 * k.val = k.val; omega))

theorem block5_3 (hq : q.val = t.val % 4 * 512 + j.val) (k : Fin 128) : iblk5 V c 3 t (ix2 j k : S512x128.Idx) = sOf V c q k :=
  congrArg (V c main_arg2) (idx2 _ _
    (by have := at5_3 t; show win5_3.index t (0 : Fin 2) * 512 + 1 * j.val = q.val; omega)
    (by have := at5_3 t; show win5_3.index t (1 : Fin 2) * 128 + 1 * k.val = k.val; omega))

abbrev dxOf : Mat 8256 2048 := fun r q => mulT (dwOf V c) (wOf V c) r q + mulT (dsOf V c) (sOf V c) r q

theorem flushed5_4 (hr : r.val = t.val / 4 * 688 + i.val) (hq : q.val = t.val % 4 * 512 + j.val) :
    (dat5 V c).flushed 4 t (ix2 i j : S688x512.Idx) = dxOf V c r q := by
  show (dat5 V c).after 4 t (ix2 i j) = _
  rw [after5_4]
  unfold out5_4
  rw [View.canon_unit_zero zero2, View.ld_unit_zero zero2, View.ld_unit_zero zero2, View.ld_unit_zero zero2, View.ld_unit_zero zero2]
  pointwise [k5_pay1]
  simp only [block5_0 V c t r i hr, block5_1 V c t q j hq, block5_2 V c t r i hr, block5_3 V c t q j hq]
  rfl

theorem emb5_4 (hr : r.val = t.val / 4 * 688 + i.val) (hq : q.val = t.val % 4 * 512 + j.val) :
    (ix2 r q : S8256x2048.Idx) = ((cfg5.win 4).blk t).view.emb (ix2 i j : S688x512.Idx) :=
  idx2 (m := 8256) (n := 2048) _ _
    (by have := at5_4 t; show r.val = win5_4.index t (0 : Fin 2) * 688 + 1 * i.val; omega)
    (by have := at5_4 t; show q.val = win5_4.index t (1 : Fin 2) * 512 + 1 * j.val; omega)

omit t r q i j in
theorem arr5_4 : (dat5 V c).arrAt 4 cfg5.N = of (dxOf V c) :=
  whole (a := 12) (b := 4) (dat5 V c) rfl rfl N_5 4 _ flush5_4 (fun r q => (ix2 r q : S8256x2048.Idx)) (eq_ix2 (m := 8256) (n := 2048))
    (fun _ i j => (ix2 i j : S688x512.Idx)) (fun _ => eq_ix2 (m := 688) (n := 512)) emb5_4
    fun t r q i j hr hq => (flushed5_4 V c t r q i j hr hq).trans (congrArg (of (dxOf V c)) (emb5_4 t r q i j hr hq))

end Sixth

end Cert.Kernel5Ideal.In

end
-- ==== Proof.InValue.lean ====
/- The input projection and its gradients: the run of the kernel's six calls with what its results hold, the reference's results, and
   that they agree. -/
module

public import proofs.«01_k».proof.Defs
public import proofs.«01_k».proof.Proof.InBlocks
public import proofs.«01_k».proof.Proof.Gen.Reference5Ideal.Run
public import Idealize.ShloMosaic.Adequacy
public import Idealize.ShloMosaic.Init

@[expose] public section

set_option maxRecDepth 16384

noncomputable section

namespace Cert.Kernel5Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with each result at what the last boundary holds and the arguments as they were: the launch of the generated frame
    once more, its last line keeping the results. -/
theorem run : θ_run defs (onTc (τ := τ) (main (F := F))) ⟨m, fun _ => 0, ρ⟩ (fun r => (∀ c : Dev nD,
      r.2.mem ((c.tc : Thread nD τ).loc main_v0) = W6 m ρ c (Proc.devRef .tc main_v0)
      ∧ r.2.mem ((c.tc : Thread nD τ).loc main_v1) = W6 m ρ c (Proc.devRef .tc main_v1)
      ∧ r.2.mem ((c.tc : Thread nD τ).loc main_v2) = W6 m ρ c (Proc.devRef .tc main_v2)
      ∧ r.2.mem ((c.tc : Thread nD τ).loc main_v3) = W6 m ρ c (Proc.devRef .tc main_v3)
      ∧ r.2.mem ((c.tc : Thread nD τ).loc main_v4) = W6 m ρ c (Proc.devRef .tc main_v4)
      ∧ r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨h c _ (mem_uc main_v0 (by decide)), h c _ (mem_uc main_v1 (by decide)), h c _ (mem_uc main_v2 (by decide)),
       h c _ (mem_uc main_v3 (by decide)), h c _ (mem_uc main_v4 (by decide)), h c _ (mem_uc main_v5 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Launch

section Values

open Cert.Ffn Cert.In

variable (m : (ℓ : Loc nD τ sig) → Buf (Elt Ideal) ℓ) (ρ : Dev nD → PrngReg) (c : Dev nD)

/-- The arguments as matrices. -/
abbrev xM : Mat 8256 2048 := mat (m := 8256) (n := 2048) (m ((c : Thread nD τ).loc main_arg0))
abbrev wM : Mat 2048 7168 := mat (m := 2048) (n := 7168) (m ((c : Thread nD τ).loc main_arg1))
abbrev sM : Mat 2048 128 := mat (m := 2048) (n := 128) (m ((c : Thread nD τ).loc main_arg2))
abbrev dwM : Mat 8256 7168 := mat (m := 8256) (n := 7168) (m ((c : Thread nD τ).loc main_arg3))
abbrev dsM : Mat 8256 128 := mat (m := 8256) (n := 128) (m ((c : Thread nD τ).loc main_arg4))

theorem result_large : W6 m ρ c (Proc.devRef .tc main_v0) = of (mul (xM m c) (wM m c)) :=
  (W6_of m ρ c main_v0 (by decide +kernel)).trans ((W5_of m ρ c main_v0 (by decide +kernel)).trans
    ((W4_of m ρ c main_v0 (by decide +kernel)).trans ((W3_of m ρ c main_v0 (by decide +kernel)).trans
      ((W2_of m ρ c main_v0 (by decide +kernel)).trans ((W1_arr m ρ c 2).trans (arr0_2 (V0 m ρ) c))))))

theorem result_small : W6 m ρ c (Proc.devRef .tc main_v1) = of (mul (xM m c) (sM m c)) := by
  refine (W6_of m ρ c main_v1 (by decide +kernel)).trans ((W5_of m ρ c main_v1 (by decide +kernel)).trans
    ((W4_of m ρ c main_v1 (by decide +kernel)).trans ((W3_of m ρ c main_v1 (by decide +kernel)).trans
      ((W2_arr m ρ c 2).trans ((arr1_2 (V1 m ρ) c).trans ?_)))))
  rw [show xOf (V1 m ρ) c = xM m c from congrArg (mat (m := 8256) (n := 2048)) (W1_args m ρ c main_arg0 (by decide)),
    show sOf (V1 m ρ) c = sM m c from congrArg (mat (m := 2048) (n := 128)) (W1_args m ρ c main_arg2 (by decide))]

theorem result_gsmall : W6 m ρ c (Proc.devRef .tc main_v2) = of (tmul (xM m c) (dsM m c)) := by
  refine (W6_of m ρ c main_v2 (by decide +kernel)).trans ((W5_of m ρ c main_v2 (by decide +kernel)).trans
    ((W4_of m ρ c main_v2 (by decide +kernel)).trans ((W3_arr m ρ c 2).trans ((arr2_2 (V2 m ρ) c).trans ?_))))
  rw [show xOf (V2 m ρ) c = xM m c from congrArg (mat (m := 8256) (n := 2048)) (W2_args m ρ c main_arg0 (by decide)),
    show dsOf (V2 m ρ) c = dsM m c from congrArg (mat (m := 8256) (n := 128)) (W2_args m ρ c main_arg4 (by decide))]

theorem result_before : W6 m ρ c (Proc.devRef .tc main_v3) = of (before (tmul (xM m c) (dwM m c))) := by
  refine (W6_of m ρ c main_v3 (by decide +kernel)).trans ((W5_of m ρ c main_v3 (by decide +kernel)).trans
    ((W4_arr m ρ c 2).trans ((arr3_2 (V3 m ρ) c).trans ?_)))
  rw [show xOf (V3 m ρ) c = xM m c from congrArg (mat (m := 8256) (n := 2048)) (W3_args m ρ c main_arg0 (by decide)),
    show dwOf (V3 m ρ) c = dwM m c from congrArg (mat (m := 8256) (n := 7168)) (W3_args m ρ c main_arg3 (by decide))]

theorem result_after : W6 m ρ c (Proc.devRef .tc main_v4) = of (after (tmul (xM m c) (dwM m c))) := by
  refine (W6_of m ρ c main_v4 (by decide +kernel)).trans ((W5_arr m ρ c 2).trans ((arr4_2 (V4 m ρ) c).trans ?_))
  rw [show xOf (V4 m ρ) c = xM m c from congrArg (mat (m := 8256) (n := 2048)) (W4_args m ρ c main_arg0 (by decide)),
    show dwOf (V4 m ρ) c = dwM m c from congrArg (mat (m := 8256) (n := 7168)) (W4_args m ρ c main_arg3 (by decide))]

/-- The gradient of the input. -/
abbrev dxM : Mat 8256 2048 := fun r q => mulT (dwM m c) (wM m c) r q + mulT (dsM m c) (sM m c) r q

theorem result_dx : W6 m ρ c (Proc.devRef .tc main_v5) = of (dxM m c) := by
  refine (W6_arr m ρ c 4).trans ((arr5_4 (V5 m ρ) c).trans ?_)
  unfold dxOf
  rw [show dwOf (V5 m ρ) c = dwM m c from congrArg (mat (m := 8256) (n := 7168)) (W5_args m ρ c main_arg3 (by decide)),
    show wOf (V5 m ρ) c = wM m c from congrArg (mat (m := 2048) (n := 7168)) (W5_args m ρ c main_arg1 (by decide)),
    show dsOf (V5 m ρ) c = dsM m c from congrArg (mat (m := 8256) (n := 128)) (W5_args m ρ c main_arg4 (by decide)),
    show sOf (V5 m ρ) c = sM m c from congrArg (mat (m := 2048) (n := 128)) (W5_args m ρ c main_arg2 (by decide))]

end Values

end Cert.Kernel5Ideal.In

namespace Cert.Reference5Ideal.In

open Idealize.ShloMosaic Idealize.ShloMosaic.TcCoe Idealize.ShloMosaic.Tactic Cert.Reference5Ideal Cert.Reference5Ideal.Gen Cert.Ffn Cert.In

variable (x : FVec Ideal S8256x2048 .bf16) (w : FVec Ideal S2048x7168 .bf16) (s : FVec Ideal S2048x128 .bf16) (dw : FVec Ideal S8256x7168 .bf16)
  (ds : FVec Ideal S8256x128 .bf16)

theorem large_eq : (Host.dotGeneral dot_S8256x2048_S2048x7168_S8256x7168_1_0_0_1_n_n none (extf .f32 x bitsLt_bf16_f32) (extf .f32 w bitsLt_bf16_f32)
    : FVec Ideal S8256x7168 .f32) = of (mul (mat (m := 8256) (n := 2048) x) (mat (m := 2048) (n := 7168) w)) := by
  funext z
  obtain ⟨r, q, rfl⟩ := eq_ix2 (m := 8256) (n := 7168) z
  pointwise
  rfl

theorem small_eq : (Host.dotGeneral dot_S8256x2048_S2048x128_S8256x128_1_0_0_1_n_n none (extf .f32 x bitsLt_bf16_f32) (extf .f32 s bitsLt_bf16_f32)
    : FVec Ideal S8256x128 .f32) = of (mul (mat (m := 8256) (n := 2048) x) (mat (m := 2048) (n := 128) s)) := by
  funext z
  obtain ⟨r, q, rfl⟩ := eq_ix2 (m := 8256) (n := 128) z
  pointwise
  rfl

theorem gsmall_eq : (truncf .bf16 (transpose S2048x128 [1, 0] (Host.dotGeneral dot_S8256x128_S8256x2048_S128x2048_0_0_1_1_n_n none
    (extf .f32 ds bitsLt_bf16_f32) (extf .f32 x bitsLt_bf16_f32)) transposes_S128x2048_S2048x128_1_0) bitsLt_bf16_f32
    : FVec Ideal S2048x128 .bf16) = of (tmul (mat (m := 8256) (n := 2048) x) (mat (m := 8256) (n := 128) ds)) := by
  funext z
  obtain ⟨r, q, rfl⟩ := eq_ix2 (m := 2048) (n := 128) z
  pointwise
  exact Finset.sum_congr rfl fun l _ => mul_comm _ _

/-- The gradient of the large matrix. -/
def glarge : FVec Ideal S2048x7168 .bf16 :=
  truncf .bf16 (transpose S2048x7168 [1, 0] (Host.dotGeneral dot_S8256x7168_S8256x2048_S7168x2048_0_0_1_1_n_n none
    (extf .f32 dw bitsLt_bf16_f32) (extf .f32 x bitsLt_bf16_f32)) transposes_S7168x2048_S2048x7168_1_0) bitsLt_bf16_f32

theorem before_eq : (extractStridedSlice S2048x3072 ![0, 0] (glarge x dw) slices_S2048x7168_S2048x3072_0_0 : FVec Ideal S2048x3072 .bf16)
    = of (before (tmul (mat (m := 8256) (n := 2048) x) (mat (m := 8256) (n := 7168) dw))) := by
  funext z
  obtain ⟨r, q, rfl⟩ := eq_ix2 (m := 2048) (n := 3072) z
  pointwise [glarge]
  exact Finset.sum_congr rfl fun l _ => mul_comm _ _

theorem after_eq : (extractStridedSlice S2048x4096 ![0, 3072] (glarge x dw) slices_S2048x7168_S2048x4096_0_3072 : FVec Ideal S2048x4096 .bf16)
    = of (after (tmul (mat (m := 8256) (n := 2048) x) (mat (m := 8256) (n := 7168) dw))) := by
  funext z
  obtain ⟨r, q, rfl⟩ := eq_ix2 (m := 2048) (n := 4096) z
  pointwise [glarge]
  exact Finset.sum_congr rfl fun l _ => mul_comm _ _

theorem dx_eq : (addf (Host.dotGeneral dot_S8256x128_S2048x128_S8256x2048_1_1_0_0_n_n none (extf .f32 ds bitsLt_bf16_f32) (extf .f32 s bitsLt_bf16_f32))
      (Host.dotGeneral dot_S8256x7168_S2048x7168_S8256x2048_1_1_0_0_n_n none (extf .f32 dw bitsLt_bf16_f32) (extf .f32 w bitsLt_bf16_f32))
    : FVec Ideal S8256x2048 .f32) = of fun r q => mulT (mat (m := 8256) (n := 7168) dw) (mat (m := 2048) (n := 7168) w) r q
      + mulT (mat (m := 8256) (n := 128) ds) (mat (m := 2048) (n := 128) s) r q := by
  funext z
  obtain ⟨r, q, rfl⟩ := eq_ix2 (m := 8256) (n := 2048) z
  pointwise
  exact add_comm _ _

end Cert.Reference5Ideal.In

namespace Cert.In

open Idealize.ShloMosaic Idealize.ShloMosaic.TcCoe Idealize.ShloMosaic.Tactic Idealize.SL.Sem Cert.Ffn Cert.Kernel5Ideal.In Cert.Reference5Ideal.In

theorem frame_ri : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

/-- The six results agree. -/
theorem algebraic : Cert.algebraic_Kernel5Ideal_Reference5Ideal := by
  intro m ρ m' ρ' _ hag
  refine ⟨fun c => of (mul (xM m c) (wM m c)), fun c => of (mul (xM m c) (sM m c)), fun c => of (tmul (xM m c) (dsM m c)),
    fun c => of (before (tmul (xM m c) (dwM m c))), fun c => of (after (tmul (xM m c) (dwM m c))), fun c => of (dxM m c), ?_, ?_⟩
  · refine (θ_run Cert.Kernel5Ideal.defs _ _).mono (fun r h c => ?_) (Cert.Kernel5Ideal.In.run m ρ)
    obtain ⟨h0, h1, h2, h3, h4, h5, hk⟩ := h c
    exact ⟨h0.trans (result_large m ρ c), h1.trans (result_small m ρ c), h2.trans (result_gsmall m ρ c), h3.trans (result_before m ρ c),
      h4.trans (result_after m ρ c), h5.trans (result_dx m ρ c), hk⟩
  · refine (θ_run Cert.Reference5Ideal.defs _ _).mono (fun r h c => ?_) (Cert.Reference5Ideal.Value.run (F := Ideal) m' ρ')
    obtain ⟨h0, h1, h2, h3, h4, h5, hk⟩ := h c
    obtain ⟨a0, a1, a2, a3, a4⟩ := hag c
    refine ⟨h0.trans ((large_eq _ _).trans ?_), h1.trans ((small_eq _ _).trans ?_), h2.trans ((gsmall_eq _ _).trans ?_),
      h3.trans ((before_eq _ _).trans ?_), h4.trans ((after_eq _ _).trans ?_), h5.trans ((dx_eq _ _ _ _).trans ?_), hk⟩
    · rw [a0, a1]
    · rw [a0, a2]
    · rw [a0, a4]
    · rw [a0, a3]
    · rw [a0, a3]
    · rw [a1, a2, a3, a4]

end Cert.In

end
-- ==== Proof.UpdateValue.lean ====
/- The optimiser's calls on the large weights: from a gradient, a weight and its two moments, each of the four calls writes the
   gradient, the step and the new moments, block by block and entry by entry. The last call reads its gradient as eight slabs of 256
   columns. No call reads another's output. -/
module

public import proofs.«01_k».proof.Defs
public import proofs.«01_k».proof.Proof.Blocks
public import proofs.«01_k».proof.Proof.GateValue
public import proofs.«01_k».proof.Proof.Gen.Kernel6Ideal.Frame
public import proofs.«01_k».proof.Proof.Gen.Reference6Ideal.Run
public import Idealize.ShloMosaic.Adequacy
public import Idealize.ShloMosaic.Init

@[expose] public section

set_option maxRecDepth 16384

noncomputable section

/-! ## The rule -/

namespace Cert.Update

open Idealize.ShloMosaic Idealize.ShloMosaic.TcCoe Idealize.ShloMosaic.Tactic Cert.Ffn

/-- The number the programs write with these bits. -/
abbrev num (b : BitVec 32) : EReal := Ideal.ofBits .f32 b

section Rule

variable {s s' : Shape} {g w m v : s.Idx → EReal} {g' w' m' v' : s'.Idx → EReal} {x : s.Idx} {x' : s'.Idx}

/-- The new first moment, from the gradient and the old one. -/
def first (g m : s.Idx → EReal) : s.Idx → EReal := fun x => num 0x3F666666#32 * m x + num 0x3DCCCCCD#32 * g x

/-- The new second moment, from the gradient and the old one. -/
def second (g v : s.Idx → EReal) : s.Idx → EReal := fun x => num 0x3F7FBE77#32 * v x + num 0x3A83126F#32 * (g x * g x)

/-- The step: the first moment over the root of the second, each over its correction, and the decay of the weight, times the negated
    rate. -/
def step (g w m v : s.Idx → EReal) : s.Idx → EReal := fun x =>
  num 0xBA83126F#32 * (Ideal.div (Ideal.div (first g m x) (num 0x3F26BD02#32))
    (Ideal.sqrt (Ideal.div (second g v x) (num 0x3C231ACC#32)) + num 0x322BCC77#32) + num 0x3C23D70A#32 * w x)

theorem first_congr (hg : g x = g' x') (hm : m x = m' x') : first g m x = first g' m' x' := by
  unfold first
  rw [hg, hm]

theorem second_congr (hg : g x = g' x') (hv : v x = v' x') : second g v x = second g' v' x' := by
  unfold second
  rw [hg, hv]

theorem step_congr (hg : g x = g' x') (hw : w x = w' x') (hm : m x = m' x') (hv : v x = v' x') : step g w m v x = step g' w' m' v' x' := by
  unfold step
  rw [first_congr hg hm, second_congr hg hv, hw]

theorem step_args {g' w' m' v' : s.Idx → EReal} (hg : g = g') (hw : w = w') (hm : m = m') (hv : v = v') : step g w m v = step g' w' m' v' := by
  rw [hg, hw, hm, hv]

end Rule

/-- Eight slabs of 256 columns side by side. -/
def joined (g : (⟨3, ![8, 1800, 256]⟩ : Shape).Idx → EReal) : (⟨2, ![1800, 2048]⟩ : Shape).Idx → EReal :=
  of (m := 1800) (n := 2048) fun r q => g (ix3 (⟨q.val / 256, by omega⟩ : Fin 8) r (⟨q.val % 256, by omega⟩ : Fin 256))

/-- Two indices of an array of three axes with the same three numbers are one. -/
theorem idx3 {a b d : ℕ} (x y : (⟨3, ![a, b, d]⟩ : Shape).Idx) (h0 : (x 0).val = (y 0).val) (h1 : (x 1).val = (y 1).val)
    (h2 : (x 2).val = (y 2).val) : x = y := by
  funext k
  match k with
  | ⟨0, _⟩ => exact Fin.ext h0
  | ⟨1, _⟩ => exact Fin.ext h1
  | ⟨2, _⟩ => exact Fin.ext h2

end Cert.Update

/-! ## The calls -/

namespace Cert.Kernel6Ideal.Update

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen Cert.Ffn Cert.Blocks Cert.Update
open Cert.Kernel3Ideal.Gate (zero3)

section Calls

variable (V : (c : Dev nD) → (b : Ref sig .tc) → Buf (Elt Ideal) ((c : Thread nD τ).loc b)) (c : Dev nD)

/-! ### The gate's weight -/

theorem at0 : ∀ t : Fin grid0.N, win0_4.index t (0 : Fin 2) = t.val / 1 ∧ win0_4.index t (1 : Fin 2) = t.val % 1 := by decide +kernel

/-- The blocks of an output cover it; the four outputs and the inputs are cut alike. -/
theorem cover0 (x : S2048x1408.Idx) : ∃ t : Fin cfg0.N, x ∈ ((cfg0.win 4).blk t).view.set := by
  obtain ⟨r, q, rfl⟩ := eq_ix2 (m := 2048) (n := 1408) x
  obtain ⟨t, i, j, hr, hq⟩ := point (a := 8) (b := 1) (tm := 256) (tn := 1408) rfl rfl N_0 r q
  have := at0 t
  have h : (ix2 r q : S2048x1408.Idx) = ((cfg0.win 4).blk t).view.emb (ix2 i j : S256x1408.Idx) := idx2 (m := 2048) (n := 1408) _ _
    (by show r.val = win0_4.index t (0 : Fin 2) * 256 + 1 * i.val; omega)
    (by show q.val = win0_4.index t (1 : Fin 2) * 1408 + 1 * j.val; omega)
  exact ⟨t, by rw [h]; exact View.emb_mem_set _ _⟩

theorem arr0_4 : (dat0 V c).arrAt 4 cfg0.N = V c main_arg0 :=
  (dat0 V c).arrAt_eq_of_cover 4 _ (fun t _ => by
    show (dat0 V c).after 4 t = _
    rw [after0_4]
    unfold out0_4
    rw [View.canon_unit_zero zero2, View.ld_unit_zero zero2]
    rfl) fun x => (cover0 x).imp fun t h => ⟨flush0_4 t, h⟩

theorem arr0_5 : (dat0 V c).arrAt 5 cfg0.N = step (s := S2048x1408) (V c main_arg0) (V c main_arg1) (V c main_arg2) (V c main_arg3) :=
  (dat0 V c).arrAt_eq_of_cover 5 _ (fun t _ => by
    show (dat0 V c).after 5 t = _
    rw [after0_5]
    unfold out0_5
    rw [View.canon_unit_zero zero2, View.ld_unit_zero zero2, View.ld_unit_zero zero2, View.ld_unit_zero zero2, View.ld_unit_zero zero2]
    rfl) fun x => (cover0 x).imp fun t h => ⟨flush0_5 t, h⟩

theorem arr0_6 : (dat0 V c).arrAt 6 cfg0.N = first (s := S2048x1408) (V c main_arg0) (V c main_arg2) :=
  (dat0 V c).arrAt_eq_of_cover 6 _ (fun t _ => by
    show (dat0 V c).after 6 t = _
    rw [after0_6]
    unfold out0_6
    rw [View.canon_unit_zero zero2, View.ld_unit_zero zero2, View.ld_unit_zero zero2]
    rfl) fun x => (cover0 x).imp fun t h => ⟨flush0_6 t, h⟩

theorem arr0_7 : (dat0 V c).arrAt 7 cfg0.N = second (s := S2048x1408) (V c main_arg0) (V c main_arg3) :=
  (dat0 V c).arrAt_eq_of_cover 7 _ (fun t _ => by
    show (dat0 V c).after 7 t = _
    rw [after0_7]
    unfold out0_7
    rw [View.canon_unit_zero zero2, View.ld_unit_zero zero2, View.ld_unit_zero zero2]
    rfl) fun x => (cover0 x).imp fun t h => ⟨flush0_7 t, h⟩

/-! ### The output projection's weight -/

theorem at1 : ∀ t : Fin grid1.N, win1_4.index t (0 : Fin 2) = t.val / 1 ∧ win1_4.index t (1 : Fin 2) = t.val % 1 := by decide +kernel

theorem cover1 (x : S512x2048.Idx) : ∃ t : Fin cfg1.N, x ∈ ((cfg1.win 4).blk t).view.set := by
  obtain ⟨r, q, rfl⟩ := eq_ix2 (m := 512) (n := 2048) x
  obtain ⟨t, i, j, hr, hq⟩ := point (a := 2) (b := 1) (tm := 256) (tn := 2048) rfl rfl N_1 r q
  have := at1 t
  have h : (ix2 r q : S512x2048.Idx) = ((cfg1.win 4).blk t).view.emb (ix2 i j : S256x2048.Idx) := idx2 (m := 512) (n := 2048) _ _
    (by show r.val = win1_4.index t (0 : Fin 2) * 256 + 1 * i.val; omega)
    (by show q.val = win1_4.index t (1 : Fin 2) * 2048 + 1 * j.val; omega)
  exact ⟨t, by rw [h]; exact View.emb_mem_set _ _⟩

theorem arr1_4 : (dat1 V c).arrAt 4 cfg1.N = V c main_arg4 :=
  (dat1 V c).arrAt_eq_of_cover 4 _ (fun t _ => by
    show (dat1 V c).after 4 t = _
    rw [after1_4]
    unfold out1_4
    rw [View.canon_unit_zero zero2, View.ld_unit_zero zero2]
    rfl) fun x => (cover1 x).imp fun t h => ⟨flush1_4 t, h⟩

theorem arr1_5 : (dat1 V c).arrAt 5 cfg1.N = step (s := S512x2048) (V c main_arg4) (V c main_arg5) (V c main_arg6) (V c main_arg7) :=
  (dat1 V c).arrAt_eq_of_cover 5 _ (fun t _ => by
    show (dat1 V c).after 5 t = _
    rw [after1_5]
    unfold out1_5
    rw [View.canon_unit_zero zero2, View.ld_unit_zero zero2, View.ld_unit_zero zero2, View.ld_unit_zero zero2, View.ld_unit_zero zero2]
    rfl) fun x => (cover1 x).imp fun t h => ⟨flush1_5 t, h⟩

theorem arr1_6 : (dat1 V c).arrAt 6 cfg1.N = first (s := S512x2048) (V c main_arg4) (V c main_arg6) :=
  (dat1 V c).arrAt_eq_of_cover 6 _ (fun t _ => by
    show (dat1 V c).after 6 t = _
    rw [after1_6]
    unfold out1_6
    rw [View.canon_unit_zero zero2, View.ld_unit_zero zero2, View.ld_unit_zero zero2]
    rfl) fun x => (cover1 x).imp fun t h => ⟨flush1_6 t, h⟩

theorem arr1_7 : (dat1 V c).arrAt 7 cfg1.N = second (s := S512x2048) (V c main_arg4) (V c main_arg7) :=
  (dat1 V c).arrAt_eq_of_cover 7 _ (fun t _ => by
    show (dat1 V c).after 7 t = _
    rw [after1_7]
    unfold out1_7
    rw [View.canon_unit_zero zero2, View.ld_unit_zero zero2, View.ld_unit_zero zero2]
    rfl) fun x => (cover1 x).imp fun t h => ⟨flush1_7 t, h⟩

/-! ### The last matrix of the feed-forward layer -/

theorem at2 : ∀ t : Fin grid2.N, win2_4.index t (0 : Fin 2) = t.val / 1 ∧ win2_4.index t (1 : Fin 2) = t.val % 1 := by decide +kernel

theorem cover2 (x : S1408x2048.Idx) : ∃ t : Fin cfg2.N, x ∈ ((cfg2.win 4).blk t).view.set := by
  obtain ⟨r, q, rfl⟩ := eq_ix2 (m := 1408) (n := 2048) x
  obtain ⟨t, i, j, hr, hq⟩ := point (a := 8) (b := 1) (tm := 176) (tn := 2048) rfl rfl N_2 r q
  have := at2 t
  have h : (ix2 r q : S1408x2048.Idx) = ((cfg2.win 4).blk t).view.emb (ix2 i j : S176x2048.Idx) := idx2 (m := 1408) (n := 2048) _ _
    (by show r.val = win2_4.index t (0 : Fin 2) * 176 + 1 * i.val; omega)
    (by show q.val = win2_4.index t (1 : Fin 2) * 2048 + 1 * j.val; omega)
  exact ⟨t, by rw [h]; exact View.emb_mem_set _ _⟩

theorem arr2_4 : (dat2 V c).arrAt 4 cfg2.N = V c main_arg8 :=
  (dat2 V c).arrAt_eq_of_cover 4 _ (fun t _ => by
    show (dat2 V c).after 4 t = _
    rw [after2_4]
    unfold out2_4
    rw [View.canon_unit_zero zero2, View.ld_unit_zero zero2]
    rfl) fun x => (cover2 x).imp fun t h => ⟨flush2_4 t, h⟩

theorem arr2_5 : (dat2 V c).arrAt 5 cfg2.N = step (s := S1408x2048) (V c main_arg8) (V c main_arg9) (V c main_arg10) (V c main_arg11) :=
  (dat2 V c).arrAt_eq_of_cover 5 _ (fun t _ => by
    show (dat2 V c).after 5 t = _
    rw [after2_5]
    unfold out2_5
    rw [View.canon_unit_zero zero2, View.ld_unit_zero zero2, View.ld_unit_zero zero2, View.ld_unit_zero zero2, View.ld_unit_zero zero2]
    rfl) fun x => (cover2 x).imp fun t h => ⟨flush2_5 t, h⟩

theorem arr2_6 : (dat2 V c).arrAt 6 cfg2.N = first (s := S1408x2048) (V c main_arg8) (V c main_arg10) :=
  (dat2 V c).arrAt_eq_of_cover 6 _ (fun t _ => by
    show (dat2 V c).after 6 t = _
    rw [after2_6]
    unfold out2_6
    rw [View.canon_unit_zero zero2, View.ld_unit_zero zero2, View.ld_unit_zero zero2]
    rfl) fun x => (cover2 x).imp fun t h => ⟨flush2_6 t, h⟩

theorem arr2_7 : (dat2 V c).arrAt 7 cfg2.N = second (s := S1408x2048) (V c main_arg8) (V c main_arg11) :=
  (dat2 V c).arrAt_eq_of_cover 7 _ (fun t _ => by
    show (dat2 V c).after 7 t = _
    rw [after2_7]
    unfold out2_7
    rw [View.canon_unit_zero zero2, View.ld_unit_zero zero2, View.ld_unit_zero zero2]
    rfl) fun x => (cover2 x).imp fun t h => ⟨flush2_7 t, h⟩

/-! ### The input projection's weight -/

theorem at3_0 : ∀ t : Fin grid3.N, win3_0.index t (0 : Fin 3) = t.val ∧ win3_0.index t (1 : Fin 3) = 0 ∧ win3_0.index t (2 : Fin 3) = 0 := by decide +kernel
theorem at3 : ∀ t : Fin grid3.N, win3_4.index t (0 : Fin 2) = t.val / 8 ∧ win3_4.index t (1 : Fin 2) = t.val % 8 := by decide +kernel

theorem cover3 (x : S1800x2048.Idx) : ∃ t : Fin cfg3.N, x ∈ ((cfg3.win 4).blk t).view.set := by
  obtain ⟨r, q, rfl⟩ := eq_ix2 (m := 1800) (n := 2048) x
  obtain ⟨t, i, j, hr, hq⟩ := point (a := 1) (b := 8) (tm := 1800) (tn := 256) rfl rfl N_3 r q
  have := at3 t
  have h : (ix2 r q : S1800x2048.Idx) = ((cfg3.win 4).blk t).view.emb (ix2 i j : S1800x256.Idx) := idx2 (m := 1800) (n := 2048) _ _
    (by show r.val = win3_4.index t (0 : Fin 2) * 1800 + 1 * i.val; omega)
    (by show q.val = win3_4.index t (1 : Fin 2) * 256 + 1 * j.val; omega)
  exact ⟨t, by rw [h]; exact View.emb_mem_set _ _⟩

/-- The gradient a point reads, one slab, is the block of the joined slabs that it writes. -/
theorem slab3 (t : Fin cfg3.N) (y : S1800x256.Idx) :
    k3_pay1 (F := Ideal) (iblk3 V c 0 t) y = joined (V c main_arg12) (((cfg3.win 4).blk t).view.emb y) := by
  obtain ⟨i, j, rfl⟩ := eq_ix2 (m := 1800) (n := 256) y
  have := at3_0 t
  have := at3 t
  have ht : t.val < 8 := lt_of_lt_of_eq t.2 N_3
  pointwise [k3_pay1]
  exact congrArg (V c main_arg12) (idx3 (a := 8) (b := 1800) (d := 256) _ _
    (by show win3_0.index t (0 : Fin 3) * 1 + 1 * 0 = (win3_4.index t (1 : Fin 2) * 256 + 1 * j.val) / 256; omega)
    (by show win3_0.index t (1 : Fin 3) * 1800 + 1 * i.val = win3_4.index t (0 : Fin 2) * 1800 + 1 * i.val; omega)
    (by show win3_0.index t (2 : Fin 3) * 256 + 1 * j.val = (win3_4.index t (1 : Fin 2) * 256 + 1 * j.val) % 256; omega))

theorem arr3_4 : (dat3 V c).arrAt 4 cfg3.N = joined (V c main_arg12) :=
  (dat3 V c).arrAt_eq_of_cover 4 _ (fun t _ => by
    show (dat3 V c).after 4 t = _
    rw [after3_4]
    unfold out3_4
    rw [View.canon_unit_zero zero2, View.ld_unit_zero zero3]
    exact funext (slab3 V c t)) fun x => (cover3 x).imp fun t h => ⟨flush3_4 t, h⟩

theorem arr3_5 : (dat3 V c).arrAt 5 cfg3.N = step (s := S1800x2048) (joined (V c main_arg12)) (V c main_arg13) (V c main_arg14) (V c main_arg15) :=
  (dat3 V c).arrAt_eq_of_cover 5 _ (fun t _ => by
    show (dat3 V c).after 5 t = _
    rw [after3_5]
    unfold out3_5
    rw [View.canon_unit_zero zero2, View.ld_unit_zero zero3, View.ld_unit_zero zero2, View.ld_unit_zero zero2, View.ld_unit_zero zero2]
    exact funext fun y => step_congr (s := S1800x256) (slab3 V c t y) rfl rfl rfl) fun x => (cover3 x).imp fun t h => ⟨flush3_5 t, h⟩

theorem arr3_6 : (dat3 V c).arrAt 6 cfg3.N = first (s := S1800x2048) (joined (V c main_arg12)) (V c main_arg14) :=
  (dat3 V c).arrAt_eq_of_cover 6 _ (fun t _ => by
    show (dat3 V c).after 6 t = _
    rw [after3_6]
    unfold out3_6
    rw [View.canon_unit_zero zero2, View.ld_unit_zero zero3, View.ld_unit_zero zero2]
    exact funext fun y => first_congr (s := S1800x256) (slab3 V c t y) rfl) fun x => (cover3 x).imp fun t h => ⟨flush3_6 t, h⟩

theorem arr3_7 : (dat3 V c).arrAt 7 cfg3.N = second (s := S1800x2048) (joined (V c main_arg12)) (V c main_arg15) :=
  (dat3 V c).arrAt_eq_of_cover 7 _ (fun t _ => by
    show (dat3 V c).after 7 t = _
    rw [after3_7]
    unfold out3_7
    rw [View.canon_unit_zero zero2, View.ld_unit_zero zero3, View.ld_unit_zero zero2]
    exact funext fun y => second_congr (s := S1800x256) (slab3 V c t y) rfl) fun x => (cover3 x).imp fun t h => ⟨flush3_7 t, h⟩

end Calls

/-! ### The run -/

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with each result at what the last boundary holds and the arguments as they were: the launch of the generated frame
    once more, its last line keeping the results. -/
theorem run : θ_run defs (onTc (τ := τ) (main (F := F))) ⟨m, fun _ => 0, ρ⟩ (fun r => (∀ c : Dev nD,
      r.2.mem ((c.tc : Thread nD τ).loc main_v0_0) = W4 m ρ c (Proc.devRef .tc main_v0_0)
      ∧ r.2.mem ((c.tc : Thread nD τ).loc main_v0_1) = W4 m ρ c (Proc.devRef .tc main_v0_1)
      ∧ r.2.mem ((c.tc : Thread nD τ).loc main_v0_2) = W4 m ρ c (Proc.devRef .tc main_v0_2)
      ∧ r.2.mem ((c.tc : Thread nD τ).loc main_v0_3) = W4 m ρ c (Proc.devRef .tc main_v0_3)
      ∧ r.2.mem ((c.tc : Thread nD τ).loc main_v1_0) = W4 m ρ c (Proc.devRef .tc main_v1_0)
      ∧ r.2.mem ((c.tc : Thread nD τ).loc main_v1_1) = W4 m ρ c (Proc.devRef .tc main_v1_1)
      ∧ r.2.mem ((c.tc : Thread nD τ).loc main_v1_2) = W4 m ρ c (Proc.devRef .tc main_v1_2)
      ∧ r.2.mem ((c.tc : Thread nD τ).loc main_v1_3) = W4 m ρ c (Proc.devRef .tc main_v1_3)
      ∧ r.2.mem ((c.tc : Thread nD τ).loc main_v2_0) = W4 m ρ c (Proc.devRef .tc main_v2_0)
      ∧ r.2.mem ((c.tc : Thread nD τ).loc main_v2_1) = W4 m ρ c (Proc.devRef .tc main_v2_1)
      ∧ r.2.mem ((c.tc : Thread nD τ).loc main_v2_2) = W4 m ρ c (Proc.devRef .tc main_v2_2)
      ∧ r.2.mem ((c.tc : Thread nD τ).loc main_v2_3) = W4 m ρ c (Proc.devRef .tc main_v2_3)
      ∧ r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_v3_2) = W4 m ρ c (Proc.devRef .tc main_v3_2)
      ∧ r.2.mem ((c.tc : Thread nD τ).loc main_v3_3) = W4 m ρ c (Proc.devRef .tc main_v3_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v0_0 (by decide)), h c _ (mem_uc main_v0_1 (by decide)), h c _ (mem_uc main_v0_2 (by decide)),
       h c _ (mem_uc main_v0_3 (by decide)), h c _ (mem_uc main_v1_0 (by decide)), h c _ (mem_uc main_v1_1 (by decide)),
       h c _ (mem_uc main_v1_2 (by decide)), h c _ (mem_uc main_v1_3 (by decide)), h c _ (mem_uc main_v2_0 (by decide)),
       h c _ (mem_uc main_v2_1 (by decide)), h c _ (mem_uc main_v2_2 (by decide)), h c _ (mem_uc main_v2_3 (by decide)),
       h c _ (mem_uc main_v3_0 (by decide)), h c _ (mem_uc main_v3_1 (by decide)), h c _ (mem_uc main_v3_2 (by decide)),
       h c _ (mem_uc main_v3_3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Launch

section Values

variable (m : (ℓ : Loc nD τ sig) → Buf (Elt Ideal) ℓ) (ρ : Dev nD → PrngReg) (c : Dev nD)

/-- An argument. -/
abbrev arg (a : Ref sig .tc) : Buf (Elt Ideal) ((c : Thread nD τ).loc a) := m ((c : Thread nD τ).loc a)

/-- An array the first call writes keeps its contents to the end; so for the second and the third. -/
theorem keep1 (b : Ref sig .tc) (h1 : ∀ w : Fin cfg1.W, Pipeline.arrRef spec1 w = b → (cfg1.win w).isOut = false)
    (h2 : ∀ w : Fin cfg2.W, Pipeline.arrRef spec2 w = b → (cfg2.win w).isOut = false)
    (h3 : ∀ w : Fin cfg3.W, Pipeline.arrRef spec3 w = b → (cfg3.win w).isOut = false) :
    W4 m ρ c (Proc.devRef .tc b) = W1 m ρ c (Proc.devRef .tc b) :=
  (W4_of m ρ c b h3).trans ((W3_of m ρ c b h2).trans (W2_of m ρ c b h1))

theorem keep2 (b : Ref sig .tc) (h2 : ∀ w : Fin cfg2.W, Pipeline.arrRef spec2 w = b → (cfg2.win w).isOut = false)
    (h3 : ∀ w : Fin cfg3.W, Pipeline.arrRef spec3 w = b → (cfg3.win w).isOut = false) :
    W4 m ρ c (Proc.devRef .tc b) = W2 m ρ c (Proc.devRef .tc b) :=
  (W4_of m ρ c b h3).trans (W3_of m ρ c b h2)

theorem results0 : W4 m ρ c (Proc.devRef .tc main_v0_0) = arg m c main_arg0
    ∧ W4 m ρ c (Proc.devRef .tc main_v0_1) = step (s := S2048x1408) (arg m c main_arg0) (arg m c main_arg1) (arg m c main_arg2) (arg m c main_arg3)
    ∧ W4 m ρ c (Proc.devRef .tc main_v0_2) = first (s := S2048x1408) (arg m c main_arg0) (arg m c main_arg2)
    ∧ W4 m ρ c (Proc.devRef .tc main_v0_3) = second (s := S2048x1408) (arg m c main_arg0) (arg m c main_arg3) :=
  ⟨(keep1 m ρ c main_v0_0 (by decide +kernel) (by decide +kernel) (by decide +kernel)).trans ((W1_arr m ρ c 4).trans (arr0_4 (V0 m ρ) c)),
   (keep1 m ρ c main_v0_1 (by decide +kernel) (by decide +kernel) (by decide +kernel)).trans ((W1_arr m ρ c 5).trans (arr0_5 (V0 m ρ) c)),
   (keep1 m ρ c main_v0_2 (by decide +kernel) (by decide +kernel) (by decide +kernel)).trans ((W1_arr m ρ c 6).trans (arr0_6 (V0 m ρ) c)),
   (keep1 m ρ c main_v0_3 (by decide +kernel) (by decide +kernel) (by decide +kernel)).trans ((W1_arr m ρ c 7).trans (arr0_7 (V0 m ρ) c))⟩

theorem results1 : W4 m ρ c (Proc.devRef .tc main_v1_0) = arg m c main_arg4
    ∧ W4 m ρ c (Proc.devRef .tc main_v1_1) = step (s := S512x2048) (arg m c main_arg4) (arg m c main_arg5) (arg m c main_arg6) (arg m c main_arg7)
    ∧ W4 m ρ c (Proc.devRef .tc main_v1_2) = first (s := S512x2048) (arg m c main_arg4) (arg m c main_arg6)
    ∧ W4 m ρ c (Proc.devRef .tc main_v1_3) = second (s := S512x2048) (arg m c main_arg4) (arg m c main_arg7) := by
  have hg := W1_args m ρ c main_arg4 (by decide)
  have hw := W1_args m ρ c main_arg5 (by decide)
  have hm := W1_args m ρ c main_arg6 (by decide)
  have hv := W1_args m ρ c main_arg7 (by decide)
  exact ⟨(keep2 m ρ c main_v1_0 (by decide +kernel) (by decide +kernel)).trans ((W2_arr m ρ c 4).trans ((arr1_4 (V1 m ρ) c).trans hg)),
    (keep2 m ρ c main_v1_1 (by decide +kernel) (by decide +kernel)).trans ((W2_arr m ρ c 5).trans ((arr1_5 (V1 m ρ) c).trans (step_args hg hw hm hv))),
    (keep2 m ρ c main_v1_2 (by decide +kernel) (by decide +kernel)).trans ((W2_arr m ρ c 6).trans ((arr1_6 (V1 m ρ) c).trans (congrArg₂ first hg hm))),
    (keep2 m ρ c main_v1_3 (by decide +kernel) (by decide +kernel)).trans ((W2_arr m ρ c 7).trans ((arr1_7 (V1 m ρ) c).trans (congrArg₂ second hg hv)))⟩

theorem results2 : W4 m ρ c (Proc.devRef .tc main_v2_0) = arg m c main_arg8
    ∧ W4 m ρ c (Proc.devRef .tc main_v2_1) = step (s := S1408x2048) (arg m c main_arg8) (arg m c main_arg9) (arg m c main_arg10) (arg m c main_arg11)
    ∧ W4 m ρ c (Proc.devRef .tc main_v2_2) = first (s := S1408x2048) (arg m c main_arg8) (arg m c main_arg10)
    ∧ W4 m ρ c (Proc.devRef .tc main_v2_3) = second (s := S1408x2048) (arg m c main_arg8) (arg m c main_arg11) := by
  have hg := W2_args m ρ c main_arg8 (by decide)
  have hw := W2_args m ρ c main_arg9 (by decide)
  have hm := W2_args m ρ c main_arg10 (by decide)
  have hv := W2_args m ρ c main_arg11 (by decide)
  exact ⟨(W4_of m ρ c main_v2_0 (by decide +kernel)).trans ((W3_arr m ρ c 4).trans ((arr2_4 (V2 m ρ) c).trans hg)),
    (W4_of m ρ c main_v2_1 (by decide +kernel)).trans ((W3_arr m ρ c 5).trans ((arr2_5 (V2 m ρ) c).trans (step_args hg hw hm hv))),
    (W4_of m ρ c main_v2_2 (by decide +kernel)).trans ((W3_arr m ρ c 6).trans ((arr2_6 (V2 m ρ) c).trans (congrArg₂ first hg hm))),
    (W4_of m ρ c main_v2_3 (by decide +kernel)).trans ((W3_arr m ρ c 7).trans ((arr2_7 (V2 m ρ) c).trans (congrArg₂ second hg hv)))⟩

theorem results3 : W4 m ρ c (Proc.devRef .tc main_v3_0) = joined (arg m c main_arg12)
    ∧ W4 m ρ c (Proc.devRef .tc main_v3_1) = step (s := S1800x2048) (joined (arg m c main_arg12)) (arg m c main_arg13) (arg m c main_arg14) (arg m c main_arg15)
    ∧ W4 m ρ c (Proc.devRef .tc main_v3_2) = first (s := S1800x2048) (joined (arg m c main_arg12)) (arg m c main_arg14)
    ∧ W4 m ρ c (Proc.devRef .tc main_v3_3) = second (s := S1800x2048) (joined (arg m c main_arg12)) (arg m c main_arg15) := by
  have hg := congrArg joined (W3_args m ρ c main_arg12 (by decide))
  have hw := W3_args m ρ c main_arg13 (by decide)
  have hm := W3_args m ρ c main_arg14 (by decide)
  have hv := W3_args m ρ c main_arg15 (by decide)
  exact ⟨(W4_arr m ρ c 4).trans ((arr3_4 (V3 m ρ) c).trans hg), (W4_arr m ρ c 5).trans ((arr3_5 (V3 m ρ) c).trans (step_args hg hw hm hv)),
    (W4_arr m ρ c 6).trans ((arr3_6 (V3 m ρ) c).trans (congrArg₂ first hg hm)),
    (W4_arr m ρ c 7).trans ((arr3_7 (V3 m ρ) c).trans (congrArg₂ second hg hv))⟩

end Values

end Cert.Kernel6Ideal.Update

/-! ## The reference -/

namespace Cert.Reference6Ideal.Update

open Idealize.ShloMosaic Idealize.ShloMosaic.TcCoe Idealize.ShloMosaic.Tactic Cert.Reference6Ideal Cert.Reference6Ideal.Gen Cert.Ffn Cert.Update

variable {s : Shape} (h : S_.BroadcastsInDim s (![] : Fin 0 → Fin s.rank)) (g w m v : FVec Ideal s .f32)

theorem first_eq : addf (mulf (broadcastInDim s ![] h (constant S_ .f32 0x3F666666#32)) m) (mulf (broadcastInDim s ![] h (constant S_ .f32 0x3DCCCCCD#32)) g)
    = first g m := rfl

theorem second_eq : addf (mulf (broadcastInDim s ![] h (constant S_ .f32 0x3F7FBE77#32)) v)
    (mulf (broadcastInDim s ![] h (constant S_ .f32 0x3A83126F#32)) (mulf g g)) = second g v := rfl

theorem step_eq : mulf (broadcastInDim s ![] h (constant S_ .f32 0xBA83126F#32)) (addf
    (Host.divf (Host.divf (addf (mulf (broadcastInDim s ![] h (constant S_ .f32 0x3F666666#32)) m) (mulf (broadcastInDim s ![] h (constant S_ .f32 0x3DCCCCCD#32)) g))
        (broadcastInDim s ![] h (constant S_ .f32 0x3F26BD02#32)))
      (addf (Host.sqrt (Host.divf (addf (mulf (broadcastInDim s ![] h (constant S_ .f32 0x3F7FBE77#32)) v)
          (mulf (broadcastInDim s ![] h (constant S_ .f32 0x3A83126F#32)) (mulf g g))) (broadcastInDim s ![] h (constant S_ .f32 0x3C231ACC#32))))
        (broadcastInDim s ![] h (constant S_ .f32 0x322BCC77#32))))
    (mulf (broadcastInDim s ![] h (constant S_ .f32 0x3C23D70A#32)) w)) = step g w m v := rfl

/-- The gradient of the input projection's weight in the weight's layout. -/
theorem joined_eq (g : FVec Ideal S8x1800x256 .bf16) : (shapeCast S1800x2048 (transpose S1800x8x256 [1, 0, 2] (extf .f32 g bitsLt_bf16_f32)
    transposes_S8x1800x256_S1800x8x256_1_0_2) shapeCasts_S1800x8x256_S1800x2048 : FVec Ideal S1800x2048 .f32) = joined g := by
  funext z
  obtain ⟨r, q, rfl⟩ := eq_ix2 (m := 1800) (n := 2048) z
  pointwise
  rfl

end Cert.Reference6Ideal.Update

namespace Cert.Update

open Idealize.ShloMosaic Idealize.ShloMosaic.TcCoe Idealize.ShloMosaic.Tactic Idealize.SL.Sem Cert.Kernel6Ideal Cert.Kernel6Ideal.Update
open Cert.Reference6Ideal.Update (first_eq second_eq step_eq joined_eq)

theorem frame_ri : Cert.quiescent_Reference6Ideal := fun m ρ _ =>
  (θ_run Cert.Reference6Ideal.defs _ _).mono (fun r h =>
    ⟨fun c => (h c).2.2.2.2.2.2.2.2.2.2.2.2.2.2.2.2, sem_eq_zero_of_no_sems (by decide) r.2⟩) (Cert.Reference6Ideal.Value.run (F := Ideal) m ρ)

/-- The sixteen results agree. -/
theorem algebraic : Cert.algebraic_Kernel6Ideal_Reference6Ideal := by
  intro m ρ m' ρ' _ hag
  refine ⟨fun c => arg m c main_arg0, fun c => step (s := S2048x1408) (arg m c main_arg0) (arg m c main_arg1) (arg m c main_arg2) (arg m c main_arg3),
    fun c => first (s := S2048x1408) (arg m c main_arg0) (arg m c main_arg2), fun c => second (s := S2048x1408) (arg m c main_arg0) (arg m c main_arg3),
    fun c => arg m c main_arg4, fun c => step (s := S512x2048) (arg m c main_arg4) (arg m c main_arg5) (arg m c main_arg6) (arg m c main_arg7),
    fun c => first (s := S512x2048) (arg m c main_arg4) (arg m c main_arg6), fun c => second (s := S512x2048) (arg m c main_arg4) (arg m c main_arg7),
    fun c => arg m c main_arg8, fun c => step (s := S1408x2048) (arg m c main_arg8) (arg m c main_arg9) (arg m c main_arg10) (arg m c main_arg11),
    fun c => first (s := S1408x2048) (arg m c main_arg8) (arg m c main_arg10), fun c => second (s := S1408x2048) (arg m c main_arg8) (arg m c main_arg11),
    fun c => joined (arg m c main_arg12), fun c => step (s := S1800x2048) (joined (arg m c main_arg12)) (arg m c main_arg13) (arg m c main_arg14) (arg m c main_arg15),
    fun c => first (s := S1800x2048) (joined (arg m c main_arg12)) (arg m c main_arg14), fun c => second (s := S1800x2048) (joined (arg m c main_arg12)) (arg m c main_arg15), ?_, ?_⟩
  · refine (θ_run Cert.Kernel6Ideal.defs _ _).mono (fun r h c => ?_) (Cert.Kernel6Ideal.Update.run m ρ)
    obtain ⟨h0, h1, h2, h3, h4, h5, h6, h7, h8, h9, h10, h11, h12, h13, h14, h15, hk⟩ := h c
    obtain ⟨e0, e1, e2, e3⟩ := results0 m ρ c
    obtain ⟨e4, e5, e6, e7⟩ := results1 m ρ c
    obtain ⟨e8, e9, e10, e11⟩ := results2 m ρ c
    obtain ⟨e12, e13, e14, e15⟩ := results3 m ρ c
    exact ⟨h0.trans e0, h1.trans e1, h2.trans e2, h3.trans e3, h4.trans e4, h5.trans e5, h6.trans e6, h7.trans e7, h8.trans e8,
      h9.trans e9, h10.trans e10, h11.trans e11, h12.trans e12, h13.trans e13, h14.trans e14, h15.trans e15, hk⟩
  · refine (θ_run Cert.Reference6Ideal.defs _ _).mono (fun r h c => ?_) (Cert.Reference6Ideal.Value.run (F := Ideal) m' ρ')
    obtain ⟨h0, h1, h2, h3, h4, h5, h6, h7, h8, h9, h10, h11, h12, h13, h14, h15, hk⟩ := h c
    obtain ⟨a0, a1, a2, a3, a4, a5, a6, a7, a8, a9, a10, a11, a12, a13, a14, a15⟩ := hag c
    have g := (joined_eq _).trans (congrArg joined a12)
    exact ⟨h0.trans a0, h1.trans ((step_eq _ _ _ _ _).trans (step_args a0 a1 a2 a3)), h2.trans ((first_eq _ _ _).trans (congrArg₂ first a0 a2)),
      h3.trans ((second_eq _ _ _).trans (congrArg₂ second a0 a3)),
      h4.trans a4, h5.trans ((step_eq _ _ _ _ _).trans (step_args a4 a5 a6 a7)), h6.trans ((first_eq _ _ _).trans (congrArg₂ first a4 a6)),
      h7.trans ((second_eq _ _ _).trans (congrArg₂ second a4 a7)),
      h8.trans a8, h9.trans ((step_eq _ _ _ _ _).trans (step_args a8 a9 a10 a11)),
      h10.trans ((first_eq _ _ _).trans (congrArg₂ first a8 a10)), h11.trans ((second_eq _ _ _).trans (congrArg₂ second a8 a11)),
      h12.trans g, h13.trans ((step_eq _ _ _ _ _).trans (step_args g a13 a14 a15)),
      h14.trans ((first_eq _ _ _).trans (congrArg₂ first g a14)), h15.trans ((second_eq _ _ _).trans (congrArg₂ second g a15)), hk⟩

end Cert.Update

end
-- ==== Proof.lean ====
/- The certificate of six parts of the training step: the gradient of the gated delta rule with respect to its values (here), the
   feed-forward layer with the gradients of its input and last matrix (Proof/FfnValue.lean), the gradient of a matrix that enters the
   layer (Proof/GateValue.lean), the output and the input projection with their gradients (Proof/OutValue.lean,
   Proof/InValue.lean), and the optimiser's step of the large weights (Proof/UpdateValue.lean).

   Of the first. The frames: the kernel's are the generated ones; the reference declares no semaphore and its run (Proof/RefRun.lean) keeps the
   arguments. The value claim: in the columns from 2048 on, an entry of the result is head h's gradient of v at row i of chunk n
   and column e. The kernel's is the recurrence of Proof/Spec.lean over the chunks from the last to the first
   (Proof/KernelValue.lean), the reference's the same (Proof/RefValue.lean), and both are given the same arguments. -/
module

public import proofs.«01_k».proof.Defs
public import proofs.«01_k».proof.Proof.Gen.Kernel.Frame
public import proofs.«01_k».proof.Proof.KernelValue
public import proofs.«01_k».proof.Proof.RefValue
public import Idealize.ShloMosaic.Lib.ReduceAll
public import Idealize.ShloMosaic.Lib.WordCmp
public import Idealize.ShloMosaic.Adequacy
public import Idealize.ShloMosaic.Init
public import proofs.«01_k».proof.Proof.Gen.Kernel2.Frame
public import proofs.«01_k».proof.Proof.Gen.Kernel2Ideal.Frame
public import proofs.«01_k».proof.Proof.FfnValue
public import proofs.«01_k».proof.Proof.Gen.Kernel3.Frame
public import proofs.«01_k».proof.Proof.Gen.Kernel3Ideal.Frame
public import proofs.«01_k».proof.Proof.GateValue
public import proofs.«01_k».proof.Proof.Gen.Kernel4.Frame
public import proofs.«01_k».proof.Proof.Gen.Kernel4Ideal.Frame
public import proofs.«01_k».proof.Proof.OutValue
public import proofs.«01_k».proof.Proof.Gen.Kernel5.Frame
public import proofs.«01_k».proof.Proof.Gen.Kernel5Ideal.Frame
public import proofs.«01_k».proof.Proof.InValue
public import proofs.«01_k».proof.Proof.Gen.Kernel6.Frame
public import proofs.«01_k».proof.Proof.Gen.Kernel6Ideal.Frame
public import proofs.«01_k».proof.Proof.UpdateValue

@[expose] public section

noncomputable section

namespace Cert.Proof

open Idealize.ShloMosaic Idealize.ShloMosaic.TcCoe Idealize.ShloMosaic.Tactic Idealize.SL.Sem Cert.Spec

/-- The shape facts of the precondition. -/
theorem facts_pre : Cert.Pre_finite_decay.Facts where
  slices_S8256x128_S8256x8_0_0 := by decide
  bcast_S_S8256x8 := by decide
  reducesTo_S8256x8_S_d0_1 := by decide
  h_S_ := by decide

/-- The shape fact of the mask. -/
theorem facts_on : Cert.On_value_columns.Facts where
  bcast_S_S8256x3072 := by decide

/-- The precondition read at an entry: no log decay is plus infinity. -/
theorem finite [Cert.Pre_finite_decay.Facts] (m : (ℓ : Loc Cert.KernelIdeal.nD Cert.KernelIdeal.τ Cert.KernelIdeal.sig) → Buf (Elt Ideal) ℓ)
    (h : Cert.Pre_KernelIdeal_finite_decay m) (c : Dev Cert.KernelIdeal.nD) : Cert.KernelIdeal.Result.Finite m c := by
  intro r hd
  have e := congrFun (h c) (fun a => a.elim0)
  unfold Cert.Pre_finite_decay.fn at e
  dsimp only at e
  haveI : Subsingleton Cert.Pre_finite_decay.S_.Idx := ⟨fun a b => funext fun x => x.elim0⟩
  have e1 := Host.reduce_andi_all _ _ _ _ _ e (ix2 r hd : Cert.Pre_finite_decay.S8256x8.Idx)
  intro htop
  pointwise at e1
  rw [htop] at e1
  simp at e1

/-- The mask read at an index: the columns from 2048 on. -/
theorem masked [Cert.On_value_columns.Facts] (x0 : FVec Ideal Cert.On_value_columns.S8256x3072 .f32) (x1 : FVec Ideal Cert.On_value_columns.S8256x128 .f32)
    (x2 : FVec Ideal Cert.On_value_columns.S129x8x128x128 .f32) (x3 : FVec Ideal Cert.On_value_columns.S8256x1024 .f32) (r : Fin 8256) (k : Fin 3072)
    (h : Cert.On_value_columns.fn (F := Ideal) x0 x1 x2 x3 (ix2 r k) = 1#1) : 2048 ≤ k.val := by
  by_contra hk
  unfold Cert.On_value_columns.fn at h
  dsimp only at h
  pointwise at h
  rw [show (2048#32) = BitVec.ofNat 32 2048 from rfl, WordCmp.cmpi_sge_ofNat (by omega) (by omega), decide_eq_false (by omega)] at h
  simp at h

theorem column_lt (h : Fin 8) (e : Fin 128) : 2048 + (h.val * 128 + e.val) < 3072 := by omega

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Loop.run (F := Ideal) m ρ)

/-- The two results agree in the columns of v. -/
theorem algebraic [Cert.Pre_finite_decay.Facts] [Cert.On_value_columns.Facts] : Cert.algebraic_KernelIdeal_ReferenceIdeal_on_value_columns_pre_finite_decay := by
  intro m ρ m' ρ' hpre hag
  refine ⟨fun c => (Cert.KernelIdeal.Gen.dats m 0 c).arrAt 5 Cert.KernelIdeal.cfg0.N, ?_, ?_⟩
  · exact (θ_run Cert.KernelIdeal.defs _ _).mono (fun r h c => ⟨fun i _ => congrFun (h c).1 i, (h c).2.2⟩)
      (Cert.KernelIdeal.Value.run_blocks (F := Ideal) m ρ)
  · refine (θ_run Cert.ReferenceIdeal.defs _ _).mono (fun r h c => ⟨fun i hi => ?_, (h c).2⟩) (Cert.ReferenceIdeal.Loop.run (F := Ideal) m' ρ')
    refine (congrFun (h c).1 i).trans ?_
    have hfin := finite m hpre c
    obtain ⟨a0, a1, _, a3⟩ := hag c
    have hchunk : ∀ (h : Fin 8) (n : Fin 129), Cert.ReferenceIdeal.Result.chunkOf m' c h n = Cert.KernelIdeal.Result.chunkOf m c h n := by
      intro h n
      show Cert.ReferenceIdeal.Stage.chunk _ _ _ h n = Cert.ReferenceIdeal.Stage.chunk _ _ _ h n
      rw [a0, a1, a3]
    have hchunks : ∀ h : Fin 8, Cert.ReferenceIdeal.Result.chunks m' c h = Cert.KernelIdeal.Result.chunks m c h := fun h => funext fun q => hchunk h _
    obtain ⟨r, k, rfl⟩ : ∃ (r : Fin 8256) (k : Fin 3072), i = ix2 r k := ⟨i 0, i 1, funext fun a => match a with
      | ⟨0, _⟩ => rfl
      | ⟨1, _⟩ => rfl⟩
    have hk := masked _ _ _ _ r k hi
    obtain ⟨n, j, rfl⟩ : ∃ (n : Fin 129) (j : Fin 64), r = Cert.ReferenceIdeal.Stage.rowOf n j :=
      ⟨⟨r.val / 64, by omega⟩, ⟨r.val % 64, by omega⟩, Fin.ext (by show r.val = r.val / 64 * 64 + r.val % 64; omega)⟩
    obtain ⟨h, e, he⟩ : ∃ (h : Fin 8) (e : Fin 128), k.val = 2048 + (h.val * 128 + e.val) :=
      ⟨⟨(k.val - 2048) / 128, by omega⟩, ⟨(k.val - 2048) % 128, by omega⟩,
        by show k.val = 2048 + ((k.val - 2048) / 128 * 128 + (k.val - 2048) % 128); omega⟩
    rw [show k = (⟨2048 + (h.val * 128 + e.val), column_lt h e⟩ : Fin 3072) from Fin.ext he]
    rw [Cert.ReferenceIdeal.Result.value, hchunk, hchunks]
    exact (Cert.KernelIdeal.Result.value hfin h n j e).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, facts_pre, Cert.Ffn.facts_pre, facts_on,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, fun m ρ _ => Cert.Kernel2Ideal.Gen.frame m ρ,
  Cert.Ffn.frame_ri, fun m ρ _ => Cert.Ffn.frame_ri m ρ trivial,
  fun m ρ _ => Cert.Kernel3.Gen.frame m ρ, fun m ρ _ => Cert.Kernel3Ideal.Gen.frame m ρ, Cert.Gate.frame_ri,
  fun m ρ _ => Cert.Kernel4.Gen.frame m ρ, fun m ρ _ => Cert.Kernel4Ideal.Gen.frame m ρ, Cert.Out.frame_ri,
  fun m ρ _ => Cert.Kernel5.Gen.frame m ρ, fun m ρ _ => Cert.Kernel5Ideal.Gen.frame m ρ, Cert.In.frame_ri,
  fun m ρ _ => Cert.Kernel6.Gen.frame m ρ, fun m ρ _ => Cert.Kernel6Ideal.Gen.frame m ρ, Cert.Update.frame_ri,
  trivial, @algebraic facts_pre facts_on, trivial, @Cert.Ffn.algebraic Cert.Ffn.facts_pre, trivial, Cert.Gate.algebraic,
  trivial, Cert.Out.algebraic, trivial, Cert.In.algebraic, trivial, Cert.Update.algebraic⟩

end Cert.Proof

end
